-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S1024x1024 : Shape := ⟨2, ![1024, 1024]⟩
abbrev S2x1024x1024 : Shape := ⟨3, ![2, 1024, 1024]⟩
abbrev S16 : Shape := ⟨1, ![16]⟩
abbrev S4 : Shape := ⟨1, ![4]⟩
abbrev S6 : Shape := ⟨1, ![6]⟩
abbrev S3 : Shape := ⟨1, ![3]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩
abbrev S1x1024x1024 : Shape := ⟨3, ![1, 1024, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S8192x1024, .bf16⟩
  | .local _ .vmem, ⟨0, _⟩ => ⟨S4096x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 151 → Bool
  | ⟨i, _⟩ => dmaSemScopedAt i

abbrev sig : RefSig :=
  (ofTc nBuf bufTy 1 151 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_200 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_199 : BitVec 32 := 16#32
  let v438 : BitVec 32 := Scalar.muli v393 c16_i32_199
  let v439 : BitVec 32 := Scalar.addi c0_i32_200 v438
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_201 : BitVec 32 := 4#32
  let v440 : BitVec 32 := Scalar.muli v5 c4_i32_201
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v442 : BitVec 32 := Scalar.muli v8 c1_i32_202
  let v443 : BitVec 32 := Scalar.addi v441 v442
  v443.toNat
def k0_dev2 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_204 : BitVec 32 := 16#32
  let v444 : BitVec 32 := Scalar.muli v2 c16_i32_204
  let v445 : BitVec 32 := Scalar.addi c0_i32_205 v444
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_206 : BitVec 32 := 4#32
  let v446 : BitVec 32 := Scalar.muli v389 c4_i32_206
  let v447 : BitVec 32 := Scalar.addi v445 v446
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_207 : BitVec 32 := 1#32
  let v448 : BitVec 32 := Scalar.muli v392 c1_i32_207
  let v449 : BitVec 32 := Scalar.addi v447 v448
  v449.toNat
def k0_dev3 (d0 : Dev nD) : Nat :=
  let c0_i32_210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_209 : BitVec 32 := 16#32
  let v450 : BitVec 32 := Scalar.muli v2 c16_i32_209
  let v451 : BitVec 32 := Scalar.addi c0_i32_210 v450
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_211 : BitVec 32 := 4#32
  let v452 : BitVec 32 := Scalar.muli v245 c4_i32_211
  let v453 : BitVec 32 := Scalar.addi v451 v452
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_212 : BitVec 32 := 1#32
  let v454 : BitVec 32 := Scalar.muli v248 c1_i32_212
  let v455 : BitVec 32 := Scalar.addi v453 v454
  v455.toNat
def k0_off1 (d0 : Dev nD) (c0_i32_216 : BitVec 32) : Fin 2 → Nat :=
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let c1024_i32 : BitVec 32 := 1024#32
  let v459 : BitVec 32 := Scalar.muli v403 c1024_i32
  let v460 : BitVec 32 := Scalar.addi v459 c0_i32_216
  let c0_i32_221 : BitVec 32 := 0#32
  ![v460.toNat, 0]
def k0_off2 (d0 : Dev nD) (c2_i32_184 : BitVec 32) : Fin 2 → Nat :=
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let v415 : BitVec 32 := Scalar.addi v403 c2_i32_184
  let c4_i32_185 : BitVec 32 := 4#32
  let c0_i32_186 : BitVec 32 := 0#32
  let v416 : BitVec 1 := Scalar.cmpi .eq c4_i32_185 c0_i32_186
  let c1_i32_187 : BitVec 32 := 1#32
  let v417 : BitVec 32 := Scalar.select v416 c1_i32_187 c4_i32_185
  let v418 : BitVec 32 := Scalar.remsi v415 v417
  let c0_i32_189 : BitVec 32 := 0#32
  let v420 : BitVec 1 := Scalar.cmpi .slt v418 c0_i32_189
  let c0_i32_190 : BitVec 32 := 0#32
  let v421 : BitVec 1 := Scalar.cmpi .slt v417 c0_i32_190
  let v422 : BitVec 1 := Scalar.xori v420 v421
  let c0_i32_188 : BitVec 32 := 0#32
  let v419 : BitVec 1 := Scalar.cmpi .ne v418 c0_i32_188
  let v423 : BitVec 1 := Scalar.andi v422 v419
  let v424 : BitVec 32 := Scalar.addi v418 v417
  let v425 : BitVec 32 := Scalar.select v423 v424 v418
  let c1024_i32_312 : BitVec 32 := 1024#32
  let v571 : BitVec 32 := Scalar.muli v425 c1024_i32_312
  let c0_i32_317 : BitVec 32 := 0#32
  ![v571.toNat, 0]
def k0_off3 (d0 : Dev nD) (c0_i32_326 : BitVec 32) : Fin 2 → Nat :=
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let c1024_i32_325 : BitVec 32 := 1024#32
  let v585 : BitVec 32 := Scalar.muli v403 c1024_i32_325
  let v586 : BitVec 32 := Scalar.addi v585 c0_i32_326
  let v587 : Index := Scalar.indexCast v586
  let c0_327 : Index := 0#32
  ![v587.toNat, 0]
def k0_dev4 (d0 : Dev nD) : Nat :=
  let c0_i32_333 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_332 : BitVec 32 := 16#32
  let v593 : BitVec 32 := Scalar.muli v393 c16_i32_332
  let v594 : BitVec 32 := Scalar.addi c0_i32_333 v593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_334 : BitVec 32 := 4#32
  let v595 : BitVec 32 := Scalar.muli v5 c4_i32_334
  let v596 : BitVec 32 := Scalar.addi v594 v595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v597 : BitVec 32 := Scalar.muli v8 c1_i32_335
  let v598 : BitVec 32 := Scalar.addi v596 v597
  v598.toNat
def k0_dev5 (d0 : Dev nD) : Nat :=
  let c0_i32_354 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_353 : BitVec 32 := 16#32
  let v621 : BitVec 32 := Scalar.muli v393 c16_i32_353
  let v622 : BitVec 32 := Scalar.addi c0_i32_354 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_355 : BitVec 32 := 4#32
  let v623 : BitVec 32 := Scalar.muli v5 c4_i32_355
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v625 : BitVec 32 := Scalar.muli v8 c1_i32_356
  let v626 : BitVec 32 := Scalar.addi v624 v625
  v626.toNat
def k0_dev6 (d0 : Dev nD) : Nat :=
  let c0_i32_375 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_374 : BitVec 32 := 16#32
  let v649 : BitVec 32 := Scalar.muli v393 c16_i32_374
  let v650 : BitVec 32 := Scalar.addi c0_i32_375 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v651 : BitVec 32 := Scalar.muli v5 c4_i32_376
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v653 : BitVec 32 := Scalar.muli v8 c1_i32_377
  let v654 : BitVec 32 := Scalar.addi v652 v653
  v654.toNat
def k0_dev7 (d0 : Dev nD) : Nat :=
  let c0_i32_396 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_395 : BitVec 32 := 16#32
  let v677 : BitVec 32 := Scalar.muli v393 c16_i32_395
  let v678 : BitVec 32 := Scalar.addi c0_i32_396 v677
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_397 : BitVec 32 := 4#32
  let v679 : BitVec 32 := Scalar.muli v5 c4_i32_397
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v681 : BitVec 32 := Scalar.muli v8 c1_i32_398
  let v682 : BitVec 32 := Scalar.addi v680 v681
  v682.toNat
def k0_dev8 (d0 : Dev nD) : Nat :=
  let c0_i32_417 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_416 : BitVec 32 := 16#32
  let v705 : BitVec 32 := Scalar.muli v393 c16_i32_416
  let v706 : BitVec 32 := Scalar.addi c0_i32_417 v705
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_418 : BitVec 32 := 4#32
  let v707 : BitVec 32 := Scalar.muli v5 c4_i32_418
  let v708 : BitVec 32 := Scalar.addi v706 v707
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v709 : BitVec 32 := Scalar.muli v8 c1_i32_419
  let v710 : BitVec 32 := Scalar.addi v708 v709
  v710.toNat
def k0_dev9 (d0 : Dev nD) : Nat :=
  let c0_i32_438 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_437 : BitVec 32 := 16#32
  let v733 : BitVec 32 := Scalar.muli v393 c16_i32_437
  let v734 : BitVec 32 := Scalar.addi c0_i32_438 v733
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_439 : BitVec 32 := 4#32
  let v735 : BitVec 32 := Scalar.muli v5 c4_i32_439
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v737 : BitVec 32 := Scalar.muli v8 c1_i32_440
  let v738 : BitVec 32 := Scalar.addi v736 v737
  v738.toNat
def k0_dev10 (d0 : Dev nD) : Nat :=
  let c0_i32_459 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_458 : BitVec 32 := 16#32
  let v761 : BitVec 32 := Scalar.muli v393 c16_i32_458
  let v762 : BitVec 32 := Scalar.addi c0_i32_459 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_460 : BitVec 32 := 4#32
  let v763 : BitVec 32 := Scalar.muli v5 c4_i32_460
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_461 : BitVec 32 := 1#32
  let v765 : BitVec 32 := Scalar.muli v8 c1_i32_461
  let v766 : BitVec 32 := Scalar.addi v764 v765
  v766.toNat
def k0_dev11 (d0 : Dev nD) : Nat :=
  let c0_i32_480 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_479 : BitVec 32 := 16#32
  let v789 : BitVec 32 := Scalar.muli v393 c16_i32_479
  let v790 : BitVec 32 := Scalar.addi c0_i32_480 v789
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_481 : BitVec 32 := 4#32
  let v791 : BitVec 32 := Scalar.muli v5 c4_i32_481
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let v793 : BitVec 32 := Scalar.muli v8 c1_i32_482
  let v794 : BitVec 32 := Scalar.addi v792 v793
  v794.toNat
def k0_dev12 (d0 : Dev nD) : Nat :=
  let c0_i32_501 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_500 : BitVec 32 := 16#32
  let v817 : BitVec 32 := Scalar.muli v393 c16_i32_500
  let v818 : BitVec 32 := Scalar.addi c0_i32_501 v817
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_502 : BitVec 32 := 4#32
  let v819 : BitVec 32 := Scalar.muli v5 c4_i32_502
  let v820 : BitVec 32 := Scalar.addi v818 v819
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v821 : BitVec 32 := Scalar.muli v8 c1_i32_503
  let v822 : BitVec 32 := Scalar.addi v820 v821
  v822.toNat
def k0_dev13 (d0 : Dev nD) : Nat :=
  let c0_i32_522 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_521 : BitVec 32 := 16#32
  let v845 : BitVec 32 := Scalar.muli v393 c16_i32_521
  let v846 : BitVec 32 := Scalar.addi c0_i32_522 v845
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_523 : BitVec 32 := 4#32
  let v847 : BitVec 32 := Scalar.muli v5 c4_i32_523
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_524 : BitVec 32 := 1#32
  let v849 : BitVec 32 := Scalar.muli v8 c1_i32_524
  let v850 : BitVec 32 := Scalar.addi v848 v849
  v850.toNat
def k0_dev14 (d0 : Dev nD) : Nat :=
  let c0_i32_543 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_542 : BitVec 32 := 16#32
  let v873 : BitVec 32 := Scalar.muli v393 c16_i32_542
  let v874 : BitVec 32 := Scalar.addi c0_i32_543 v873
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_544 : BitVec 32 := 4#32
  let v875 : BitVec 32 := Scalar.muli v5 c4_i32_544
  let v876 : BitVec 32 := Scalar.addi v874 v875
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_545 : BitVec 32 := 1#32
  let v877 : BitVec 32 := Scalar.muli v8 c1_i32_545
  let v878 : BitVec 32 := Scalar.addi v876 v877
  v878.toNat
def k0_dev15 (d0 : Dev nD) : Nat :=
  let c0_i32_564 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_563 : BitVec 32 := 16#32
  let v901 : BitVec 32 := Scalar.muli v393 c16_i32_563
  let v902 : BitVec 32 := Scalar.addi c0_i32_564 v901
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_565 : BitVec 32 := 4#32
  let v903 : BitVec 32 := Scalar.muli v5 c4_i32_565
  let v904 : BitVec 32 := Scalar.addi v902 v903
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v905 : BitVec 32 := Scalar.muli v8 c1_i32_566
  let v906 : BitVec 32 := Scalar.addi v904 v905
  v906.toNat
def k0_dev16 (d0 : Dev nD) : Nat :=
  let c0_i32_585 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_584 : BitVec 32 := 16#32
  let v929 : BitVec 32 := Scalar.muli v393 c16_i32_584
  let v930 : BitVec 32 := Scalar.addi c0_i32_585 v929
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_586 : BitVec 32 := 4#32
  let v931 : BitVec 32 := Scalar.muli v5 c4_i32_586
  let v932 : BitVec 32 := Scalar.addi v930 v931
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v933 : BitVec 32 := Scalar.muli v8 c1_i32_587
  let v934 : BitVec 32 := Scalar.addi v932 v933
  v934.toNat
def k0_dev17 (d0 : Dev nD) : Nat :=
  let c0_i32_606 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_605 : BitVec 32 := 16#32
  let v957 : BitVec 32 := Scalar.muli v393 c16_i32_605
  let v958 : BitVec 32 := Scalar.addi c0_i32_606 v957
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_607 : BitVec 32 := 4#32
  let v959 : BitVec 32 := Scalar.muli v5 c4_i32_607
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_608 : BitVec 32 := 1#32
  let v961 : BitVec 32 := Scalar.muli v8 c1_i32_608
  let v962 : BitVec 32 := Scalar.addi v960 v961
  v962.toNat
def k0_dev18 (d0 : Dev nD) : Nat :=
  let c0_i32_627 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_626 : BitVec 32 := 16#32
  let v985 : BitVec 32 := Scalar.muli v393 c16_i32_626
  let v986 : BitVec 32 := Scalar.addi c0_i32_627 v985
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_628 : BitVec 32 := 4#32
  let v987 : BitVec 32 := Scalar.muli v5 c4_i32_628
  let v988 : BitVec 32 := Scalar.addi v986 v987
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_629 : BitVec 32 := 1#32
  let v989 : BitVec 32 := Scalar.muli v8 c1_i32_629
  let v990 : BitVec 32 := Scalar.addi v988 v989
  v990.toNat
def k0_dev19 (d0 : Dev nD) : Nat :=
  let c0_i32_648 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_647 : BitVec 32 := 16#32
  let v1013 : BitVec 32 := Scalar.muli v393 c16_i32_647
  let v1014 : BitVec 32 := Scalar.addi c0_i32_648 v1013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_649 : BitVec 32 := 4#32
  let v1015 : BitVec 32 := Scalar.muli v5 c4_i32_649
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_650 : BitVec 32 := 1#32
  let v1017 : BitVec 32 := Scalar.muli v8 c1_i32_650
  let v1018 : BitVec 32 := Scalar.addi v1016 v1017
  v1018.toNat
def k0_off4 (d0 : Dev nD) (c2_i32_184 : BitVec 32) : Fin 2 → Nat :=
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let v415 : BitVec 32 := Scalar.addi v403 c2_i32_184
  let c4_i32_185 : BitVec 32 := 4#32
  let c0_i32_186 : BitVec 32 := 0#32
  let v416 : BitVec 1 := Scalar.cmpi .eq c4_i32_185 c0_i32_186
  let c1_i32_187 : BitVec 32 := 1#32
  let v417 : BitVec 32 := Scalar.select v416 c1_i32_187 c4_i32_185
  let v418 : BitVec 32 := Scalar.remsi v415 v417
  let c0_i32_189 : BitVec 32 := 0#32
  let v420 : BitVec 1 := Scalar.cmpi .slt v418 c0_i32_189
  let c0_i32_190 : BitVec 32 := 0#32
  let v421 : BitVec 1 := Scalar.cmpi .slt v417 c0_i32_190
  let v422 : BitVec 1 := Scalar.xori v420 v421
  let c0_i32_188 : BitVec 32 := 0#32
  let v419 : BitVec 1 := Scalar.cmpi .ne v418 c0_i32_188
  let v423 : BitVec 1 := Scalar.andi v422 v419
  let v424 : BitVec 32 := Scalar.addi v418 v417
  let v425 : BitVec 32 := Scalar.select v423 v424 v418
  let c1024_i32_667 : BitVec 32 := 1024#32
  let v1039 : BitVec 32 := Scalar.muli v425 c1024_i32_667
  let v1040 : Index := Scalar.indexCast v1039
  let c0_668 : Index := 0#32
  ![v1040.toNat, 0]
def k0_off5 (d0 : Dev nD) (c768_i32_670 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v456 : BitVec 32 := Scalar.muli v2 c4096_i32
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let c2_i32_184 : BitVec 32 := 2#32
  let v415 : BitVec 32 := Scalar.addi v403 c2_i32_184
  let c4_i32_185 : BitVec 32 := 4#32
  let c0_i32_186 : BitVec 32 := 0#32
  let v416 : BitVec 1 := Scalar.cmpi .eq c4_i32_185 c0_i32_186
  let c1_i32_187 : BitVec 32 := 1#32
  let v417 : BitVec 32 := Scalar.select v416 c1_i32_187 c4_i32_185
  let v418 : BitVec 32 := Scalar.remsi v415 v417
  let c0_i32_189 : BitVec 32 := 0#32
  let v420 : BitVec 1 := Scalar.cmpi .slt v418 c0_i32_189
  let c0_i32_190 : BitVec 32 := 0#32
  let v421 : BitVec 1 := Scalar.cmpi .slt v417 c0_i32_190
  let v422 : BitVec 1 := Scalar.xori v420 v421
  let c0_i32_188 : BitVec 32 := 0#32
  let v419 : BitVec 1 := Scalar.cmpi .ne v418 c0_i32_188
  let v423 : BitVec 1 := Scalar.andi v422 v419
  let v424 : BitVec 32 := Scalar.addi v418 v417
  let v425 : BitVec 32 := Scalar.select v423 v424 v418
  let c1024_i32_669 : BitVec 32 := 1024#32
  let v1044 : BitVec 32 := Scalar.muli v425 c1024_i32_669
  let v1045 : BitVec 32 := Scalar.addi v1044 c768_i32_670
  let v1046 : BitVec 32 := Scalar.addi v456 v1045
  let c0_i32_677 : BitVec 32 := 0#32
  ![v1046.toNat, 0]
def k0_off6 (d0 : Dev nD) (c768_i32_670 : BitVec 32) : Fin 2 → Nat :=
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let c2_i32_184 : BitVec 32 := 2#32
  let v415 : BitVec 32 := Scalar.addi v403 c2_i32_184
  let c4_i32_185 : BitVec 32 := 4#32
  let c0_i32_186 : BitVec 32 := 0#32
  let v416 : BitVec 1 := Scalar.cmpi .eq c4_i32_185 c0_i32_186
  let c1_i32_187 : BitVec 32 := 1#32
  let v417 : BitVec 32 := Scalar.select v416 c1_i32_187 c4_i32_185
  let v418 : BitVec 32 := Scalar.remsi v415 v417
  let c0_i32_189 : BitVec 32 := 0#32
  let v420 : BitVec 1 := Scalar.cmpi .slt v418 c0_i32_189
  let c0_i32_190 : BitVec 32 := 0#32
  let v421 : BitVec 1 := Scalar.cmpi .slt v417 c0_i32_190
  let v422 : BitVec 1 := Scalar.xori v420 v421
  let c0_i32_188 : BitVec 32 := 0#32
  let v419 : BitVec 1 := Scalar.cmpi .ne v418 c0_i32_188
  let v423 : BitVec 1 := Scalar.andi v422 v419
  let v424 : BitVec 32 := Scalar.addi v418 v417
  let v425 : BitVec 32 := Scalar.select v423 v424 v418
  let c1024_i32_669 : BitVec 32 := 1024#32
  let v1044 : BitVec 32 := Scalar.muli v425 c1024_i32_669
  let v1045 : BitVec 32 := Scalar.addi v1044 c768_i32_670
  let c0_i32_678 : BitVec 32 := 0#32
  ![v1045.toNat, 0]
def k0_dev20 (d0 : Dev nD) : Nat :=
  let c0_i32_674 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_673 : BitVec 32 := 16#32
  let v1047 : BitVec 32 := Scalar.muli v393 c16_i32_673
  let v1048 : BitVec 32 := Scalar.addi c0_i32_674 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_675 : BitVec 32 := 4#32
  let v1049 : BitVec 32 := Scalar.muli v5 c4_i32_675
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_676 : BitVec 32 := 1#32
  let v1051 : BitVec 32 := Scalar.muli v8 c1_i32_676
  let v1052 : BitVec 32 := Scalar.addi v1050 v1051
  v1052.toNat
def k0_dev21 (d0 : Dev nD) : Nat :=
  let c0_i32_684 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_683 : BitVec 32 := 16#32
  let v1062 : BitVec 32 := Scalar.muli v393 c16_i32_683
  let v1063 : BitVec 32 := Scalar.addi c0_i32_684 v1062
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_685 : BitVec 32 := 4#32
  let v1064 : BitVec 32 := Scalar.muli v5 c4_i32_685
  let v1065 : BitVec 32 := Scalar.addi v1063 v1064
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_686 : BitVec 32 := 1#32
  let v1066 : BitVec 32 := Scalar.muli v8 c1_i32_686
  let v1067 : BitVec 32 := Scalar.addi v1065 v1066
  v1067.toNat
def k0_dev22 (d0 : Dev nD) : Nat :=
  let c0_i32_694 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_693 : BitVec 32 := 16#32
  let v1077 : BitVec 32 := Scalar.muli v393 c16_i32_693
  let v1078 : BitVec 32 := Scalar.addi c0_i32_694 v1077
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_695 : BitVec 32 := 4#32
  let v1079 : BitVec 32 := Scalar.muli v5 c4_i32_695
  let v1080 : BitVec 32 := Scalar.addi v1078 v1079
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_696 : BitVec 32 := 1#32
  let v1081 : BitVec 32 := Scalar.muli v8 c1_i32_696
  let v1082 : BitVec 32 := Scalar.addi v1080 v1081
  v1082.toNat
def k0_dev23 (d0 : Dev nD) : Nat :=
  let c0_i32_704 : BitVec 32 := 0#32
  let c1_i32_170 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_170 v2
  let c16_i32_703 : BitVec 32 := 16#32
  let v1092 : BitVec 32 := Scalar.muli v393 c16_i32_703
  let v1093 : BitVec 32 := Scalar.addi c0_i32_704 v1092
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_705 : BitVec 32 := 4#32
  let v1094 : BitVec 32 := Scalar.muli v5 c4_i32_705
  let v1095 : BitVec 32 := Scalar.addi v1093 v1094
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v1096 : BitVec 32 := Scalar.muli v8 c1_i32_706
  let v1097 : BitVec 32 := Scalar.addi v1095 v1096
  v1097.toNat
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v456 : BitVec 32 := Scalar.muli v2 c4096_i32
  let c0_i32_736 : BitVec 32 := 0#32
  ![v456.toNat, 0]
def k0_dev24 (d0 : Dev nD) : Nat :=
  let c0_i32_750 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_749 : BitVec 32 := 16#32
  let v1149 : BitVec 32 := Scalar.muli v2 c16_i32_749
  let v1150 : BitVec 32 := Scalar.addi c0_i32_750 v1149
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_751 : BitVec 32 := 4#32
  let v1151 : BitVec 32 := Scalar.muli v245 c4_i32_751
  let v1152 : BitVec 32 := Scalar.addi v1150 v1151
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_752 : BitVec 32 := 1#32
  let v1153 : BitVec 32 := Scalar.muli v248 c1_i32_752
  let v1154 : BitVec 32 := Scalar.addi v1152 v1153
  v1154.toNat
def k0_dev25 (d0 : Dev nD) : Nat :=
  let c0_i32_760 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_759 : BitVec 32 := 16#32
  let v1161 : BitVec 32 := Scalar.muli v2 c16_i32_759
  let v1162 : BitVec 32 := Scalar.addi c0_i32_760 v1161
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_761 : BitVec 32 := 4#32
  let v1163 : BitVec 32 := Scalar.muli v389 c4_i32_761
  let v1164 : BitVec 32 := Scalar.addi v1162 v1163
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_762 : BitVec 32 := 1#32
  let v1165 : BitVec 32 := Scalar.muli v392 c1_i32_762
  let v1166 : BitVec 32 := Scalar.addi v1164 v1165
  v1166.toNat
def k0_dev26 (d0 : Dev nD) : Nat :=
  let c0_i32_780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_779 : BitVec 32 := 16#32
  let v1183 : BitVec 32 := Scalar.muli v2 c16_i32_779
  let v1184 : BitVec 32 := Scalar.addi c0_i32_780 v1183
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_781 : BitVec 32 := 4#32
  let v1185 : BitVec 32 := Scalar.muli v245 c4_i32_781
  let v1186 : BitVec 32 := Scalar.addi v1184 v1185
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_782 : BitVec 32 := 1#32
  let v1187 : BitVec 32 := Scalar.muli v248 c1_i32_782
  let v1188 : BitVec 32 := Scalar.addi v1186 v1187
  v1188.toNat
def k0_dev27 (d0 : Dev nD) : Nat :=
  let c0_i32_790 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_789 : BitVec 32 := 16#32
  let v1195 : BitVec 32 := Scalar.muli v2 c16_i32_789
  let v1196 : BitVec 32 := Scalar.addi c0_i32_790 v1195
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_791 : BitVec 32 := 4#32
  let v1197 : BitVec 32 := Scalar.muli v389 c4_i32_791
  let v1198 : BitVec 32 := Scalar.addi v1196 v1197
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_792 : BitVec 32 := 1#32
  let v1199 : BitVec 32 := Scalar.muli v392 c1_i32_792
  let v1200 : BitVec 32 := Scalar.addi v1198 v1199
  v1200.toNat
def k0_dev28 (d0 : Dev nD) : Nat :=
  let c0_i32_810 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_809 : BitVec 32 := 16#32
  let v1217 : BitVec 32 := Scalar.muli v2 c16_i32_809
  let v1218 : BitVec 32 := Scalar.addi c0_i32_810 v1217
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_811 : BitVec 32 := 4#32
  let v1219 : BitVec 32 := Scalar.muli v245 c4_i32_811
  let v1220 : BitVec 32 := Scalar.addi v1218 v1219
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_812 : BitVec 32 := 1#32
  let v1221 : BitVec 32 := Scalar.muli v248 c1_i32_812
  let v1222 : BitVec 32 := Scalar.addi v1220 v1221
  v1222.toNat
def k0_dev29 (d0 : Dev nD) : Nat :=
  let c0_i32_820 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_819 : BitVec 32 := 16#32
  let v1229 : BitVec 32 := Scalar.muli v2 c16_i32_819
  let v1230 : BitVec 32 := Scalar.addi c0_i32_820 v1229
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_821 : BitVec 32 := 4#32
  let v1231 : BitVec 32 := Scalar.muli v389 c4_i32_821
  let v1232 : BitVec 32 := Scalar.addi v1230 v1231
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_822 : BitVec 32 := 1#32
  let v1233 : BitVec 32 := Scalar.muli v392 c1_i32_822
  let v1234 : BitVec 32 := Scalar.addi v1232 v1233
  v1234.toNat
def k0_dev30 (d0 : Dev nD) : Nat :=
  let c0_i32_840 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_839 : BitVec 32 := 16#32
  let v1251 : BitVec 32 := Scalar.muli v2 c16_i32_839
  let v1252 : BitVec 32 := Scalar.addi c0_i32_840 v1251
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_841 : BitVec 32 := 4#32
  let v1253 : BitVec 32 := Scalar.muli v245 c4_i32_841
  let v1254 : BitVec 32 := Scalar.addi v1252 v1253
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_842 : BitVec 32 := 1#32
  let v1255 : BitVec 32 := Scalar.muli v248 c1_i32_842
  let v1256 : BitVec 32 := Scalar.addi v1254 v1255
  v1256.toNat
def k0_dev31 (d0 : Dev nD) : Nat :=
  let c0_i32_850 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_849 : BitVec 32 := 16#32
  let v1263 : BitVec 32 := Scalar.muli v2 c16_i32_849
  let v1264 : BitVec 32 := Scalar.addi c0_i32_850 v1263
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_851 : BitVec 32 := 4#32
  let v1265 : BitVec 32 := Scalar.muli v389 c4_i32_851
  let v1266 : BitVec 32 := Scalar.addi v1264 v1265
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_852 : BitVec 32 := 1#32
  let v1267 : BitVec 32 := Scalar.muli v392 c1_i32_852
  let v1268 : BitVec 32 := Scalar.addi v1266 v1267
  v1268.toNat
def k0_dev32 (d0 : Dev nD) : Nat :=
  let c0_i32_870 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_869 : BitVec 32 := 16#32
  let v1285 : BitVec 32 := Scalar.muli v2 c16_i32_869
  let v1286 : BitVec 32 := Scalar.addi c0_i32_870 v1285
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_871 : BitVec 32 := 4#32
  let v1287 : BitVec 32 := Scalar.muli v245 c4_i32_871
  let v1288 : BitVec 32 := Scalar.addi v1286 v1287
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_872 : BitVec 32 := 1#32
  let v1289 : BitVec 32 := Scalar.muli v248 c1_i32_872
  let v1290 : BitVec 32 := Scalar.addi v1288 v1289
  v1290.toNat
def k0_dev33 (d0 : Dev nD) : Nat :=
  let c0_i32_880 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_879 : BitVec 32 := 16#32
  let v1297 : BitVec 32 := Scalar.muli v2 c16_i32_879
  let v1298 : BitVec 32 := Scalar.addi c0_i32_880 v1297
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_881 : BitVec 32 := 4#32
  let v1299 : BitVec 32 := Scalar.muli v389 c4_i32_881
  let v1300 : BitVec 32 := Scalar.addi v1298 v1299
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_882 : BitVec 32 := 1#32
  let v1301 : BitVec 32 := Scalar.muli v392 c1_i32_882
  let v1302 : BitVec 32 := Scalar.addi v1300 v1301
  v1302.toNat
def k0_dev34 (d0 : Dev nD) : Nat :=
  let c0_i32_900 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_899 : BitVec 32 := 16#32
  let v1319 : BitVec 32 := Scalar.muli v2 c16_i32_899
  let v1320 : BitVec 32 := Scalar.addi c0_i32_900 v1319
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_901 : BitVec 32 := 4#32
  let v1321 : BitVec 32 := Scalar.muli v245 c4_i32_901
  let v1322 : BitVec 32 := Scalar.addi v1320 v1321
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_902 : BitVec 32 := 1#32
  let v1323 : BitVec 32 := Scalar.muli v248 c1_i32_902
  let v1324 : BitVec 32 := Scalar.addi v1322 v1323
  v1324.toNat
def k0_dev35 (d0 : Dev nD) : Nat :=
  let c0_i32_910 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_909 : BitVec 32 := 16#32
  let v1331 : BitVec 32 := Scalar.muli v2 c16_i32_909
  let v1332 : BitVec 32 := Scalar.addi c0_i32_910 v1331
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_911 : BitVec 32 := 4#32
  let v1333 : BitVec 32 := Scalar.muli v389 c4_i32_911
  let v1334 : BitVec 32 := Scalar.addi v1332 v1333
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_912 : BitVec 32 := 1#32
  let v1335 : BitVec 32 := Scalar.muli v392 c1_i32_912
  let v1336 : BitVec 32 := Scalar.addi v1334 v1335
  v1336.toNat
def k0_dev36 (d0 : Dev nD) : Nat :=
  let c0_i32_930 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_929 : BitVec 32 := 16#32
  let v1353 : BitVec 32 := Scalar.muli v2 c16_i32_929
  let v1354 : BitVec 32 := Scalar.addi c0_i32_930 v1353
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_931 : BitVec 32 := 4#32
  let v1355 : BitVec 32 := Scalar.muli v245 c4_i32_931
  let v1356 : BitVec 32 := Scalar.addi v1354 v1355
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_932 : BitVec 32 := 1#32
  let v1357 : BitVec 32 := Scalar.muli v248 c1_i32_932
  let v1358 : BitVec 32 := Scalar.addi v1356 v1357
  v1358.toNat
def k0_dev37 (d0 : Dev nD) : Nat :=
  let c0_i32_940 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_939 : BitVec 32 := 16#32
  let v1365 : BitVec 32 := Scalar.muli v2 c16_i32_939
  let v1366 : BitVec 32 := Scalar.addi c0_i32_940 v1365
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_941 : BitVec 32 := 4#32
  let v1367 : BitVec 32 := Scalar.muli v389 c4_i32_941
  let v1368 : BitVec 32 := Scalar.addi v1366 v1367
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_942 : BitVec 32 := 1#32
  let v1369 : BitVec 32 := Scalar.muli v392 c1_i32_942
  let v1370 : BitVec 32 := Scalar.addi v1368 v1369
  v1370.toNat
def k0_dev38 (d0 : Dev nD) : Nat :=
  let c0_i32_960 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_959 : BitVec 32 := 16#32
  let v1387 : BitVec 32 := Scalar.muli v2 c16_i32_959
  let v1388 : BitVec 32 := Scalar.addi c0_i32_960 v1387
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_961 : BitVec 32 := 4#32
  let v1389 : BitVec 32 := Scalar.muli v245 c4_i32_961
  let v1390 : BitVec 32 := Scalar.addi v1388 v1389
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_962 : BitVec 32 := 1#32
  let v1391 : BitVec 32 := Scalar.muli v248 c1_i32_962
  let v1392 : BitVec 32 := Scalar.addi v1390 v1391
  v1392.toNat
def k0_dev39 (d0 : Dev nD) : Nat :=
  let c0_i32_970 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_969 : BitVec 32 := 16#32
  let v1399 : BitVec 32 := Scalar.muli v2 c16_i32_969
  let v1400 : BitVec 32 := Scalar.addi c0_i32_970 v1399
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_971 : BitVec 32 := 4#32
  let v1401 : BitVec 32 := Scalar.muli v389 c4_i32_971
  let v1402 : BitVec 32 := Scalar.addi v1400 v1401
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_972 : BitVec 32 := 1#32
  let v1403 : BitVec 32 := Scalar.muli v392 c1_i32_972
  let v1404 : BitVec 32 := Scalar.addi v1402 v1403
  v1404.toNat
def k0_dev40 (d0 : Dev nD) : Nat :=
  let c0_i32_990 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_989 : BitVec 32 := 16#32
  let v1421 : BitVec 32 := Scalar.muli v2 c16_i32_989
  let v1422 : BitVec 32 := Scalar.addi c0_i32_990 v1421
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_991 : BitVec 32 := 4#32
  let v1423 : BitVec 32 := Scalar.muli v245 c4_i32_991
  let v1424 : BitVec 32 := Scalar.addi v1422 v1423
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_992 : BitVec 32 := 1#32
  let v1425 : BitVec 32 := Scalar.muli v248 c1_i32_992
  let v1426 : BitVec 32 := Scalar.addi v1424 v1425
  v1426.toNat
def k0_dev41 (d0 : Dev nD) : Nat :=
  let c0_i32_1000 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_999 : BitVec 32 := 16#32
  let v1433 : BitVec 32 := Scalar.muli v2 c16_i32_999
  let v1434 : BitVec 32 := Scalar.addi c0_i32_1000 v1433
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1001 : BitVec 32 := 4#32
  let v1435 : BitVec 32 := Scalar.muli v389 c4_i32_1001
  let v1436 : BitVec 32 := Scalar.addi v1434 v1435
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1002 : BitVec 32 := 1#32
  let v1437 : BitVec 32 := Scalar.muli v392 c1_i32_1002
  let v1438 : BitVec 32 := Scalar.addi v1436 v1437
  v1438.toNat
def k0_dev42 (d0 : Dev nD) : Nat :=
  let c0_i32_1020 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1019 : BitVec 32 := 16#32
  let v1455 : BitVec 32 := Scalar.muli v2 c16_i32_1019
  let v1456 : BitVec 32 := Scalar.addi c0_i32_1020 v1455
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1021 : BitVec 32 := 4#32
  let v1457 : BitVec 32 := Scalar.muli v245 c4_i32_1021
  let v1458 : BitVec 32 := Scalar.addi v1456 v1457
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1022 : BitVec 32 := 1#32
  let v1459 : BitVec 32 := Scalar.muli v248 c1_i32_1022
  let v1460 : BitVec 32 := Scalar.addi v1458 v1459
  v1460.toNat
def k0_dev43 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1467 : BitVec 32 := Scalar.muli v2 c16_i32_1029
  let v1468 : BitVec 32 := Scalar.addi c0_i32_1030 v1467
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1031 : BitVec 32 := 4#32
  let v1469 : BitVec 32 := Scalar.muli v389 c4_i32_1031
  let v1470 : BitVec 32 := Scalar.addi v1468 v1469
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1032 : BitVec 32 := 1#32
  let v1471 : BitVec 32 := Scalar.muli v392 c1_i32_1032
  let v1472 : BitVec 32 := Scalar.addi v1470 v1471
  v1472.toNat
def k0_dev44 (d0 : Dev nD) : Nat :=
  let c0_i32_1050 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1049 : BitVec 32 := 16#32
  let v1489 : BitVec 32 := Scalar.muli v2 c16_i32_1049
  let v1490 : BitVec 32 := Scalar.addi c0_i32_1050 v1489
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1051 : BitVec 32 := 4#32
  let v1491 : BitVec 32 := Scalar.muli v245 c4_i32_1051
  let v1492 : BitVec 32 := Scalar.addi v1490 v1491
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1052 : BitVec 32 := 1#32
  let v1493 : BitVec 32 := Scalar.muli v248 c1_i32_1052
  let v1494 : BitVec 32 := Scalar.addi v1492 v1493
  v1494.toNat
def k0_dev45 (d0 : Dev nD) : Nat :=
  let c0_i32_1060 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1059 : BitVec 32 := 16#32
  let v1501 : BitVec 32 := Scalar.muli v2 c16_i32_1059
  let v1502 : BitVec 32 := Scalar.addi c0_i32_1060 v1501
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1061 : BitVec 32 := 4#32
  let v1503 : BitVec 32 := Scalar.muli v389 c4_i32_1061
  let v1504 : BitVec 32 := Scalar.addi v1502 v1503
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1062 : BitVec 32 := 1#32
  let v1505 : BitVec 32 := Scalar.muli v392 c1_i32_1062
  let v1506 : BitVec 32 := Scalar.addi v1504 v1505
  v1506.toNat
def k0_dev46 (d0 : Dev nD) : Nat :=
  let c0_i32_1080 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1079 : BitVec 32 := 16#32
  let v1523 : BitVec 32 := Scalar.muli v2 c16_i32_1079
  let v1524 : BitVec 32 := Scalar.addi c0_i32_1080 v1523
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1081 : BitVec 32 := 4#32
  let v1525 : BitVec 32 := Scalar.muli v245 c4_i32_1081
  let v1526 : BitVec 32 := Scalar.addi v1524 v1525
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1082 : BitVec 32 := 1#32
  let v1527 : BitVec 32 := Scalar.muli v248 c1_i32_1082
  let v1528 : BitVec 32 := Scalar.addi v1526 v1527
  v1528.toNat
def k0_dev47 (d0 : Dev nD) : Nat :=
  let c0_i32_1090 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1089 : BitVec 32 := 16#32
  let v1535 : BitVec 32 := Scalar.muli v2 c16_i32_1089
  let v1536 : BitVec 32 := Scalar.addi c0_i32_1090 v1535
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1091 : BitVec 32 := 4#32
  let v1537 : BitVec 32 := Scalar.muli v389 c4_i32_1091
  let v1538 : BitVec 32 := Scalar.addi v1536 v1537
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1092 : BitVec 32 := 1#32
  let v1539 : BitVec 32 := Scalar.muli v392 c1_i32_1092
  let v1540 : BitVec 32 := Scalar.addi v1538 v1539
  v1540.toNat
def k0_dev48 (d0 : Dev nD) : Nat :=
  let c0_i32_1110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1109 : BitVec 32 := 16#32
  let v1557 : BitVec 32 := Scalar.muli v2 c16_i32_1109
  let v1558 : BitVec 32 := Scalar.addi c0_i32_1110 v1557
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1111 : BitVec 32 := 4#32
  let v1559 : BitVec 32 := Scalar.muli v245 c4_i32_1111
  let v1560 : BitVec 32 := Scalar.addi v1558 v1559
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1112 : BitVec 32 := 1#32
  let v1561 : BitVec 32 := Scalar.muli v248 c1_i32_1112
  let v1562 : BitVec 32 := Scalar.addi v1560 v1561
  v1562.toNat
def k0_dev49 (d0 : Dev nD) : Nat :=
  let c0_i32_1120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1119 : BitVec 32 := 16#32
  let v1569 : BitVec 32 := Scalar.muli v2 c16_i32_1119
  let v1570 : BitVec 32 := Scalar.addi c0_i32_1120 v1569
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1121 : BitVec 32 := 4#32
  let v1571 : BitVec 32 := Scalar.muli v389 c4_i32_1121
  let v1572 : BitVec 32 := Scalar.addi v1570 v1571
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1122 : BitVec 32 := 1#32
  let v1573 : BitVec 32 := Scalar.muli v392 c1_i32_1122
  let v1574 : BitVec 32 := Scalar.addi v1572 v1573
  v1574.toNat
def k0_dev50 (d0 : Dev nD) : Nat :=
  let c0_i32_1140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1139 : BitVec 32 := 16#32
  let v1591 : BitVec 32 := Scalar.muli v2 c16_i32_1139
  let v1592 : BitVec 32 := Scalar.addi c0_i32_1140 v1591
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1141 : BitVec 32 := 4#32
  let v1593 : BitVec 32 := Scalar.muli v245 c4_i32_1141
  let v1594 : BitVec 32 := Scalar.addi v1592 v1593
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1142 : BitVec 32 := 1#32
  let v1595 : BitVec 32 := Scalar.muli v248 c1_i32_1142
  let v1596 : BitVec 32 := Scalar.addi v1594 v1595
  v1596.toNat
def k0_dev51 (d0 : Dev nD) : Nat :=
  let c0_i32_1150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1149 : BitVec 32 := 16#32
  let v1603 : BitVec 32 := Scalar.muli v2 c16_i32_1149
  let v1604 : BitVec 32 := Scalar.addi c0_i32_1150 v1603
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1151 : BitVec 32 := 4#32
  let v1605 : BitVec 32 := Scalar.muli v389 c4_i32_1151
  let v1606 : BitVec 32 := Scalar.addi v1604 v1605
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1152 : BitVec 32 := 1#32
  let v1607 : BitVec 32 := Scalar.muli v392 c1_i32_1152
  let v1608 : BitVec 32 := Scalar.addi v1606 v1607
  v1608.toNat
def k0_dev52 (d0 : Dev nD) : Nat :=
  let c0_i32_1170 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1169 : BitVec 32 := 16#32
  let v1625 : BitVec 32 := Scalar.muli v2 c16_i32_1169
  let v1626 : BitVec 32 := Scalar.addi c0_i32_1170 v1625
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1171 : BitVec 32 := 4#32
  let v1627 : BitVec 32 := Scalar.muli v245 c4_i32_1171
  let v1628 : BitVec 32 := Scalar.addi v1626 v1627
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1172 : BitVec 32 := 1#32
  let v1629 : BitVec 32 := Scalar.muli v248 c1_i32_1172
  let v1630 : BitVec 32 := Scalar.addi v1628 v1629
  v1630.toNat
def k0_dev53 (d0 : Dev nD) : Nat :=
  let c0_i32_1180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1179 : BitVec 32 := 16#32
  let v1637 : BitVec 32 := Scalar.muli v2 c16_i32_1179
  let v1638 : BitVec 32 := Scalar.addi c0_i32_1180 v1637
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1181 : BitVec 32 := 4#32
  let v1639 : BitVec 32 := Scalar.muli v389 c4_i32_1181
  let v1640 : BitVec 32 := Scalar.addi v1638 v1639
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1182 : BitVec 32 := 1#32
  let v1641 : BitVec 32 := Scalar.muli v392 c1_i32_1182
  let v1642 : BitVec 32 := Scalar.addi v1640 v1641
  v1642.toNat
def k0_dev54 (d0 : Dev nD) : Nat :=
  let c0_i32_1200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1199 : BitVec 32 := 16#32
  let v1659 : BitVec 32 := Scalar.muli v2 c16_i32_1199
  let v1660 : BitVec 32 := Scalar.addi c0_i32_1200 v1659
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1201 : BitVec 32 := 4#32
  let v1661 : BitVec 32 := Scalar.muli v245 c4_i32_1201
  let v1662 : BitVec 32 := Scalar.addi v1660 v1661
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1202 : BitVec 32 := 1#32
  let v1663 : BitVec 32 := Scalar.muli v248 c1_i32_1202
  let v1664 : BitVec 32 := Scalar.addi v1662 v1663
  v1664.toNat
def k0_dev55 (d0 : Dev nD) : Nat :=
  let c0_i32_1210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1209 : BitVec 32 := 16#32
  let v1671 : BitVec 32 := Scalar.muli v2 c16_i32_1209
  let v1672 : BitVec 32 := Scalar.addi c0_i32_1210 v1671
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1211 : BitVec 32 := 4#32
  let v1673 : BitVec 32 := Scalar.muli v389 c4_i32_1211
  let v1674 : BitVec 32 := Scalar.addi v1672 v1673
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1212 : BitVec 32 := 1#32
  let v1675 : BitVec 32 := Scalar.muli v392 c1_i32_1212
  let v1676 : BitVec 32 := Scalar.addi v1674 v1675
  v1676.toNat
def k0_off8 (d0 : Dev nD) : Fin 2 → Nat :=
  let c1_i32_214 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v457 : BitVec 32 := Scalar.subi c1_i32_214 v2
  let c4096_i32_215 : BitVec 32 := 4096#32
  let v458 : BitVec 32 := Scalar.muli v457 c4096_i32_215
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let c1024_i32_1217 : BitVec 32 := 1024#32
  let v1683 : BitVec 32 := Scalar.muli v403 c1024_i32_1217
  let v1684 : BitVec 32 := Scalar.addi v458 v1683
  let c0_i32_1219 : BitVec 32 := 0#32
  ![v1684.toNat, 0]
def k0_off9 (d0 : Dev nD) (c3_i32_191 : BitVec 32) (c0_i32_1231 : BitVec 32) : Fin 2 → Nat :=
  let c1_i32_214 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v457 : BitVec 32 := Scalar.subi c1_i32_214 v2
  let c4096_i32_215 : BitVec 32 := 4096#32
  let v458 : BitVec 32 := Scalar.muli v457 c4096_i32_215
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let v426 : BitVec 32 := Scalar.addi v403 c3_i32_191
  let c4_i32_192 : BitVec 32 := 4#32
  let c0_i32_193 : BitVec 32 := 0#32
  let v427 : BitVec 1 := Scalar.cmpi .eq c4_i32_192 c0_i32_193
  let c1_i32_194 : BitVec 32 := 1#32
  let v428 : BitVec 32 := Scalar.select v427 c1_i32_194 c4_i32_192
  let v429 : BitVec 32 := Scalar.remsi v426 v428
  let c0_i32_196 : BitVec 32 := 0#32
  let v431 : BitVec 1 := Scalar.cmpi .slt v429 c0_i32_196
  let c0_i32_197 : BitVec 32 := 0#32
  let v432 : BitVec 1 := Scalar.cmpi .slt v428 c0_i32_197
  let v433 : BitVec 1 := Scalar.xori v431 v432
  let c0_i32_195 : BitVec 32 := 0#32
  let v430 : BitVec 1 := Scalar.cmpi .ne v429 c0_i32_195
  let v434 : BitVec 1 := Scalar.andi v433 v430
  let v435 : BitVec 32 := Scalar.addi v429 v428
  let v436 : BitVec 32 := Scalar.select v434 v435 v429
  let c1024_i32_1230 : BitVec 32 := 1024#32
  let v1698 : BitVec 32 := Scalar.muli v436 c1024_i32_1230
  let v1699 : BitVec 32 := Scalar.addi v458 v1698
  let v1700 : BitVec 32 := Scalar.addi v1699 c0_i32_1231
  let c0_i32_1238 : BitVec 32 := 0#32
  ![v1700.toNat, 0]
def k0_off9_at (r : Fin 28) : BitVec 32 × BitVec 32 :=
  if r.val < 14 then
    if r.val < 7 then
      if r.val < 3 then
        if r.val < 1 then
          (3#32, 0#32)
        else
          if r.val < 2 then
            (3#32, 64#32)
          else
            (3#32, 128#32)
      else
        if r.val < 5 then
          if r.val < 4 then
            (3#32, 192#32)
          else
            (3#32, 256#32)
        else
          if r.val < 6 then
            (3#32, 320#32)
          else
            (1#32, 384#32)
    else
      if r.val < 10 then
        if r.val < 8 then
          (1#32, 448#32)
        else
          if r.val < 9 then
            (1#32, 512#32)
          else
            (1#32, 576#32)
      else
        if r.val < 12 then
          if r.val < 11 then
            (1#32, 640#32)
          else
            (1#32, 704#32)
        else
          if r.val < 13 then
            (2#32, 768#32)
          else
            (2#32, 832#32)
  else
    if r.val < 21 then
      if r.val < 17 then
        if r.val < 15 then
          (2#32, 896#32)
        else
          if r.val < 16 then
            (2#32, 960#32)
          else
            (2#32, 0#32)
      else
        if r.val < 19 then
          if r.val < 18 then
            (2#32, 64#32)
          else
            (2#32, 128#32)
        else
          if r.val < 20 then
            (2#32, 192#32)
          else
            (2#32, 256#32)
    else
      if r.val < 24 then
        if r.val < 22 then
          (2#32, 320#32)
        else
          if r.val < 23 then
            (2#32, 384#32)
          else
            (2#32, 448#32)
      else
        if r.val < 26 then
          if r.val < 25 then
            (2#32, 512#32)
          else
            (2#32, 576#32)
        else
          if r.val < 27 then
            (2#32, 640#32)
          else
            (2#32, 704#32)
def k0_dev56 (d0 : Dev nD) : Nat :=
  let c0_i32_1235 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1234 : BitVec 32 := 16#32
  let v1701 : BitVec 32 := Scalar.muli v2 c16_i32_1234
  let v1702 : BitVec 32 := Scalar.addi c0_i32_1235 v1701
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1236 : BitVec 32 := 4#32
  let v1703 : BitVec 32 := Scalar.muli v245 c4_i32_1236
  let v1704 : BitVec 32 := Scalar.addi v1702 v1703
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1237 : BitVec 32 := 1#32
  let v1705 : BitVec 32 := Scalar.muli v248 c1_i32_1237
  let v1706 : BitVec 32 := Scalar.addi v1704 v1705
  v1706.toNat
def k0_dev57 (d0 : Dev nD) : Nat :=
  let c0_i32_1256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1255 : BitVec 32 := 16#32
  let v1726 : BitVec 32 := Scalar.muli v2 c16_i32_1255
  let v1727 : BitVec 32 := Scalar.addi c0_i32_1256 v1726
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1257 : BitVec 32 := 4#32
  let v1728 : BitVec 32 := Scalar.muli v245 c4_i32_1257
  let v1729 : BitVec 32 := Scalar.addi v1727 v1728
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1258 : BitVec 32 := 1#32
  let v1730 : BitVec 32 := Scalar.muli v248 c1_i32_1258
  let v1731 : BitVec 32 := Scalar.addi v1729 v1730
  v1731.toNat
def k0_dev58 (d0 : Dev nD) : Nat :=
  let c0_i32_1277 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1276 : BitVec 32 := 16#32
  let v1751 : BitVec 32 := Scalar.muli v2 c16_i32_1276
  let v1752 : BitVec 32 := Scalar.addi c0_i32_1277 v1751
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1278 : BitVec 32 := 4#32
  let v1753 : BitVec 32 := Scalar.muli v245 c4_i32_1278
  let v1754 : BitVec 32 := Scalar.addi v1752 v1753
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1279 : BitVec 32 := 1#32
  let v1755 : BitVec 32 := Scalar.muli v248 c1_i32_1279
  let v1756 : BitVec 32 := Scalar.addi v1754 v1755
  v1756.toNat
def k0_dev59 (d0 : Dev nD) : Nat :=
  let c0_i32_1298 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1297 : BitVec 32 := 16#32
  let v1776 : BitVec 32 := Scalar.muli v2 c16_i32_1297
  let v1777 : BitVec 32 := Scalar.addi c0_i32_1298 v1776
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1299 : BitVec 32 := 4#32
  let v1778 : BitVec 32 := Scalar.muli v245 c4_i32_1299
  let v1779 : BitVec 32 := Scalar.addi v1777 v1778
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1300 : BitVec 32 := 1#32
  let v1780 : BitVec 32 := Scalar.muli v248 c1_i32_1300
  let v1781 : BitVec 32 := Scalar.addi v1779 v1780
  v1781.toNat
def k0_dev60 (d0 : Dev nD) : Nat :=
  let c0_i32_1319 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1318 : BitVec 32 := 16#32
  let v1801 : BitVec 32 := Scalar.muli v2 c16_i32_1318
  let v1802 : BitVec 32 := Scalar.addi c0_i32_1319 v1801
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1320 : BitVec 32 := 4#32
  let v1803 : BitVec 32 := Scalar.muli v245 c4_i32_1320
  let v1804 : BitVec 32 := Scalar.addi v1802 v1803
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1321 : BitVec 32 := 1#32
  let v1805 : BitVec 32 := Scalar.muli v248 c1_i32_1321
  let v1806 : BitVec 32 := Scalar.addi v1804 v1805
  v1806.toNat
def k0_dev61 (d0 : Dev nD) : Nat :=
  let c0_i32_1340 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1339 : BitVec 32 := 16#32
  let v1826 : BitVec 32 := Scalar.muli v2 c16_i32_1339
  let v1827 : BitVec 32 := Scalar.addi c0_i32_1340 v1826
  let c0_i32_41 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_38 : BitVec 32 := 0#32
  let v105 : BitVec 1 := Scalar.cmpi .eq v5 c0_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v106 : BitVec 1 := Scalar.cmpi .eq v8 c0_i32_39
  let v107 : BitVec 1 := Scalar.andi v105 v106
  let v108 : BitVec 32 := Scalar.extui v107
  let c0_i32_40 : BitVec 32 := 0#32
  let v109 : BitVec 32 := Scalar.muli v108 c0_i32_40
  let v110 : BitVec 32 := Scalar.addi c0_i32_41 v109
  let c0_i32_44 : BitVec 32 := 0#32
  let v114 : BitVec 1 := Scalar.cmpi .eq v5 c0_i32_44
  let c1_i32_45 : BitVec 32 := 1#32
  let v115 : BitVec 1 := Scalar.cmpi .eq v8 c1_i32_45
  let v116 : BitVec 1 := Scalar.andi v114 v115
  let v117 : BitVec 32 := Scalar.extui v116
  let c0_i32_46 : BitVec 32 := 0#32
  let v118 : BitVec 32 := Scalar.muli v117 c0_i32_46
  let v119 : BitVec 32 := Scalar.addi v110 v118
  let c0_i32_48 : BitVec 32 := 0#32
  let v123 : BitVec 1 := Scalar.cmpi .eq v5 c0_i32_48
  let c2_i32_49 : BitVec 32 := 2#32
  let v124 : BitVec 1 := Scalar.cmpi .eq v8 c2_i32_49
  let v125 : BitVec 1 := Scalar.andi v123 v124
  let v126 : BitVec 32 := Scalar.extui v125
  let c0_i32_50 : BitVec 32 := 0#32
  let v127 : BitVec 32 := Scalar.muli v126 c0_i32_50
  let v128 : BitVec 32 := Scalar.addi v119 v127
  let c0_i32_52 : BitVec 32 := 0#32
  let v132 : BitVec 1 := Scalar.cmpi .eq v5 c0_i32_52
  let c3_i32_53 : BitVec 32 := 3#32
  let v133 : BitVec 1 := Scalar.cmpi .eq v8 c3_i32_53
  let v134 : BitVec 1 := Scalar.andi v132 v133
  let v135 : BitVec 32 := Scalar.extui v134
  let c1_i32_54 : BitVec 32 := 1#32
  let v136 : BitVec 32 := Scalar.muli v135 c1_i32_54
  let v137 : BitVec 32 := Scalar.addi v128 v136
  let c1_i32_56 : BitVec 32 := 1#32
  let v141 : BitVec 1 := Scalar.cmpi .eq v5 c1_i32_56
  let c3_i32_57 : BitVec 32 := 3#32
  let v142 : BitVec 1 := Scalar.cmpi .eq v8 c3_i32_57
  let v143 : BitVec 1 := Scalar.andi v141 v142
  let v144 : BitVec 32 := Scalar.extui v143
  let c1_i32_58 : BitVec 32 := 1#32
  let v145 : BitVec 32 := Scalar.muli v144 c1_i32_58
  let v146 : BitVec 32 := Scalar.addi v137 v145
  let c1_i32_60 : BitVec 32 := 1#32
  let v150 : BitVec 1 := Scalar.cmpi .eq v5 c1_i32_60
  let c2_i32_61 : BitVec 32 := 2#32
  let v151 : BitVec 1 := Scalar.cmpi .eq v8 c2_i32_61
  let v152 : BitVec 1 := Scalar.andi v150 v151
  let v153 : BitVec 32 := Scalar.extui v152
  let c1_i32_62 : BitVec 32 := 1#32
  let v154 : BitVec 32 := Scalar.muli v153 c1_i32_62
  let v155 : BitVec 32 := Scalar.addi v146 v154
  let c1_i32_64 : BitVec 32 := 1#32
  let v159 : BitVec 1 := Scalar.cmpi .eq v5 c1_i32_64
  let c1_i32_65 : BitVec 32 := 1#32
  let v160 : BitVec 1 := Scalar.cmpi .eq v8 c1_i32_65
  let v161 : BitVec 1 := Scalar.andi v159 v160
  let v162 : BitVec 32 := Scalar.extui v161
  let c2_i32_66 : BitVec 32 := 2#32
  let v163 : BitVec 32 := Scalar.muli v162 c2_i32_66
  let v164 : BitVec 32 := Scalar.addi v155 v163
  let c2_i32_68 : BitVec 32 := 2#32
  let v168 : BitVec 1 := Scalar.cmpi .eq v5 c2_i32_68
  let c1_i32_69 : BitVec 32 := 1#32
  let v169 : BitVec 1 := Scalar.cmpi .eq v8 c1_i32_69
  let v170 : BitVec 1 := Scalar.andi v168 v169
  let v171 : BitVec 32 := Scalar.extui v170
  let c2_i32_70 : BitVec 32 := 2#32
  let v172 : BitVec 32 := Scalar.muli v171 c2_i32_70
  let v173 : BitVec 32 := Scalar.addi v164 v172
  let c2_i32_72 : BitVec 32 := 2#32
  let v177 : BitVec 1 := Scalar.cmpi .eq v5 c2_i32_72
  let c2_i32_73 : BitVec 32 := 2#32
  let v178 : BitVec 1 := Scalar.cmpi .eq v8 c2_i32_73
  let v179 : BitVec 1 := Scalar.andi v177 v178
  let v180 : BitVec 32 := Scalar.extui v179
  let c2_i32_74 : BitVec 32 := 2#32
  let v181 : BitVec 32 := Scalar.muli v180 c2_i32_74
  let v182 : BitVec 32 := Scalar.addi v173 v181
  let c2_i32_76 : BitVec 32 := 2#32
  let v186 : BitVec 1 := Scalar.cmpi .eq v5 c2_i32_76
  let c3_i32_77 : BitVec 32 := 3#32
  let v187 : BitVec 1 := Scalar.cmpi .eq v8 c3_i32_77
  let v188 : BitVec 1 := Scalar.andi v186 v187
  let v189 : BitVec 32 := Scalar.extui v188
  let c3_i32_78 : BitVec 32 := 3#32
  let v190 : BitVec 32 := Scalar.muli v189 c3_i32_78
  let v191 : BitVec 32 := Scalar.addi v182 v190
  let c3_i32_80 : BitVec 32 := 3#32
  let v195 : BitVec 1 := Scalar.cmpi .eq v5 c3_i32_80
  let c3_i32_81 : BitVec 32 := 3#32
  let v196 : BitVec 1 := Scalar.cmpi .eq v8 c3_i32_81
  let v197 : BitVec 1 := Scalar.andi v195 v196
  let v198 : BitVec 32 := Scalar.extui v197
  let c3_i32_82 : BitVec 32 := 3#32
  let v199 : BitVec 32 := Scalar.muli v198 c3_i32_82
  let v200 : BitVec 32 := Scalar.addi v191 v199
  let c3_i32_84 : BitVec 32 := 3#32
  let v204 : BitVec 1 := Scalar.cmpi .eq v5 c3_i32_84
  let c2_i32_85 : BitVec 32 := 2#32
  let v205 : BitVec 1 := Scalar.cmpi .eq v8 c2_i32_85
  let v206 : BitVec 1 := Scalar.andi v204 v205
  let v207 : BitVec 32 := Scalar.extui v206
  let c3_i32_86 : BitVec 32 := 3#32
  let v208 : BitVec 32 := Scalar.muli v207 c3_i32_86
  let v209 : BitVec 32 := Scalar.addi v200 v208
  let c3_i32_88 : BitVec 32 := 3#32
  let v213 : BitVec 1 := Scalar.cmpi .eq v5 c3_i32_88
  let c1_i32_89 : BitVec 32 := 1#32
  let v214 : BitVec 1 := Scalar.cmpi .eq v8 c1_i32_89
  let v215 : BitVec 1 := Scalar.andi v213 v214
  let v216 : BitVec 32 := Scalar.extui v215
  let c3_i32_90 : BitVec 32 := 3#32
  let v217 : BitVec 32 := Scalar.muli v216 c3_i32_90
  let v218 : BitVec 32 := Scalar.addi v209 v217
  let c3_i32_92 : BitVec 32 := 3#32
  let v222 : BitVec 1 := Scalar.cmpi .eq v5 c3_i32_92
  let c0_i32_93 : BitVec 32 := 0#32
  let v223 : BitVec 1 := Scalar.cmpi .eq v8 c0_i32_93
  let v224 : BitVec 1 := Scalar.andi v222 v223
  let v225 : BitVec 32 := Scalar.extui v224
  let c2_i32_94 : BitVec 32 := 2#32
  let v226 : BitVec 32 := Scalar.muli v225 c2_i32_94
  let v227 : BitVec 32 := Scalar.addi v218 v226
  let c2_i32_96 : BitVec 32 := 2#32
  let v231 : BitVec 1 := Scalar.cmpi .eq v5 c2_i32_96
  let c0_i32_97 : BitVec 32 := 0#32
  let v232 : BitVec 1 := Scalar.cmpi .eq v8 c0_i32_97
  let v233 : BitVec 1 := Scalar.andi v231 v232
  let v234 : BitVec 32 := Scalar.extui v233
  let c1_i32_98 : BitVec 32 := 1#32
  let v235 : BitVec 32 := Scalar.muli v234 c1_i32_98
  let v236 : BitVec 32 := Scalar.addi v227 v235
  let c1_i32_100 : BitVec 32 := 1#32
  let v240 : BitVec 1 := Scalar.cmpi .eq v5 c1_i32_100
  let c0_i32_101 : BitVec 32 := 0#32
  let v241 : BitVec 1 := Scalar.cmpi .eq v8 c0_i32_101
  let v242 : BitVec 1 := Scalar.andi v240 v241
  let v243 : BitVec 32 := Scalar.extui v242
  let c0_i32_102 : BitVec 32 := 0#32
  let v244 : BitVec 32 := Scalar.muli v243 c0_i32_102
  let v245 : BitVec 32 := Scalar.addi v236 v244
  let c4_i32_1341 : BitVec 32 := 4#32
  let v1828 : BitVec 32 := Scalar.muli v245 c4_i32_1341
  let v1829 : BitVec 32 := Scalar.addi v1827 v1828
  let c0_i32_43 : BitVec 32 := 0#32
  let v111 : BitVec 32 := Scalar.extui v107
  let c1_i32_42 : BitVec 32 := 1#32
  let v112 : BitVec 32 := Scalar.muli v111 c1_i32_42
  let v113 : BitVec 32 := Scalar.addi c0_i32_43 v112
  let v120 : BitVec 32 := Scalar.extui v116
  let c2_i32_47 : BitVec 32 := 2#32
  let v121 : BitVec 32 := Scalar.muli v120 c2_i32_47
  let v122 : BitVec 32 := Scalar.addi v113 v121
  let v129 : BitVec 32 := Scalar.extui v125
  let c3_i32_51 : BitVec 32 := 3#32
  let v130 : BitVec 32 := Scalar.muli v129 c3_i32_51
  let v131 : BitVec 32 := Scalar.addi v122 v130
  let v138 : BitVec 32 := Scalar.extui v134
  let c3_i32_55 : BitVec 32 := 3#32
  let v139 : BitVec 32 := Scalar.muli v138 c3_i32_55
  let v140 : BitVec 32 := Scalar.addi v131 v139
  let v147 : BitVec 32 := Scalar.extui v143
  let c2_i32_59 : BitVec 32 := 2#32
  let v148 : BitVec 32 := Scalar.muli v147 c2_i32_59
  let v149 : BitVec 32 := Scalar.addi v140 v148
  let v156 : BitVec 32 := Scalar.extui v152
  let c1_i32_63 : BitVec 32 := 1#32
  let v157 : BitVec 32 := Scalar.muli v156 c1_i32_63
  let v158 : BitVec 32 := Scalar.addi v149 v157
  let v165 : BitVec 32 := Scalar.extui v161
  let c1_i32_67 : BitVec 32 := 1#32
  let v166 : BitVec 32 := Scalar.muli v165 c1_i32_67
  let v167 : BitVec 32 := Scalar.addi v158 v166
  let v174 : BitVec 32 := Scalar.extui v170
  let c2_i32_71 : BitVec 32 := 2#32
  let v175 : BitVec 32 := Scalar.muli v174 c2_i32_71
  let v176 : BitVec 32 := Scalar.addi v167 v175
  let v183 : BitVec 32 := Scalar.extui v179
  let c3_i32_75 : BitVec 32 := 3#32
  let v184 : BitVec 32 := Scalar.muli v183 c3_i32_75
  let v185 : BitVec 32 := Scalar.addi v176 v184
  let v192 : BitVec 32 := Scalar.extui v188
  let c3_i32_79 : BitVec 32 := 3#32
  let v193 : BitVec 32 := Scalar.muli v192 c3_i32_79
  let v194 : BitVec 32 := Scalar.addi v185 v193
  let v201 : BitVec 32 := Scalar.extui v197
  let c2_i32_83 : BitVec 32 := 2#32
  let v202 : BitVec 32 := Scalar.muli v201 c2_i32_83
  let v203 : BitVec 32 := Scalar.addi v194 v202
  let v210 : BitVec 32 := Scalar.extui v206
  let c1_i32_87 : BitVec 32 := 1#32
  let v211 : BitVec 32 := Scalar.muli v210 c1_i32_87
  let v212 : BitVec 32 := Scalar.addi v203 v211
  let v219 : BitVec 32 := Scalar.extui v215
  let c0_i32_91 : BitVec 32 := 0#32
  let v220 : BitVec 32 := Scalar.muli v219 c0_i32_91
  let v221 : BitVec 32 := Scalar.addi v212 v220
  let v228 : BitVec 32 := Scalar.extui v224
  let c0_i32_95 : BitVec 32 := 0#32
  let v229 : BitVec 32 := Scalar.muli v228 c0_i32_95
  let v230 : BitVec 32 := Scalar.addi v221 v229
  let v237 : BitVec 32 := Scalar.extui v233
  let c0_i32_99 : BitVec 32 := 0#32
  let v238 : BitVec 32 := Scalar.muli v237 c0_i32_99
  let v239 : BitVec 32 := Scalar.addi v230 v238
  let v246 : BitVec 32 := Scalar.extui v242
  let c0_i32_103 : BitVec 32 := 0#32
  let v247 : BitVec 32 := Scalar.muli v246 c0_i32_103
  let v248 : BitVec 32 := Scalar.addi v239 v247
  let c1_i32_1342 : BitVec 32 := 1#32
  let v1830 : BitVec 32 := Scalar.muli v248 c1_i32_1342
  let v1831 : BitVec 32 := Scalar.addi v1829 v1830
  v1831.toNat
def k0_dev62 (d0 : Dev nD) : Nat :=
  let c0_i32_1361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1360 : BitVec 32 := 16#32
  let v1851 : BitVec 32 := Scalar.muli v2 c16_i32_1360
  let v1852 : BitVec 32 := Scalar.addi c0_i32_1361 v1851
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1362 : BitVec 32 := 4#32
  let v1853 : BitVec 32 := Scalar.muli v389 c4_i32_1362
  let v1854 : BitVec 32 := Scalar.addi v1852 v1853
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1363 : BitVec 32 := 1#32
  let v1855 : BitVec 32 := Scalar.muli v392 c1_i32_1363
  let v1856 : BitVec 32 := Scalar.addi v1854 v1855
  v1856.toNat
def k0_dev63 (d0 : Dev nD) : Nat :=
  let c0_i32_1382 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1381 : BitVec 32 := 16#32
  let v1876 : BitVec 32 := Scalar.muli v2 c16_i32_1381
  let v1877 : BitVec 32 := Scalar.addi c0_i32_1382 v1876
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1383 : BitVec 32 := 4#32
  let v1878 : BitVec 32 := Scalar.muli v389 c4_i32_1383
  let v1879 : BitVec 32 := Scalar.addi v1877 v1878
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1384 : BitVec 32 := 1#32
  let v1880 : BitVec 32 := Scalar.muli v392 c1_i32_1384
  let v1881 : BitVec 32 := Scalar.addi v1879 v1880
  v1881.toNat
def k0_dev64 (d0 : Dev nD) : Nat :=
  let c0_i32_1403 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1402 : BitVec 32 := 16#32
  let v1901 : BitVec 32 := Scalar.muli v2 c16_i32_1402
  let v1902 : BitVec 32 := Scalar.addi c0_i32_1403 v1901
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1404 : BitVec 32 := 4#32
  let v1903 : BitVec 32 := Scalar.muli v389 c4_i32_1404
  let v1904 : BitVec 32 := Scalar.addi v1902 v1903
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1405 : BitVec 32 := 1#32
  let v1905 : BitVec 32 := Scalar.muli v392 c1_i32_1405
  let v1906 : BitVec 32 := Scalar.addi v1904 v1905
  v1906.toNat
def k0_dev65 (d0 : Dev nD) : Nat :=
  let c0_i32_1424 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1423 : BitVec 32 := 16#32
  let v1926 : BitVec 32 := Scalar.muli v2 c16_i32_1423
  let v1927 : BitVec 32 := Scalar.addi c0_i32_1424 v1926
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1425 : BitVec 32 := 4#32
  let v1928 : BitVec 32 := Scalar.muli v389 c4_i32_1425
  let v1929 : BitVec 32 := Scalar.addi v1927 v1928
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1426 : BitVec 32 := 1#32
  let v1930 : BitVec 32 := Scalar.muli v392 c1_i32_1426
  let v1931 : BitVec 32 := Scalar.addi v1929 v1930
  v1931.toNat
def k0_dev66 (d0 : Dev nD) : Nat :=
  let c0_i32_1445 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1444 : BitVec 32 := 16#32
  let v1951 : BitVec 32 := Scalar.muli v2 c16_i32_1444
  let v1952 : BitVec 32 := Scalar.addi c0_i32_1445 v1951
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1446 : BitVec 32 := 4#32
  let v1953 : BitVec 32 := Scalar.muli v389 c4_i32_1446
  let v1954 : BitVec 32 := Scalar.addi v1952 v1953
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1447 : BitVec 32 := 1#32
  let v1955 : BitVec 32 := Scalar.muli v392 c1_i32_1447
  let v1956 : BitVec 32 := Scalar.addi v1954 v1955
  v1956.toNat
def k0_dev67 (d0 : Dev nD) : Nat :=
  let c0_i32_1466 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1465 : BitVec 32 := 16#32
  let v1976 : BitVec 32 := Scalar.muli v2 c16_i32_1465
  let v1977 : BitVec 32 := Scalar.addi c0_i32_1466 v1976
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_104 : BitVec 32 := 0#32
  let v249 : BitVec 1 := Scalar.cmpi .eq v5 c0_i32_104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v250 : BitVec 1 := Scalar.cmpi .eq v8 c0_i32_105
  let v251 : BitVec 1 := Scalar.andi v249 v250
  let v252 : BitVec 32 := Scalar.extui v251
  let c1_i32_106 : BitVec 32 := 1#32
  let v253 : BitVec 32 := Scalar.muli v252 c1_i32_106
  let v254 : BitVec 32 := Scalar.addi c0_i32_107 v253
  let c0_i32_110 : BitVec 32 := 0#32
  let v258 : BitVec 1 := Scalar.cmpi .eq v5 c0_i32_110
  let c1_i32_111 : BitVec 32 := 1#32
  let v259 : BitVec 1 := Scalar.cmpi .eq v8 c1_i32_111
  let v260 : BitVec 1 := Scalar.andi v258 v259
  let v261 : BitVec 32 := Scalar.extui v260
  let c0_i32_112 : BitVec 32 := 0#32
  let v262 : BitVec 32 := Scalar.muli v261 c0_i32_112
  let v263 : BitVec 32 := Scalar.addi v254 v262
  let c0_i32_114 : BitVec 32 := 0#32
  let v267 : BitVec 1 := Scalar.cmpi .eq v5 c0_i32_114
  let c2_i32_115 : BitVec 32 := 2#32
  let v268 : BitVec 1 := Scalar.cmpi .eq v8 c2_i32_115
  let v269 : BitVec 1 := Scalar.andi v267 v268
  let v270 : BitVec 32 := Scalar.extui v269
  let c0_i32_116 : BitVec 32 := 0#32
  let v271 : BitVec 32 := Scalar.muli v270 c0_i32_116
  let v272 : BitVec 32 := Scalar.addi v263 v271
  let c0_i32_118 : BitVec 32 := 0#32
  let v276 : BitVec 1 := Scalar.cmpi .eq v5 c0_i32_118
  let c3_i32_119 : BitVec 32 := 3#32
  let v277 : BitVec 1 := Scalar.cmpi .eq v8 c3_i32_119
  let v278 : BitVec 1 := Scalar.andi v276 v277
  let v279 : BitVec 32 := Scalar.extui v278
  let c0_i32_120 : BitVec 32 := 0#32
  let v280 : BitVec 32 := Scalar.muli v279 c0_i32_120
  let v281 : BitVec 32 := Scalar.addi v272 v280
  let c1_i32_122 : BitVec 32 := 1#32
  let v285 : BitVec 1 := Scalar.cmpi .eq v5 c1_i32_122
  let c3_i32_123 : BitVec 32 := 3#32
  let v286 : BitVec 1 := Scalar.cmpi .eq v8 c3_i32_123
  let v287 : BitVec 1 := Scalar.andi v285 v286
  let v288 : BitVec 32 := Scalar.extui v287
  let c0_i32_124 : BitVec 32 := 0#32
  let v289 : BitVec 32 := Scalar.muli v288 c0_i32_124
  let v290 : BitVec 32 := Scalar.addi v281 v289
  let c1_i32_126 : BitVec 32 := 1#32
  let v294 : BitVec 1 := Scalar.cmpi .eq v5 c1_i32_126
  let c2_i32_127 : BitVec 32 := 2#32
  let v295 : BitVec 1 := Scalar.cmpi .eq v8 c2_i32_127
  let v296 : BitVec 1 := Scalar.andi v294 v295
  let v297 : BitVec 32 := Scalar.extui v296
  let c1_i32_128 : BitVec 32 := 1#32
  let v298 : BitVec 32 := Scalar.muli v297 c1_i32_128
  let v299 : BitVec 32 := Scalar.addi v290 v298
  let c1_i32_130 : BitVec 32 := 1#32
  let v303 : BitVec 1 := Scalar.cmpi .eq v5 c1_i32_130
  let c1_i32_131 : BitVec 32 := 1#32
  let v304 : BitVec 1 := Scalar.cmpi .eq v8 c1_i32_131
  let v305 : BitVec 1 := Scalar.andi v303 v304
  let v306 : BitVec 32 := Scalar.extui v305
  let c1_i32_132 : BitVec 32 := 1#32
  let v307 : BitVec 32 := Scalar.muli v306 c1_i32_132
  let v308 : BitVec 32 := Scalar.addi v299 v307
  let c2_i32_134 : BitVec 32 := 2#32
  let v312 : BitVec 1 := Scalar.cmpi .eq v5 c2_i32_134
  let c1_i32_135 : BitVec 32 := 1#32
  let v313 : BitVec 1 := Scalar.cmpi .eq v8 c1_i32_135
  let v314 : BitVec 1 := Scalar.andi v312 v313
  let v315 : BitVec 32 := Scalar.extui v314
  let c1_i32_136 : BitVec 32 := 1#32
  let v316 : BitVec 32 := Scalar.muli v315 c1_i32_136
  let v317 : BitVec 32 := Scalar.addi v308 v316
  let c2_i32_138 : BitVec 32 := 2#32
  let v321 : BitVec 1 := Scalar.cmpi .eq v5 c2_i32_138
  let c2_i32_139 : BitVec 32 := 2#32
  let v322 : BitVec 1 := Scalar.cmpi .eq v8 c2_i32_139
  let v323 : BitVec 1 := Scalar.andi v321 v322
  let v324 : BitVec 32 := Scalar.extui v323
  let c2_i32_140 : BitVec 32 := 2#32
  let v325 : BitVec 32 := Scalar.muli v324 c2_i32_140
  let v326 : BitVec 32 := Scalar.addi v317 v325
  let c2_i32_142 : BitVec 32 := 2#32
  let v330 : BitVec 1 := Scalar.cmpi .eq v5 c2_i32_142
  let c3_i32_143 : BitVec 32 := 3#32
  let v331 : BitVec 1 := Scalar.cmpi .eq v8 c3_i32_143
  let v332 : BitVec 1 := Scalar.andi v330 v331
  let v333 : BitVec 32 := Scalar.extui v332
  let c2_i32_144 : BitVec 32 := 2#32
  let v334 : BitVec 32 := Scalar.muli v333 c2_i32_144
  let v335 : BitVec 32 := Scalar.addi v326 v334
  let c3_i32_146 : BitVec 32 := 3#32
  let v339 : BitVec 1 := Scalar.cmpi .eq v5 c3_i32_146
  let c3_i32_147 : BitVec 32 := 3#32
  let v340 : BitVec 1 := Scalar.cmpi .eq v8 c3_i32_147
  let v341 : BitVec 1 := Scalar.andi v339 v340
  let v342 : BitVec 32 := Scalar.extui v341
  let c2_i32_148 : BitVec 32 := 2#32
  let v343 : BitVec 32 := Scalar.muli v342 c2_i32_148
  let v344 : BitVec 32 := Scalar.addi v335 v343
  let c3_i32_150 : BitVec 32 := 3#32
  let v348 : BitVec 1 := Scalar.cmpi .eq v5 c3_i32_150
  let c2_i32_151 : BitVec 32 := 2#32
  let v349 : BitVec 1 := Scalar.cmpi .eq v8 c2_i32_151
  let v350 : BitVec 1 := Scalar.andi v348 v349
  let v351 : BitVec 32 := Scalar.extui v350
  let c3_i32_152 : BitVec 32 := 3#32
  let v352 : BitVec 32 := Scalar.muli v351 c3_i32_152
  let v353 : BitVec 32 := Scalar.addi v344 v352
  let c3_i32_154 : BitVec 32 := 3#32
  let v357 : BitVec 1 := Scalar.cmpi .eq v5 c3_i32_154
  let c1_i32_155 : BitVec 32 := 1#32
  let v358 : BitVec 1 := Scalar.cmpi .eq v8 c1_i32_155
  let v359 : BitVec 1 := Scalar.andi v357 v358
  let v360 : BitVec 32 := Scalar.extui v359
  let c3_i32_156 : BitVec 32 := 3#32
  let v361 : BitVec 32 := Scalar.muli v360 c3_i32_156
  let v362 : BitVec 32 := Scalar.addi v353 v361
  let c3_i32_158 : BitVec 32 := 3#32
  let v366 : BitVec 1 := Scalar.cmpi .eq v5 c3_i32_158
  let c0_i32_159 : BitVec 32 := 0#32
  let v367 : BitVec 1 := Scalar.cmpi .eq v8 c0_i32_159
  let v368 : BitVec 1 := Scalar.andi v366 v367
  let v369 : BitVec 32 := Scalar.extui v368
  let c3_i32_160 : BitVec 32 := 3#32
  let v370 : BitVec 32 := Scalar.muli v369 c3_i32_160
  let v371 : BitVec 32 := Scalar.addi v362 v370
  let c2_i32_162 : BitVec 32 := 2#32
  let v375 : BitVec 1 := Scalar.cmpi .eq v5 c2_i32_162
  let c0_i32_163 : BitVec 32 := 0#32
  let v376 : BitVec 1 := Scalar.cmpi .eq v8 c0_i32_163
  let v377 : BitVec 1 := Scalar.andi v375 v376
  let v378 : BitVec 32 := Scalar.extui v377
  let c3_i32_164 : BitVec 32 := 3#32
  let v379 : BitVec 32 := Scalar.muli v378 c3_i32_164
  let v380 : BitVec 32 := Scalar.addi v371 v379
  let c1_i32_166 : BitVec 32 := 1#32
  let v384 : BitVec 1 := Scalar.cmpi .eq v5 c1_i32_166
  let c0_i32_167 : BitVec 32 := 0#32
  let v385 : BitVec 1 := Scalar.cmpi .eq v8 c0_i32_167
  let v386 : BitVec 1 := Scalar.andi v384 v385
  let v387 : BitVec 32 := Scalar.extui v386
  let c2_i32_168 : BitVec 32 := 2#32
  let v388 : BitVec 32 := Scalar.muli v387 c2_i32_168
  let v389 : BitVec 32 := Scalar.addi v380 v388
  let c4_i32_1467 : BitVec 32 := 4#32
  let v1978 : BitVec 32 := Scalar.muli v389 c4_i32_1467
  let v1979 : BitVec 32 := Scalar.addi v1977 v1978
  let c0_i32_109 : BitVec 32 := 0#32
  let v255 : BitVec 32 := Scalar.extui v251
  let c0_i32_108 : BitVec 32 := 0#32
  let v256 : BitVec 32 := Scalar.muli v255 c0_i32_108
  let v257 : BitVec 32 := Scalar.addi c0_i32_109 v256
  let v264 : BitVec 32 := Scalar.extui v260
  let c0_i32_113 : BitVec 32 := 0#32
  let v265 : BitVec 32 := Scalar.muli v264 c0_i32_113
  let v266 : BitVec 32 := Scalar.addi v257 v265
  let v273 : BitVec 32 := Scalar.extui v269
  let c1_i32_117 : BitVec 32 := 1#32
  let v274 : BitVec 32 := Scalar.muli v273 c1_i32_117
  let v275 : BitVec 32 := Scalar.addi v266 v274
  let v282 : BitVec 32 := Scalar.extui v278
  let c2_i32_121 : BitVec 32 := 2#32
  let v283 : BitVec 32 := Scalar.muli v282 c2_i32_121
  let v284 : BitVec 32 := Scalar.addi v275 v283
  let v291 : BitVec 32 := Scalar.extui v287
  let c3_i32_125 : BitVec 32 := 3#32
  let v292 : BitVec 32 := Scalar.muli v291 c3_i32_125
  let v293 : BitVec 32 := Scalar.addi v284 v292
  let v300 : BitVec 32 := Scalar.extui v296
  let c3_i32_129 : BitVec 32 := 3#32
  let v301 : BitVec 32 := Scalar.muli v300 c3_i32_129
  let v302 : BitVec 32 := Scalar.addi v293 v301
  let v309 : BitVec 32 := Scalar.extui v305
  let c2_i32_133 : BitVec 32 := 2#32
  let v310 : BitVec 32 := Scalar.muli v309 c2_i32_133
  let v311 : BitVec 32 := Scalar.addi v302 v310
  let v318 : BitVec 32 := Scalar.extui v314
  let c1_i32_137 : BitVec 32 := 1#32
  let v319 : BitVec 32 := Scalar.muli v318 c1_i32_137
  let v320 : BitVec 32 := Scalar.addi v311 v319
  let v327 : BitVec 32 := Scalar.extui v323
  let c1_i32_141 : BitVec 32 := 1#32
  let v328 : BitVec 32 := Scalar.muli v327 c1_i32_141
  let v329 : BitVec 32 := Scalar.addi v320 v328
  let v336 : BitVec 32 := Scalar.extui v332
  let c2_i32_145 : BitVec 32 := 2#32
  let v337 : BitVec 32 := Scalar.muli v336 c2_i32_145
  let v338 : BitVec 32 := Scalar.addi v329 v337
  let v345 : BitVec 32 := Scalar.extui v341
  let c3_i32_149 : BitVec 32 := 3#32
  let v346 : BitVec 32 := Scalar.muli v345 c3_i32_149
  let v347 : BitVec 32 := Scalar.addi v338 v346
  let v354 : BitVec 32 := Scalar.extui v350
  let c3_i32_153 : BitVec 32 := 3#32
  let v355 : BitVec 32 := Scalar.muli v354 c3_i32_153
  let v356 : BitVec 32 := Scalar.addi v347 v355
  let v363 : BitVec 32 := Scalar.extui v359
  let c2_i32_157 : BitVec 32 := 2#32
  let v364 : BitVec 32 := Scalar.muli v363 c2_i32_157
  let v365 : BitVec 32 := Scalar.addi v356 v364
  let v372 : BitVec 32 := Scalar.extui v368
  let c1_i32_161 : BitVec 32 := 1#32
  let v373 : BitVec 32 := Scalar.muli v372 c1_i32_161
  let v374 : BitVec 32 := Scalar.addi v365 v373
  let v381 : BitVec 32 := Scalar.extui v377
  let c0_i32_165 : BitVec 32 := 0#32
  let v382 : BitVec 32 := Scalar.muli v381 c0_i32_165
  let v383 : BitVec 32 := Scalar.addi v374 v382
  let v390 : BitVec 32 := Scalar.extui v386
  let c0_i32_169 : BitVec 32 := 0#32
  let v391 : BitVec 32 := Scalar.muli v390 c0_i32_169
  let v392 : BitVec 32 := Scalar.addi v383 v391
  let c1_i32_1468 : BitVec 32 := 1#32
  let v1980 : BitVec 32 := Scalar.muli v392 c1_i32_1468
  let v1981 : BitVec 32 := Scalar.addi v1979 v1980
  v1981.toNat
def k0_off10 (d0 : Dev nD) (c3_i32_191 : BitVec 32) : Fin 2 → Nat :=
  let c1_i32_214 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v457 : BitVec 32 := Scalar.subi c1_i32_214 v2
  let c4096_i32_215 : BitVec 32 := 4096#32
  let v458 : BitVec 32 := Scalar.muli v457 c4096_i32_215
  let c0_i32_4 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v10 : BitVec 1 := Scalar.cmpi .eq v8 c0_i32_2
  let v11 : BitVec 1 := Scalar.andi v9 v10
  let v12 : BitVec 32 := Scalar.extui v11
  let c0_i32_3 : BitVec 32 := 0#32
  let v13 : BitVec 32 := Scalar.muli v12 c0_i32_3
  let v14 : BitVec 32 := Scalar.addi c0_i32_4 v13
  let c0_i32_5 : BitVec 32 := 0#32
  let v15 : BitVec 1 := Scalar.cmpi .eq v5 c0_i32_5
  let c1_i32_6 : BitVec 32 := 1#32
  let v16 : BitVec 1 := Scalar.cmpi .eq v8 c1_i32_6
  let v17 : BitVec 1 := Scalar.andi v15 v16
  let v18 : BitVec 32 := Scalar.extui v17
  let c1_i32_7 : BitVec 32 := 1#32
  let v19 : BitVec 32 := Scalar.muli v18 c1_i32_7
  let v20 : BitVec 32 := Scalar.addi v14 v19
  let c0_i32_8 : BitVec 32 := 0#32
  let v21 : BitVec 1 := Scalar.cmpi .eq v5 c0_i32_8
  let c2_i32_9 : BitVec 32 := 2#32
  let v22 : BitVec 1 := Scalar.cmpi .eq v8 c2_i32_9
  let v23 : BitVec 1 := Scalar.andi v21 v22
  let v24 : BitVec 32 := Scalar.extui v23
  let c2_i32_10 : BitVec 32 := 2#32
  let v25 : BitVec 32 := Scalar.muli v24 c2_i32_10
  let v26 : BitVec 32 := Scalar.addi v20 v25
  let c0_i32_11 : BitVec 32 := 0#32
  let v27 : BitVec 1 := Scalar.cmpi .eq v5 c0_i32_11
  let c3_i32 : BitVec 32 := 3#32
  let v28 : BitVec 1 := Scalar.cmpi .eq v8 c3_i32
  let v29 : BitVec 1 := Scalar.andi v27 v28
  let v30 : BitVec 32 := Scalar.extui v29
  let c3_i32_12 : BitVec 32 := 3#32
  let v31 : BitVec 32 := Scalar.muli v30 c3_i32_12
  let v32 : BitVec 32 := Scalar.addi v26 v31
  let c1_i32_13 : BitVec 32 := 1#32
  let v33 : BitVec 1 := Scalar.cmpi .eq v5 c1_i32_13
  let c3_i32_14 : BitVec 32 := 3#32
  let v34 : BitVec 1 := Scalar.cmpi .eq v8 c3_i32_14
  let v35 : BitVec 1 := Scalar.andi v33 v34
  let v36 : BitVec 32 := Scalar.extui v35
  let c4_i32_15 : BitVec 32 := 4#32
  let v37 : BitVec 32 := Scalar.muli v36 c4_i32_15
  let v38 : BitVec 32 := Scalar.addi v32 v37
  let c1_i32_16 : BitVec 32 := 1#32
  let v39 : BitVec 1 := Scalar.cmpi .eq v5 c1_i32_16
  let c2_i32_17 : BitVec 32 := 2#32
  let v40 : BitVec 1 := Scalar.cmpi .eq v8 c2_i32_17
  let v41 : BitVec 1 := Scalar.andi v39 v40
  let v42 : BitVec 32 := Scalar.extui v41
  let c5_i32 : BitVec 32 := 5#32
  let v43 : BitVec 32 := Scalar.muli v42 c5_i32
  let v44 : BitVec 32 := Scalar.addi v38 v43
  let c1_i32_18 : BitVec 32 := 1#32
  let v45 : BitVec 1 := Scalar.cmpi .eq v5 c1_i32_18
  let c1_i32_19 : BitVec 32 := 1#32
  let v46 : BitVec 1 := Scalar.cmpi .eq v8 c1_i32_19
  let v47 : BitVec 1 := Scalar.andi v45 v46
  let v48 : BitVec 32 := Scalar.extui v47
  let c6_i32 : BitVec 32 := 6#32
  let v49 : BitVec 32 := Scalar.muli v48 c6_i32
  let v50 : BitVec 32 := Scalar.addi v44 v49
  let c2_i32_20 : BitVec 32 := 2#32
  let v51 : BitVec 1 := Scalar.cmpi .eq v5 c2_i32_20
  let c1_i32_21 : BitVec 32 := 1#32
  let v52 : BitVec 1 := Scalar.cmpi .eq v8 c1_i32_21
  let v53 : BitVec 1 := Scalar.andi v51 v52
  let v54 : BitVec 32 := Scalar.extui v53
  let c7_i32 : BitVec 32 := 7#32
  let v55 : BitVec 32 := Scalar.muli v54 c7_i32
  let v56 : BitVec 32 := Scalar.addi v50 v55
  let c2_i32_22 : BitVec 32 := 2#32
  let v57 : BitVec 1 := Scalar.cmpi .eq v5 c2_i32_22
  let c2_i32_23 : BitVec 32 := 2#32
  let v58 : BitVec 1 := Scalar.cmpi .eq v8 c2_i32_23
  let v59 : BitVec 1 := Scalar.andi v57 v58
  let v60 : BitVec 32 := Scalar.extui v59
  let c8_i32 : BitVec 32 := 8#32
  let v61 : BitVec 32 := Scalar.muli v60 c8_i32
  let v62 : BitVec 32 := Scalar.addi v56 v61
  let c2_i32_24 : BitVec 32 := 2#32
  let v63 : BitVec 1 := Scalar.cmpi .eq v5 c2_i32_24
  let c3_i32_25 : BitVec 32 := 3#32
  let v64 : BitVec 1 := Scalar.cmpi .eq v8 c3_i32_25
  let v65 : BitVec 1 := Scalar.andi v63 v64
  let v66 : BitVec 32 := Scalar.extui v65
  let c9_i32 : BitVec 32 := 9#32
  let v67 : BitVec 32 := Scalar.muli v66 c9_i32
  let v68 : BitVec 32 := Scalar.addi v62 v67
  let c3_i32_26 : BitVec 32 := 3#32
  let v69 : BitVec 1 := Scalar.cmpi .eq v5 c3_i32_26
  let c3_i32_27 : BitVec 32 := 3#32
  let v70 : BitVec 1 := Scalar.cmpi .eq v8 c3_i32_27
  let v71 : BitVec 1 := Scalar.andi v69 v70
  let v72 : BitVec 32 := Scalar.extui v71
  let c10_i32 : BitVec 32 := 10#32
  let v73 : BitVec 32 := Scalar.muli v72 c10_i32
  let v74 : BitVec 32 := Scalar.addi v68 v73
  let c3_i32_28 : BitVec 32 := 3#32
  let v75 : BitVec 1 := Scalar.cmpi .eq v5 c3_i32_28
  let c2_i32_29 : BitVec 32 := 2#32
  let v76 : BitVec 1 := Scalar.cmpi .eq v8 c2_i32_29
  let v77 : BitVec 1 := Scalar.andi v75 v76
  let v78 : BitVec 32 := Scalar.extui v77
  let c11_i32 : BitVec 32 := 11#32
  let v79 : BitVec 32 := Scalar.muli v78 c11_i32
  let v80 : BitVec 32 := Scalar.addi v74 v79
  let c3_i32_30 : BitVec 32 := 3#32
  let v81 : BitVec 1 := Scalar.cmpi .eq v5 c3_i32_30
  let c1_i32_31 : BitVec 32 := 1#32
  let v82 : BitVec 1 := Scalar.cmpi .eq v8 c1_i32_31
  let v83 : BitVec 1 := Scalar.andi v81 v82
  let v84 : BitVec 32 := Scalar.extui v83
  let c12_i32 : BitVec 32 := 12#32
  let v85 : BitVec 32 := Scalar.muli v84 c12_i32
  let v86 : BitVec 32 := Scalar.addi v80 v85
  let c3_i32_32 : BitVec 32 := 3#32
  let v87 : BitVec 1 := Scalar.cmpi .eq v5 c3_i32_32
  let c0_i32_33 : BitVec 32 := 0#32
  let v88 : BitVec 1 := Scalar.cmpi .eq v8 c0_i32_33
  let v89 : BitVec 1 := Scalar.andi v87 v88
  let v90 : BitVec 32 := Scalar.extui v89
  let c13_i32 : BitVec 32 := 13#32
  let v91 : BitVec 32 := Scalar.muli v90 c13_i32
  let v92 : BitVec 32 := Scalar.addi v86 v91
  let c2_i32_34 : BitVec 32 := 2#32
  let v93 : BitVec 1 := Scalar.cmpi .eq v5 c2_i32_34
  let c0_i32_35 : BitVec 32 := 0#32
  let v94 : BitVec 1 := Scalar.cmpi .eq v8 c0_i32_35
  let v95 : BitVec 1 := Scalar.andi v93 v94
  let v96 : BitVec 32 := Scalar.extui v95
  let c14_i32 : BitVec 32 := 14#32
  let v97 : BitVec 32 := Scalar.muli v96 c14_i32
  let v98 : BitVec 32 := Scalar.addi v92 v97
  let c1_i32_36 : BitVec 32 := 1#32
  let v99 : BitVec 1 := Scalar.cmpi .eq v5 c1_i32_36
  let c0_i32_37 : BitVec 32 := 0#32
  let v100 : BitVec 1 := Scalar.cmpi .eq v8 c0_i32_37
  let v101 : BitVec 1 := Scalar.andi v99 v100
  let v102 : BitVec 32 := Scalar.extui v101
  let c15_i32 : BitVec 32 := 15#32
  let v103 : BitVec 32 := Scalar.muli v102 c15_i32
  let v104 : BitVec 32 := Scalar.addi v98 v103
  let c4_i32_171 : BitVec 32 := 4#32
  let c0_i32_172 : BitVec 32 := 0#32
  let v394 : BitVec 1 := Scalar.cmpi .eq c4_i32_171 c0_i32_172
  let c1_i32_173 : BitVec 32 := 1#32
  let v395 : BitVec 32 := Scalar.select v394 c1_i32_173 c4_i32_171
  let v396 : BitVec 32 := Scalar.remsi v104 v395
  let c0_i32_175 : BitVec 32 := 0#32
  let v398 : BitVec 1 := Scalar.cmpi .slt v396 c0_i32_175
  let c0_i32_176 : BitVec 32 := 0#32
  let v399 : BitVec 1 := Scalar.cmpi .slt v395 c0_i32_176
  let v400 : BitVec 1 := Scalar.xori v398 v399
  let c0_i32_174 : BitVec 32 := 0#32
  let v397 : BitVec 1 := Scalar.cmpi .ne v396 c0_i32_174
  let v401 : BitVec 1 := Scalar.andi v400 v397
  let v402 : BitVec 32 := Scalar.addi v396 v395
  let v403 : BitVec 32 := Scalar.select v401 v402 v396
  let v426 : BitVec 32 := Scalar.addi v403 c3_i32_191
  let c4_i32_192 : BitVec 32 := 4#32
  let c0_i32_193 : BitVec 32 := 0#32
  let v427 : BitVec 1 := Scalar.cmpi .eq c4_i32_192 c0_i32_193
  let c1_i32_194 : BitVec 32 := 1#32
  let v428 : BitVec 32 := Scalar.select v427 c1_i32_194 c4_i32_192
  let v429 : BitVec 32 := Scalar.remsi v426 v428
  let c0_i32_196 : BitVec 32 := 0#32
  let v431 : BitVec 1 := Scalar.cmpi .slt v429 c0_i32_196
  let c0_i32_197 : BitVec 32 := 0#32
  let v432 : BitVec 1 := Scalar.cmpi .slt v428 c0_i32_197
  let v433 : BitVec 1 := Scalar.xori v431 v432
  let c0_i32_195 : BitVec 32 := 0#32
  let v430 : BitVec 1 := Scalar.cmpi .ne v429 c0_i32_195
  let v434 : BitVec 1 := Scalar.andi v433 v430
  let v435 : BitVec 32 := Scalar.addi v429 v428
  let v436 : BitVec 32 := Scalar.select v434 v435 v429
  let c1024_i32_1572 : BitVec 32 := 1024#32
  let v2088 : BitVec 32 := Scalar.muli v436 c1024_i32_1572
  let v2089 : BitVec 32 := Scalar.addi v458 v2088
  let c0_i32_1574 : BitVec 32 := 0#32
  ![v2089.toNat, 0]
-- ==== ReferenceIdeal.lean ====
abbrev S8192x1024 : Shape := ⟨2, ![8192, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.IdealLoops.lean ====
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.Sem

variable {F : FTy → Type} [FloatOps F]

/-! # The kernel's body as loops

The printed body is a straight line of three hundred effects. Here it is written as the loops it was unrolled from,
over families of slices and semaphores, and shown to be the same program. -/

/-! ## Buffers -/

abbrev xA : Memref sig .tc .hbm S4096x1024 .f32 := Memref.whole main_arg0
abbrev oA : Memref sig .tc .hbm S8192x1024 .bf16 := Memref.whole main_v1
abbrev scrA : Memref sig .tc .vmem S4096x1024 .bf16 := Memref.whole cc0_scratch0
abbrev sqA : Memref sig .tc .vmem S1024x1024 .bf16 := Memref.whole cc0_scratch1
abbrev scwA : Memref sig .tc .vmem S1024x1024 .bf16 := Memref.whole cc0_scratch2
abbrev sccwA : Memref sig .tc .vmem S1024x1024 .bf16 := Memref.whole cc0_scratch3
abbrev xinA : Memref sig .tc .vmem S2x1024x1024 .f32 := Memref.whole cc0_scratch4

/-! ## Slices -/

theorem inb_st : ∀ j : Fin 16, ∀ a, (![64 * j.val, 0] : Fin 2 → Nat) a + S64x1024.size a ≤ S1024x1024.size a := by decide +kernel
theorem words_st : ∀ j : Fin 16, (Rect.unit (s := S1024x1024) ![64 * j.val, 0] S64x1024.size (inb_st j)).WholeWords (EltTy.packing .bf16) := by decide +kernel
theorem inb_xi : ∀ j : Fin 16, ∀ a, (![0, 64 * j.val, 0] : Fin 3 → Nat) a + S1x64x1024.size a ≤ S2x1024x1024.size a := by decide +kernel
theorem inb_xb : ∀ s : Fin 2, ∀ a, (![s.val, 0, 0] : Fin 3 → Nat) a + S1x1024x1024.size a ≤ S2x1024x1024.size a := by decide +kernel
theorem inb_16 : ∀ j : Fin 16, ∀ a, (![j.val] : Fin 1 → Nat) a + S1.size a ≤ S16.size a := by decide +kernel
theorem inb_6 : ∀ j : Fin 6, ∀ a, (![j.val] : Fin 1 → Nat) a + S1.size a ≤ S6.size a := by decide +kernel
theorem inb_4 : ∀ j : Fin 4, ∀ a, (![j.val] : Fin 1 → Nat) a + S1.size a ≤ S4.size a := by decide +kernel
theorem inb_3 : ∀ j : Fin 3, ∀ a, (![j.val] : Fin 1 → Nat) a + S1.size a ≤ S3.size a := by decide +kernel

/-- The `j`-th 64-row slice of a 1024-row staging buffer. -/
abbrev stSl (A : Memref sig .tc .vmem S1024x1024 .bf16) (j : Fin 16) : Memref sig .tc .vmem S64x1024 .bf16 :=
  A.slice (Rect.unit (s := S1024x1024) ![64 * j.val, 0] S64x1024.size (inb_st j)) (fun _ => rfl)

/-- The `j`-th 64-row slice of slot 0 of the input buffer. -/
abbrev xiSl (j : Fin 16) : Memref sig .tc .vmem S64x1024 .f32 :=
  (xinA.slice (Rect.unit (s := S2x1024x1024) ![0, 64 * j.val, 0] S1x64x1024.size (inb_xi j)) (fun _ => rfl)).squeeze S64x1024 squeezes_S1x64x1024_S64x1024
/-- Slot `s` of the input buffer. -/
abbrev xbSl (s : Fin 2) : Memref sig .tc .vmem S1024x1024 .f32 :=
  (xinA.slice (Rect.unit (s := S2x1024x1024) ![s.val, 0, 0] S1x1024x1024.size (inb_xb s)) (fun _ => rfl)).squeeze S1024x1024 squeezes_S1x1024x1024_S1024x1024

/-- The argument's rows of device `c`'s own block, by 64-row slices; the same rows of the converted copy. -/
abbrev aqSl (c : Dev nD) (j : Fin 16) : Memref sig .tc .hbm S64x1024 .f32 :=
  xA.slice (Rect.unit (s := S4096x1024) (k0_off1 c (BitVec.ofNat 32 (64 * j.val))) S64x1024.size (k0_off1_inb c j)) (fun _ => rfl)
abbrev scSl (c : Dev nD) (j : Fin 16) : Memref sig .tc .vmem S64x1024 .bf16 :=
  scrA.slice (Rect.unit (s := S4096x1024) (k0_off1 c (BitVec.ofNat 32 (64 * j.val))) S64x1024.size (k0_off1_inb c j)) (fun _ => rfl)
/-- The argument's block `1 + b` places after device `c`'s own. -/
abbrev abSl (c : Dev nD) (b : Fin 3) : Memref sig .tc .hbm S1024x1024 .f32 :=
  xA.slice (Rect.unit (s := S4096x1024) (k0_off2 c (BitVec.ofNat 32 (1 + b.val))) S1024x1024.size (k0_off2_inb c b)) (fun _ => rfl)

/-- The rectangles of the converted copy the vector unit writes. -/
abbrev rQ (c : Dev nD) (j : Fin 16) : Rect S4096x1024 := Rect.unit (s := S4096x1024) (k0_off3 c (BitVec.ofNat 32 (64 * j.val))) S64x1024.size (k0_off3_inb c j)
abbrev rB (c : Dev nD) (b : Fin 3) : Rect S4096x1024 := Rect.unit (s := S4096x1024) (k0_off4 c (BitVec.ofNat 32 (1 + b.val))) S1024x1024.size (k0_off4_inb c b)

/-- The slices sent straight to the partner's result, and where they land. -/
abbrev xdSrc (c : Dev nD) (i : Fin 4) : Memref sig .tc .vmem S64x1024 .bf16 :=
  scrA.slice (Rect.unit (s := S4096x1024) (k0_off6 c (BitVec.ofNat 32 (768 + 64 * i.val))) S64x1024.size (k0_off6_inb c i)) (fun _ => rfl)
abbrev xdDst (c : Dev nD) (i : Fin 4) : Memref sig .tc .hbm S64x1024 .bf16 :=
  oA.slice (Rect.unit (s := S8192x1024) (k0_off5 c (BitVec.ofNat 32 (768 + 64 * i.val))) S64x1024.size (k0_off5_inb c i)) (fun _ => rfl)

/-- The result's slices addressed by the second hop (`r` below 12) and awaited by it (`r` from 12). -/
abbrev o9 (c : Dev nD) (r : Fin 28) : Memref sig .tc .hbm S64x1024 .bf16 :=
  oA.slice (Rect.unit (s := S8192x1024) (k0_off9 c (k0_off9_at r).1 (k0_off9_at r).2) S64x1024.size (k0_off9_inb c r)) (fun _ => rfl)

/-- The result's regions the four local copies fill. -/
abbrev oMine (c : Dev nD) : Memref sig .tc .hbm S4096x1024 .bf16 :=
  oA.slice (Rect.unit (s := S8192x1024) (k0_off7 c) S4096x1024.size (k0_off7_inb c)) (fun _ => rfl)
abbrev oQ (c : Dev nD) : Memref sig .tc .hbm S1024x1024 .bf16 :=
  oA.slice (Rect.unit (s := S8192x1024) (k0_off8 c) S1024x1024.size (k0_off8_inb c)) (fun _ => rfl)
abbrev oC (c : Dev nD) (b : Fin 2) : Memref sig .tc .hbm S1024x1024 .bf16 :=
  oA.slice (Rect.unit (s := S8192x1024) (k0_off10 c (BitVec.ofNat 32 (1 + 2 * b.val))) S1024x1024.size (k0_off10_inb c b)) (fun _ => rfl)

/-! ## Semaphores -/

abbrev s16 (A : DmaSems sig S16) (j : Fin 16) : DmaSem sig := ((A.slice (Rect.unit (s := S16) ![j.val] S1.size (inb_16 j))).squeeze S_ squeezes_S1_S_).sem
abbrev s6 (A : DmaSems sig S6) (j : Fin 6) : DmaSem sig := ((A.slice (Rect.unit (s := S6) ![j.val] S1.size (inb_6 j))).squeeze S_ squeezes_S1_S_).sem
abbrev s4 (A : DmaSems sig S4) (j : Fin 4) : DmaSem sig := ((A.slice (Rect.unit (s := S4) ![j.val] S1.size (inb_4 j))).squeeze S_ squeezes_S1_S_).sem
abbrev s3 (A : DmaSems sig S3) (j : Fin 3) : DmaSem sig := ((A.slice (Rect.unit (s := S3) ![j.val] S1.size (inb_3 j))).squeeze S_ squeezes_S1_S_).sem
abbrev barS : Sem sig := (SemArray.scalar (sig.barrier 0 rfl) : Sems sig S_).sem

/-! ## The loops -/

variable (F) in
abbrev Pg := Prog (TpuEff nD τ sig (Elt F) Λ₀ .tc) PUnit

/-- Run `f` at each index of the list in turn. -/
def runL {ι : Type} (f : ι → Pg F) : List ι → Pg F
  | [] => pure ⟨⟩
  | i :: l => f i >>= fun _ => runL f l

abbrev l16 : List (Fin 16) := [0, 1, 2, 3, 4, 5, 6, 7, 8, 9, 10, 11, 12, 13, 14, 15]
abbrev l6 : List (Fin 6) := [0, 1, 2, 3, 4, 5]
abbrev l4 : List (Fin 4) := [0, 1, 2, 3]
/-- Position `k` among the slices the clockwise second hop forwards is slice `k`; -/
def lo (k : Fin 6) : Fin 16 := ⟨k.val, by omega⟩
/-- among those of the other direction, slice `6 + k`. -/
def mid (k : Fin 6) : Fin 16 := ⟨6 + k.val, by omega⟩

/-- The devices the kernel's transfers name. -/
structure Dests where
  sig1 : Dev nD
  sig2 : Dev nD
  sig3 : Dev nD
  xq : Fin 16 → Dev nD
  xd : Fin 4 → Dev nD
  cw1 : Fin 16 → Dev nD
  ccw1 : Fin 16 → Dev nD
  cw2 : Fin 6 → Dev nD
  ccw2 : Fin 6 → Dev nD

def startQ (c : Dev nD) (j : Fin 16) : Pg F :=
  Prog.lift (.enqueueDma (aqSl c j) (.here (xiSl j)) (.dma (s16 cc0_scratch18 j)) (View.wordExact_bits rfl) ((View.wordExact_bits rfl).reshape _ _) ⟨Or.inl rfl, trivial⟩)

/-- Start copying block `1 + b` into slot `s`, on semaphore `i`. -/
def startB (c : Dev nD) (b : Fin 3) (s : Fin 2) (i : Fin 3) : Pg F :=
  Prog.lift (.enqueueDma (abSl c b) (.here (xbSl s)) (.dma (s3 cc0_scratch19 i)) (View.wordExact_bits rfl) ((View.wordExact_bits rfl).reshape _ _) ⟨Or.inl rfl, trivial⟩)

def waitB (c : Dev nD) (b : Fin 3) (s : Fin 2) (i : Fin 3) : Pg F :=
  Prog.lift (.waitDma2 (s3 cc0_scratch19 i) (abSl c b) (xbSl s) (View.wordExact_bits rfl) ((View.wordExact_bits rfl).reshape _ _))

/-- Convert what slot `s` holds into block `1 + b` of the converted copy. -/
def convB (c : Dev nD) (b : Fin 3) (s : Fin 2) : Pg F := do
  let v ← Prog.lift (.load xinA (Rect.unit (s := S2x1024x1024) ![s.val, 0, 0] S1x1024x1024.size (inb_xb s)).toLoadRect (View.loadsAt_vmem h_S1x1024x1024))
  let _ ← Prog.lift (.load scrA (rB c b).toLoadRect (View.loadsAt_vmem h_S1024x1024))
  Prog.lift (.store scrA (rB c b) (k0_pay20 v) Finset.univ (View.stores_vmem h_S1024x1024 ((Memref.isWhole_whole _).storeExact_slice rfl _ (k0_off4_packedbf16 c b)) (fun _ => rfl)) (.inl rfl))

def stepQ (D : Dests) (c : Dev nD) (j : Fin 16) : Pg F := do
  Prog.lift (.waitDma2 (s16 cc0_scratch18 j) (aqSl c j) (xiSl j) (View.wordExact_bits rfl) ((View.wordExact_bits rfl).reshape _ _))
  let v ← Prog.lift (.load xinA (Rect.unit (s := S2x1024x1024) ![0, 64 * j.val, 0] S1x64x1024.size (inb_xi j)).toLoadRect (View.loadsAt_vmem h_S1x64x1024))
  let _ ← Prog.lift (.load scrA (rQ c j).toLoadRect (View.loadsAt_vmem h_S64x1024))
  Prog.lift (.store scrA (rQ c j) (k0_pay1 v) Finset.univ (View.stores_vmem h_S64x1024 ((Memref.isWhole_whole _).storeExact_slice rfl _ (k0_off3_packedbf16 c j)) (fun _ => rfl)) (.inl rfl))
  Prog.lift (.enqueueDma (scSl c j) (.remote (Dev.tc (D.xq j)) (stSl sqA j) (.dma (s16 cc0_scratch5 j))) (.dma (s16 cc0_scratch6 j))
    ((Memref.isWhole_whole _).wordExact_slice rfl _ (k0_off1_wordsbf16 c j)) ((Memref.isWhole_whole _).wordExact_slice rfl _ (words_st j)) ⟨⟨rfl, Or.inl rfl⟩, trivial⟩)

def sendXd (D : Dests) (c : Dev nD) (i : Fin 4) : Pg F :=
  Prog.lift (.enqueueDma (xdSrc c i) (.remote (Dev.tc (D.xd i)) (xdDst c i) (.dma (s4 cc0_scratch7 i))) (.dma (s4 cc0_scratch8 i))
    ((Memref.isWhole_whole _).wordExact_slice rfl _ (k0_off6_wordsbf16 c i)) ((Memref.isWhole_whole _).wordExact_slice rfl _ (k0_off5_wordsbf16 c i)) ⟨⟨rfl, Or.inl rfl⟩, trivial⟩)

/-- A wait naming slice `j` of a staging buffer twice: an arrival there. -/
def waitSt (A : Memref sig .tc .vmem S1024x1024 .bf16) (hA : A.IsWhole) (s : DmaSem sig) (j : Fin 16) : Pg F :=
  Prog.lift (.waitDma2 s (stSl A j) (stSl A j) (hA.wordExact_slice rfl _ (words_st j)) (hA.wordExact_slice rfl _ (words_st j)))

/-- Forward slice `j` of the partner's block to a neighbour's staging buffer. -/
def fwd1 (d : Dev nD) (A : Memref sig .tc .vmem S1024x1024 .bf16) (hA : A.IsWhole) (hsc : A.view.ref.isScScratch = false) (sS sR : DmaSem sig) (j : Fin 16) : Pg F :=
  Prog.lift (.enqueueDma (stSl sqA j) (.remote (Dev.tc d) (stSl A j) (.dma sS) hsc) (.dma sR)
    ((Memref.isWhole_whole _).wordExact_slice rfl _ (words_st j)) (hA.wordExact_slice rfl _ (words_st j)) ⟨⟨rfl, Or.inl rfl⟩, trivial⟩)

def step1 (D : Dests) (c : Dev nD) (j : Fin 16) : Pg F := do
  waitSt sqA (Memref.isWhole_whole _) (s16 cc0_scratch6 j) j
  fwd1 (D.cw1 j) scwA (Memref.isWhole_whole _) rfl (s16 cc0_scratch9 j) (s16 cc0_scratch10 j) j
  fwd1 (D.ccw1 j) sccwA (Memref.isWhole_whole _) rfl (s16 cc0_scratch11 j) (s16 cc0_scratch12 j) j

/-- Forward slice `j` of what a neighbour forwarded to the other neighbour's result, at slice `r`. -/
def fwd2 (c : Dev nD) (d : Dev nD) (A : Memref sig .tc .vmem S1024x1024 .bf16) (hA : A.IsWhole) (sS sR : DmaSem sig) (j : Fin 16) (r : Fin 28) : Pg F :=
  Prog.lift (.enqueueDma (stSl A j) (.remote (Dev.tc d) (o9 c r) (.dma sS)) (.dma sR)
    (hA.wordExact_slice rfl _ (words_st j)) ((Memref.isWhole_whole _).wordExact_slice rfl _ (k0_off9_wordsbf16 c r)) ⟨⟨rfl, Or.inl rfl⟩, trivial⟩)

def step2cw (D : Dests) (c : Dev nD) (k : Fin 6) : Pg F := do
  waitSt scwA (Memref.isWhole_whole _) (s16 cc0_scratch10 (lo k)) (lo k)
  fwd2 c (D.cw2 k) scwA (Memref.isWhole_whole _) (s6 cc0_scratch13 k) (s6 cc0_scratch14 k) (lo k) ⟨k.val, by omega⟩

def step2ccw (D : Dests) (c : Dev nD) (k : Fin 6) : Pg F := do
  waitSt sccwA (Memref.isWhole_whole _) (s16 cc0_scratch12 (mid k)) (mid k)
  fwd2 c (D.ccw2 k) sccwA (Memref.isWhole_whole _) (s6 cc0_scratch15 k) (s6 cc0_scratch16 k) (mid k) ⟨6 + k.val, by omega⟩

def flush (A : Memref sig .tc .vmem S1024x1024 .bf16) (hA : A.IsWhole) (dst : Memref sig .tc .hbm S1024x1024 .bf16) (hd : dst.view.WordExact) (i : Fin 4) : Pg F :=
  Prog.lift (.enqueueDma A (.here dst) (.dma (s4 cc0_scratch17 i)) hA.wordExact hd ⟨Or.inl rfl, trivial⟩)
def waitFlush (A : Memref sig .tc .vmem S1024x1024 .bf16) (hA : A.IsWhole) (dst : Memref sig .tc .hbm S1024x1024 .bf16) (hd : dst.view.WordExact) (i : Fin 4) : Pg F :=
  Prog.lift (.waitDma2 (s4 cc0_scratch17 i) A dst hA.wordExact hd)

theorem oQ_exact (c : Dev nD) : (oQ c).view.WordExact := (Memref.isWhole_whole _).wordExact_slice rfl _ (k0_off8_wordsbf16 c)
theorem oC_exact (c : Dev nD) (b : Fin 2) : (oC c b).view.WordExact := (Memref.isWhole_whole _).wordExact_slice rfl _ (k0_off10_wordsbf16 c b)

/-- A wait naming slice `r` of the result twice: an arrival there. -/
def waitO (s : DmaSem sig) (c : Dev nD) (r : Fin 28) : Pg F :=
  Prog.lift (.waitDma2 s (o9 c r) (o9 c r) ((Memref.isWhole_whole _).wordExact_slice rfl _ (k0_off9_wordsbf16 c r)) ((Memref.isWhole_whole _).wordExact_slice rfl _ (k0_off9_wordsbf16 c r)))

def sentXq (c : Dev nD) (j : Fin 16) : Pg F :=
  Prog.lift (.waitDma2 (s16 cc0_scratch5 j) (stSl sqA j) (scSl c j) ((Memref.isWhole_whole _).wordExact_slice rfl _ (words_st j)) ((Memref.isWhole_whole _).wordExact_slice rfl _ (k0_off1_wordsbf16 c j)))
def sentXd (c : Dev nD) (i : Fin 4) : Pg F :=
  Prog.lift (.waitDma2 (s4 cc0_scratch7 i) (xdDst c i) (xdSrc c i) ((Memref.isWhole_whole _).wordExact_slice rfl _ (k0_off5_wordsbf16 c i)) ((Memref.isWhole_whole _).wordExact_slice rfl _ (k0_off6_wordsbf16 c i)))
def sent1 (A : Memref sig .tc .vmem S1024x1024 .bf16) (hA : A.IsWhole) (s : DmaSem sig) (j : Fin 16) : Pg F :=
  Prog.lift (.waitDma2 s (stSl A j) (stSl sqA j) (hA.wordExact_slice rfl _ (words_st j)) ((Memref.isWhole_whole _).wordExact_slice rfl _ (words_st j)))
def sentBoth (j : Fin 16) : Pg F := do
  sent1 scwA (Memref.isWhole_whole _) (s16 cc0_scratch9 j) j
  sent1 sccwA (Memref.isWhole_whole _) (s16 cc0_scratch11 j) j
def sent2 (A : Memref sig .tc .vmem S1024x1024 .bf16) (hA : A.IsWhole) (s : DmaSem sig) (c : Dev nD) (r : Fin 28) (j : Fin 16) : Pg F :=
  Prog.lift (.waitDma2 s (o9 c r) (stSl A j) ((Memref.isWhole_whole _).wordExact_slice rfl _ (k0_off9_wordsbf16 c r)) (hA.wordExact_slice rfl _ (words_st j)))

def flushMine (c : Dev nD) : Pg F :=
  Prog.lift (.enqueueDma scrA (.here (oMine c)) (.dma (s4 cc0_scratch17 0)) (Memref.isWhole_whole _).wordExact ((Memref.isWhole_whole _).wordExact_slice rfl _ (k0_off7_wordsbf16 c)) ⟨Or.inl rfl, trivial⟩)
def waitMine (c : Dev nD) : Pg F :=
  Prog.lift (.waitDma2 (s4 cc0_scratch17 0) scrA (oMine c) (Memref.isWhole_whole _).wordExact ((Memref.isWhole_whole _).wordExact_slice rfl _ (k0_off7_wordsbf16 c)))

/-- The handshake: a unit to each device this one exchanges data with, and a wait for theirs. -/
def handshake (D : Dests) : Pg F := do
  semSignalWord D.sig1 barS 1#32
  semSignalWord D.sig2 barS 1#32
  semSignalWord D.sig3 barS 1#32
  semWaitWord barS 3#32

/-- Convert the argument, sending the own block's slices to the partner as they are ready. -/
def convert (D : Dests) (c : Dev nD) : Pg F := do
  runL (startQ c) l16
  startB c 1 1 0
  runL (stepQ D c) l16
  waitB c 1 1 0
  startB c 0 0 1
  convB c 1 1
  runL (sendXd D c) l4
  waitB c 0 0 1
  startB c 2 1 2
  convB c 0 0
  waitB c 2 1 2
  convB c 2 1
  flushMine c

/-- The two hops around the ring, each buffer copied out when it is full. -/
def hops (D : Dests) (c : Dev nD) : Pg F := do
  runL (step1 D c) l16
  flush sqA (Memref.isWhole_whole _) (oQ c) (oQ_exact c) 1
  runL (step2cw D c) l6
  runL (step2ccw D c) l6
  runL (fun j => waitSt scwA (Memref.isWhole_whole _) (s16 cc0_scratch10 j) j) [6, 7, 8, 9, 10, 11, 12, 13, 14, 15]
  flush scwA (Memref.isWhole_whole _) (oC c 1) (oC_exact c 1) 2
  runL (fun j => waitSt sccwA (Memref.isWhole_whole _) (s16 cc0_scratch12 j) j) [0, 1, 2, 3, 4, 5, 12, 13, 14, 15]
  flush sccwA (Memref.isWhole_whole _) (oC c 0) (oC_exact c 0) 3

/-- The last arrivals. -/
def arrivals (c : Dev nD) : Pg F := do
  runL (fun i : Fin 4 => waitO (s4 cc0_scratch8 i) c ⟨12 + i.val, by omega⟩) l4
  runL (fun k : Fin 6 => waitO (s6 cc0_scratch14 k) c ⟨16 + k.val, by omega⟩) l6
  runL (fun k : Fin 6 => waitO (s6 cc0_scratch16 k) c ⟨22 + k.val, by omega⟩) l6

/-- Every transfer this device issued has left, and every local copy has landed. -/
def drain (c : Dev nD) : Pg F := do
  runL (sentXq c) l16
  runL (sentXd c) l4
  runL sentBoth l16
  runL (fun k : Fin 6 => sent2 scwA (Memref.isWhole_whole _) (s6 cc0_scratch13 k) c ⟨k.val, by omega⟩ (lo k)) l6
  runL (fun k : Fin 6 => sent2 sccwA (Memref.isWhole_whole _) (s6 cc0_scratch15 k) c ⟨6 + k.val, by omega⟩ (mid k)) l6
  waitMine c
  waitFlush sqA (Memref.isWhole_whole _) (oQ c) (oQ_exact c) 1
  waitFlush scwA (Memref.isWhole_whole _) (oC c 1) (oC_exact c 1) 2
  waitFlush sccwA (Memref.isWhole_whole _) (oC c 0) (oC_exact c 0) 3

def loops (D : Dests) (c : Dev nD) : Pg F := do
  handshake D
  convert D c
  hops D c
  arrivals c
  drain c

/-- The devices as the kernel computes them. -/
def printedDests (c : Dev nD) : Dests where
  sig1 := ⟨k0_dev1 c, k0_dev1_lt c⟩
  sig2 := ⟨k0_dev2 c, k0_dev2_lt c⟩
  sig3 := ⟨k0_dev3 c, k0_dev3_lt c⟩
  xq := ![⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩]
  xd := ![⟨k0_dev20 c, k0_dev20_lt c⟩, ⟨k0_dev21 c, k0_dev21_lt c⟩, ⟨k0_dev22 c, k0_dev22_lt c⟩, ⟨k0_dev23 c, k0_dev23_lt c⟩]
  cw1 := ![⟨k0_dev24 c, k0_dev24_lt c⟩, ⟨k0_dev26 c, k0_dev26_lt c⟩, ⟨k0_dev28 c, k0_dev28_lt c⟩, ⟨k0_dev30 c, k0_dev30_lt c⟩, ⟨k0_dev32 c, k0_dev32_lt c⟩, ⟨k0_dev34 c, k0_dev34_lt c⟩, ⟨k0_dev36 c, k0_dev36_lt c⟩, ⟨k0_dev38 c, k0_dev38_lt c⟩, ⟨k0_dev40 c, k0_dev40_lt c⟩, ⟨k0_dev42 c, k0_dev42_lt c⟩, ⟨k0_dev44 c, k0_dev44_lt c⟩, ⟨k0_dev46 c, k0_dev46_lt c⟩, ⟨k0_dev48 c, k0_dev48_lt c⟩, ⟨k0_dev50 c, k0_dev50_lt c⟩, ⟨k0_dev52 c, k0_dev52_lt c⟩, ⟨k0_dev54 c, k0_dev54_lt c⟩]
  ccw1 := ![⟨k0_dev25 c, k0_dev25_lt c⟩, ⟨k0_dev27 c, k0_dev27_lt c⟩, ⟨k0_dev29 c, k0_dev29_lt c⟩, ⟨k0_dev31 c, k0_dev31_lt c⟩, ⟨k0_dev33 c, k0_dev33_lt c⟩, ⟨k0_dev35 c, k0_dev35_lt c⟩, ⟨k0_dev37 c, k0_dev37_lt c⟩, ⟨k0_dev39 c, k0_dev39_lt c⟩, ⟨k0_dev41 c, k0_dev41_lt c⟩, ⟨k0_dev43 c, k0_dev43_lt c⟩, ⟨k0_dev45 c, k0_dev45_lt c⟩, ⟨k0_dev47 c, k0_dev47_lt c⟩, ⟨k0_dev49 c, k0_dev49_lt c⟩, ⟨k0_dev51 c, k0_dev51_lt c⟩, ⟨k0_dev53 c, k0_dev53_lt c⟩, ⟨k0_dev55 c, k0_dev55_lt c⟩]
  cw2 := ![⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩]
  ccw2 := ![⟨k0_dev62 c, k0_dev62_lt c⟩, ⟨k0_dev63 c, k0_dev63_lt c⟩, ⟨k0_dev64 c, k0_dev64_lt c⟩, ⟨k0_dev65 c, k0_dev65_lt c⟩, ⟨k0_dev66 c, k0_dev66_lt c⟩, ⟨k0_dev67 c, k0_dev67_lt c⟩]

set_option maxRecDepth 100000 in
set_option maxHeartbeats 8000000 in
/-- The printed body is the loops. -/
theorem body_eq_loops (t : Fin cfg0.N) :
    bodyAt0 (F := F) t = (Prog.lift .deviceId >>= fun c => loops (printedDests c) c) := by
  unfold bodyAt0
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton]
  dsimp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part87_skel, Prog.lift, Prog.bind_op, Prog.bind_ret, Prog.pure_eq_ret, semSignalWord, semWaitWord]
  dsimp only [loops, handshake, convert, hops, arrivals, drain, runL, l16, l6, l4, lo, mid, startQ, startB, waitB, convB, stepQ, sendXd, waitSt, fwd1, step1, fwd2, step2cw, step2ccw, flush, waitFlush, waitO, sentXq, sentXd, sent1, sentBoth, sent2, flushMine, waitMine, Prog.lift, Prog.bind_op, Prog.bind_ret, Prog.pure_eq_ret, semSignalWord, semWaitWord]
  rfl
end Cert.KernelIdealRun
end
-- ==== Proof.IdealMesh.lean ====
module

public import proofs.«01_k».proof.Proof.IdealLoops

@[expose] public section

noncomputable section

namespace Cert.KernelIdealRun

open Cert.KernelIdeal Cert.KernelIdeal.Gen
open Idealize.ShloMosaic
open Idealize.ShloMosaic.TcCoe
open Idealize.SL Idealize.SL.Sem

/-! # The mesh: who talks to whom, and which rows each copy moves

Device `c` sits at `x = c / 16` on the first axis; the sixteen devices of one `x` form a ring, walked in a snake over
the other two axes. Four consecutive ring positions start at the four row blocks of the argument in turn. -/

/-- The device at each ring position, and the position of each device. -/
def ringAt : Fin 16 → Fin 16 := ![0, 1, 2, 3, 7, 6, 5, 9, 10, 11, 15, 14, 13, 12, 8, 4]
@[inherit_doc ringAt] def ringPos : Fin 16 → Fin 16 := ![0, 1, 2, 3, 15, 6, 5, 4, 14, 7, 8, 9, 13, 12, 11, 10]

/-- The device's coordinate on the axis the argument is split along. -/
def hx (c : Dev nD) : ℕ := c.val / 16
/-- The device's place on its ring. -/
def pos (c : Dev nD) : Fin 16 := ringPos ⟨c.val % 16, Nat.mod_lt _ (by omega)⟩
/-- The row block the device starts with. -/
def qb (c : Dev nD) : ℕ := (pos c).val % 4

theorem hx_lt : ∀ c : Dev nD, hx c < 2 := by decide +kernel
theorem qb_lt (c : Dev nD) : qb c < 4 := Nat.mod_lt _ (by omega)

/-- The device with the other half of the result at the same ring position. -/
def partner : Equiv.Perm (Dev nD) where
  toFun c := ⟨(c.val + 16) % 32, Nat.mod_lt _ (by decide)⟩
  invFun c := ⟨(c.val + 16) % 32, Nat.mod_lt _ (by decide)⟩
  left_inv := by decide +kernel
  right_inv := by decide +kernel

/-- The device `k` places further along the ring. -/
def along (k : Fin 16) (c : Dev nD) : Dev nD :=
  ⟨16 * (hx c) + (ringAt (pos c + k)).val, by have := hx_lt c; have := (ringAt (pos c + k)).isLt; show _ < 32; omega⟩

/-- The next device of the ring; its inverse is the previous one. -/
def right : Equiv.Perm (Dev nD) where
  toFun := along 1
  invFun := along 15
  left_inv := by decide +kernel
  right_inv := by decide +kernel
/-- The previous device of the ring. -/
def left : Equiv.Perm (Dev nD) := right.symm

theorem partner_partner : ∀ c, partner (partner c) = c := by decide +kernel
theorem left_right : ∀ c, left (right c) = c := by decide +kernel
theorem right_left : ∀ c, right (left c) = c := by decide +kernel
theorem qb_partner : ∀ c, qb (partner c) = qb c := by decide +kernel
theorem qb_right : ∀ c, qb (right c) = (qb c + 1) % 4 := by decide +kernel
theorem qb_left : ∀ c, qb (left c) = (qb c + 3) % 4 := by decide +kernel
theorem hx_partner : ∀ c, hx (partner c) = 1 - hx c := by decide +kernel
theorem hx_right : ∀ c, hx (right c) = hx c := by decide +kernel
theorem hx_left : ∀ c, hx (left c) = hx c := by decide +kernel

/-- Where each transfer of device `c` goes. -/
def dests (c : Dev nD) : Dests where
  sig1 := partner c
  sig2 := left c
  sig3 := right c
  xq _ := partner c
  xd _ := partner c
  cw1 _ := right c
  ccw1 _ := left c
  cw2 _ := right c
  ccw2 _ := left c

theorem ext_dests {D D' : Dests} (h1 : D.sig1 = D'.sig1) (h2 : D.sig2 = D'.sig2) (h3 : D.sig3 = D'.sig3) (h4 : ∀ j, D.xq j = D'.xq j)
    (h5 : ∀ j, D.xd j = D'.xd j) (h6 : ∀ j, D.cw1 j = D'.cw1 j) (h7 : ∀ j, D.ccw1 j = D'.ccw1 j) (h8 : ∀ j, D.cw2 j = D'.cw2 j)
    (h9 : ∀ j, D.ccw2 j = D'.ccw2 j) : D = D' := by
  cases D; cases D'; simp only at *
  simp only [Dests.mk.injEq]; exact ⟨h1, h2, h3, funext h4, funext h5, funext h6, funext h7, funext h8, funext h9⟩

/-- The devices the kernel computes are these. -/
theorem printedDests_eq (c : Dev nD) : printedDests c = dests c := by
  revert c
  have h : ∀ c, (printedDests c).sig1 = (dests c).sig1 ∧ (printedDests c).sig2 = (dests c).sig2 ∧ (printedDests c).sig3 = (dests c).sig3
      ∧ (∀ j, (printedDests c).xq j = (dests c).xq j) ∧ (∀ j, (printedDests c).xd j = (dests c).xd j)
      ∧ (∀ j, (printedDests c).cw1 j = (dests c).cw1 j) ∧ (∀ j, (printedDests c).ccw1 j = (dests c).ccw1 j)
      ∧ (∀ j, (printedDests c).cw2 j = (dests c).cw2 j) ∧ (∀ j, (printedDests c).ccw2 j = (dests c).ccw2 j) := by decide +kernel
  intro c
  obtain ⟨h1, h2, h3, h4, h5, h6, h7, h8, h9⟩ := h c
  exact ext_dests h1 h2 h3 h4 h5 h6 h7 h8 h9

/-! ## Rows -/

/-- First row of the argument's block `i` places after device `c`'s own. -/
def blk (c : Dev nD) (i : ℕ) : ℕ := 1024 * ((qb c + i) % 4)
/-- First row of the half of the result device `c` holds the argument of, and of the other half. -/
def own (c : Dev nD) : ℕ := 4096 * hx c
@[inherit_doc own] def opp (c : Dev nD) : ℕ := 4096 * (1 - hx c)

theorem off1_eq : ∀ (c : Dev nD) (j : Fin 16), k0_off1 c (BitVec.ofNat 32 (64 * j.val)) = ![blk c 0 + 64 * j.val, 0] := by decide +kernel
theorem off2_eq : ∀ (c : Dev nD) (b : Fin 3), k0_off2 c (BitVec.ofNat 32 (1 + b.val)) = ![blk c (1 + b.val), 0] := by decide +kernel
theorem off3_eq : ∀ (c : Dev nD) (j : Fin 16), k0_off3 c (BitVec.ofNat 32 (64 * j.val)) = ![blk c 0 + 64 * j.val, 0] := by decide +kernel
theorem off4_eq : ∀ (c : Dev nD) (b : Fin 3), k0_off4 c (BitVec.ofNat 32 (1 + b.val)) = ![blk c (1 + b.val), 0] := by decide +kernel
theorem off5_eq : ∀ (c : Dev nD) (i : Fin 4), k0_off5 c (BitVec.ofNat 32 (768 + 64 * i.val)) = ![own c + blk c 2 + 768 + 64 * i.val, 0] := by decide +kernel
theorem off6_eq : ∀ (c : Dev nD) (i : Fin 4), k0_off6 c (BitVec.ofNat 32 (768 + 64 * i.val)) = ![blk c 2 + 768 + 64 * i.val, 0] := by decide +kernel
theorem off7_eq : ∀ (c : Dev nD), k0_off7 c = ![own c, 0] := by decide +kernel
theorem off8_eq : ∀ (c : Dev nD), k0_off8 c = ![opp c + blk c 0, 0] := by decide +kernel
theorem off10_eq : ∀ (c : Dev nD) (b : Fin 2), k0_off10 c (BitVec.ofNat 32 (1 + 2 * b.val)) = ![opp c + blk c (1 + 2 * b.val), 0] := by decide +kernel

/-- First row of the result's slice `r` of the second hop. -/
def row9 (c : Dev nD) (r : ℕ) : ℕ :=
  if r < 6 then opp c + blk c 3 + 64 * r
  else if r < 12 then opp c + blk c 1 + 64 * r
  else if r < 16 then opp c + blk c 2 + 768 + 64 * (r - 12)
  else opp c + blk c 2 + 64 * (r - 16)
theorem off9_eq : ∀ (c : Dev nD) (r : Fin 28), k0_off9 c (k0_off9_at r).1 (k0_off9_at r).2 = ![row9 c r.val, 0] := by decide +kernel

end Cert.KernelIdealRun

end
-- ==== Proof.IdealSets.lean ====
module

public import proofs.«01_k».proof.Proof.IdealMesh
public import Idealize.ShloMosaic.Lib.Rounds
public import Idealize.ShloMosaic.Lib.Pipeline.BigSepL

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # Bands of rows

Every slice the kernel moves is a run of whole rows of 1024 elements of its buffer, so a slice is the band of rows it
covers and contents are functions of the element's position in row-major order. -/

/-- The row-major position of an element of a buffer. -/
def fl (b : Ref sig .tc) (i : b.ty.shape.Idx) : ℕ := (b.ty.shape.rowMajor i).val

/-- The elements of the `n` rows from row `lo`. -/
def band (b : Ref sig .tc) (lo n : ℕ) : Finset b.ty.shape.Idx :=
  Finset.univ.filter fun i => 1024 * lo ≤ fl b i ∧ fl b i < 1024 * (lo + n)

theorem mem_band {b : Ref sig .tc} {lo n : ℕ} {i : b.ty.shape.Idx} : i ∈ band b lo n ↔ 1024 * lo ≤ fl b i ∧ fl b i < 1024 * (lo + n) := by
  unfold band; simp

/-- The contents given by a function of the position. -/
def fill (b : Ref sig .tc) (g : ℕ → Elt F b.ty.elt) : b.ty.Contents (Elt F) := fun i => g (fl b i)

/-- A view whose elements are, in order, the `n` rows from row `lo` of its buffer. -/
structure Contig {sp : Space} {s : Shape} {e : EltTy} (v : View sig .tc sp s e) (lo n : ℕ) : Prop where
  pos : ∀ x, fl v.ref (v.emb x) = 1024 * lo + (s.rowMajor x).val
  num : s.numel = 1024 * n

theorem contig_whole (b : Ref sig .tc) {n : ℕ} (h : b.ty.shape.numel = 1024 * n) : Contig (View.whole b) 0 n :=
  ⟨fun x => by rw [Nat.mul_zero, Nat.zero_add]; rfl, h⟩

theorem Contig.reshape {sp : Space} {s s' : Shape} {e : EltTy} {v : View sig .tc sp s e} {lo n : ℕ} (h : Contig v lo n) (hn : s'.numel = s.numel) :
    Contig (v.reshape s' hn) lo n :=
  ⟨fun x => by
    have := h.pos (Shape.reshapeEquiv hn x)
    rw [Shape.rowMajor_reshapeEquiv] at this
    exact this, hn.trans h.num⟩

theorem numel_two (a b : ℕ) : (⟨2, ![a, b]⟩ : Shape).numel = a * b := by
  simp [Shape.numel, Fin.prod_univ_two]

theorem numel_three (a b c : ℕ) : (⟨3, ![a, b, c]⟩ : Shape).numel = a * b * c := by
  simp [Shape.numel, Fin.prod_univ_three]

/-- A slice of whole rows of a view of rows. -/
theorem Contig.slice_two {sp : Space} {e : EltTy} {R n o lo lo' N : ℕ} {v : View sig .tc sp ⟨2, ![R, 1024]⟩ e} (h : Contig v lo N)
    (off : Fin 2 → ℕ) (hoff : off = ![o, 0]) (hlo : lo' = lo + o)
    (hin : ∀ a, off a + (⟨2, ![n, 1024]⟩ : Shape).size a ≤ (⟨2, ![R, 1024]⟩ : Shape).size a) :
    Contig (v.slice (Rect.unit (s := ⟨2, ![R, 1024]⟩) off (⟨2, ![n, 1024]⟩ : Shape).size hin)) lo' n := by
  subst hoff hlo
  refine ⟨fun x => ?_, ?_⟩
  · show fl v.ref (v.emb (Rect.emb _ x)) = _
    rw [h.pos, Shape.rowMajor_val_two, Shape.rowMajor_val_two]
    show 1024 * lo + ((o + 1 * (x 0).val) * 1024 + (0 + 1 * (x 1).val)) = 1024 * (lo + o) + ((x 0).val * 1024 + (x 1).val)
    omega
  · show (⟨2, ![n, 1024]⟩ : Shape).numel = _
    rw [numel_two, Nat.mul_comm]

/-- A slice of whole rows of one slot of a two-slot buffer. -/
theorem Contig.slice_three {sp : Space} {e : EltTy} {S R n o t lo lo' N : ℕ} {v : View sig .tc sp ⟨3, ![S, R, 1024]⟩ e} (h : Contig v lo N)
    (off : Fin 3 → ℕ) (hoff : off = ![t, o, 0]) (hlo : lo' = lo + (R * t + o))
    (hin : ∀ a, off a + (⟨3, ![1, n, 1024]⟩ : Shape).size a ≤ (⟨3, ![S, R, 1024]⟩ : Shape).size a) :
    Contig (v.slice (Rect.unit (s := ⟨3, ![S, R, 1024]⟩) off (⟨3, ![1, n, 1024]⟩ : Shape).size hin)) lo' n := by
  subst hoff hlo
  refine ⟨fun x => ?_, ?_⟩
  · have h0 : (x 0).val = 0 := by have := (x 0).isLt; change (x 0).val < 1 at this; omega
    show fl v.ref (v.emb (Rect.emb _ x)) = _
    rw [h.pos, Shape.rowMajor_val_three, Shape.rowMajor_val_three]
    show 1024 * lo + (((t + 1 * (x 0).val) * R + (o + 1 * (x 1).val)) * 1024 + (0 + 1 * (x 2).val)) = 1024 * (lo + (R * t + o)) + (((x 0).val * n + (x 1).val) * 1024 + (x 2).val)
    rw [h0, Nat.mul_zero, Nat.add_zero, Nat.mul_comm t R, Nat.zero_mul]; omega
  · show (⟨3, ![1, n, 1024]⟩ : Shape).numel = _
    rw [numel_three, Nat.one_mul, Nat.mul_comm]

theorem Contig.set_eq {sp : Space} {s : Shape} {e : EltTy} {v : View sig .tc sp s e} {lo n : ℕ} (h : Contig v lo n) : v.set = band v.ref lo n := by
  ext i
  rw [mem_band]
  constructor
  · intro hi
    obtain ⟨x, -, rfl⟩ := Finset.mem_map.1 hi
    have hp := h.pos x
    have hx := (s.rowMajor x).isLt
    have hn := h.num
    constructor <;> omega
  · rintro ⟨h1, h2⟩
    have hlt : fl v.ref i - 1024 * lo < s.numel := by rw [h.num]; omega
    have he : v.emb (s.rowMajor.symm ⟨fl v.ref i - 1024 * lo, hlt⟩) = i := by
      apply v.ref.ty.shape.rowMajor.injective
      apply Fin.ext
      have := h.pos (s.rowMajor.symm ⟨fl v.ref i - 1024 * lo, hlt⟩)
      rw [Equiv.apply_symm_apply] at this
      change fl v.ref _ = fl v.ref i
      rw [this]; simp only; omega
    exact he ▸ v.emb_mem_set _

theorem Contig.read_fill {sp : Space} {s : Shape} {e : EltTy} {v : View sig .tc sp s e} {lo n : ℕ} (h : Contig v lo n)
    (g : ℕ → Elt F v.ref.ty.elt) (x : s.Idx) :
    v.read (Elt F) (fill v.ref g) x = cast (congrArg (Elt F) v.elt_eq) (g (1024 * lo + (s.rowMajor x).val)) := by
  rw [View.read_apply]; unfold fill; rw [h.pos]

/-- What is read back through a written view is what was written, so the band holds whatever contents read as that. -/
theorem Contig.landed {sp : Space} {s : Shape} {e : EltTy} {v : View sig .tc sp s e} {lo n : ℕ} (h : Contig v lo n)
    (g : ℕ → Elt F v.ref.ty.elt) (f : v.ty.Contents (Elt F)) (w : s.Idx → Elt F e)
    (hw : ∀ x, v.read (Elt F) (fill v.ref g) x = w x) :
    ∀ i ∈ v.set, v.write (Elt F) f w Finset.univ i = fill v.ref g i := by
  intro i hi
  obtain ⟨x, -, rfl⟩ := Finset.mem_map.1 hi
  rw [View.write_emb_of_mem _ _ (Finset.mem_univ x), ← hw x, View.read_apply]
  simp

/-! ## The kernel's slices -/

theorem c_x : Contig xA.view 0 4096 := contig_whole _ (numel_two _ _)
theorem c_o : Contig oA.view 0 8192 := contig_whole _ (numel_two _ _)
theorem c_scr : Contig scrA.view 0 4096 := contig_whole _ (numel_two _ _)
theorem c_sq : Contig sqA.view 0 1024 := contig_whole _ (numel_two _ _)
theorem c_scw : Contig scwA.view 0 1024 := contig_whole _ (numel_two _ _)
theorem c_sccw : Contig sccwA.view 0 1024 := contig_whole _ (numel_two _ _)
theorem c_xin : Contig xinA.view 0 2048 := contig_whole _ (numel_three _ _ _)

theorem c_st {A : Memref sig .tc .vmem S1024x1024 .bf16} (h : Contig A.view 0 1024) (j : Fin 16) : Contig (stSl A j).view (64 * j.val) 64 :=
  h.slice_two _ rfl (Nat.zero_add _).symm _
theorem c_xiA (j : Fin 16) : Contig (xinA.access (Rect.unit (s := S2x1024x1024) ![0, 64 * j.val, 0] S1x64x1024.size (inb_xi j))) (64 * j.val) 64 :=
  c_xin.slice_three _ rfl (by omega) _
theorem c_xi (j : Fin 16) : Contig (xiSl j).view (64 * j.val) 64 := (c_xiA j).reshape _
theorem c_xbA (s : Fin 2) : Contig (xinA.access (Rect.unit (s := S2x1024x1024) ![s.val, 0, 0] S1x1024x1024.size (inb_xb s))) (1024 * s.val) 1024 :=
  c_xin.slice_three _ rfl (by omega) _
theorem c_xb (s : Fin 2) : Contig (xbSl s).view (1024 * s.val) 1024 := (c_xbA s).reshape _
theorem c_aq (c : Dev nD) (j : Fin 16) : Contig (aqSl c j).view (blk c 0 + 64 * j.val) 64 :=
  c_x.slice_two _ (off1_eq c j) (Nat.zero_add _).symm _
theorem c_sc (c : Dev nD) (j : Fin 16) : Contig (scSl c j).view (blk c 0 + 64 * j.val) 64 :=
  c_scr.slice_two _ (off1_eq c j) (Nat.zero_add _).symm _
theorem c_ab (c : Dev nD) (b : Fin 3) : Contig (abSl c b).view (blk c (1 + b.val)) 1024 :=
  c_x.slice_two _ (off2_eq c b) (Nat.zero_add _).symm _
theorem c_rQ (c : Dev nD) (j : Fin 16) : Contig (scrA.access (rQ c j)) (blk c 0 + 64 * j.val) 64 :=
  c_scr.slice_two _ (off3_eq c j) (Nat.zero_add _).symm _
theorem c_rB (c : Dev nD) (b : Fin 3) : Contig (scrA.access (rB c b)) (blk c (1 + b.val)) 1024 :=
  c_scr.slice_two _ (off4_eq c b) (Nat.zero_add _).symm _
theorem c_xdS (c : Dev nD) (i : Fin 4) : Contig (xdSrc c i).view (blk c 2 + 768 + 64 * i.val) 64 :=
  c_scr.slice_two _ (off6_eq c i) (Nat.zero_add _).symm _
theorem c_xdD (c : Dev nD) (i : Fin 4) : Contig (xdDst c i).view (own c + blk c 2 + 768 + 64 * i.val) 64 :=
  c_o.slice_two _ (off5_eq c i) (Nat.zero_add _).symm _
theorem c_o9 (c : Dev nD) (r : Fin 28) : Contig (o9 c r).view (row9 c r) 64 :=
  c_o.slice_two _ (off9_eq c r) (Nat.zero_add _).symm _
theorem c_mine (c : Dev nD) : Contig (oMine c).view (own c) 4096 :=
  c_o.slice_two _ (off7_eq c) (Nat.zero_add _).symm _
theorem c_oQ (c : Dev nD) : Contig (oQ c).view (opp c + blk c 0) 1024 :=
  c_o.slice_two _ (off8_eq c) (Nat.zero_add _).symm _
theorem c_oC (c : Dev nD) (b : Fin 2) : Contig (oC c b).view (opp c + blk c (1 + 2 * b.val)) 1024 :=
  c_o.slice_two _ (off10_eq c b) (Nat.zero_add _).symm _

/-! ## Ownership of bands -/

abbrev D := Fin 3
abbrev UB := URounds (GSem nD τ sig) D
abbrev UU := UR sig nD τ × UB

local notation "𝕄" => MT nD τ sig Unit (Elt F) ℕ UU ℕ

theorem bi_eq {P Q : sProp 𝕄} (h : P ⊣⊢ Q) : P = Q := equiv_iff.mp ⟨h.1, h.2⟩

/-- Share `q` of device `c`'s band of `n` rows from row `lo` of `b`, holding `g`. -/
def pt (b : Ref sig .tc) (c : Dev nD) (q : PosShare TreeShare) (lo n : ℕ) (g : ℕ → Elt F b.ty.elt) : sProp 𝕄 :=
  iprop((c : Thread nD τ).loc b ↦[band b lo n]{q} fill b g)

/-- The band at contents nobody relies on. -/
def pa (b : Ref sig .tc) (c : Dev nD) (lo n : ℕ) : sProp 𝕄 :=
  iprop(∃ f, (c : Thread nD τ).loc b ↦[band b lo n]{fullShare} f)

theorem pt_pa (b : Ref sig .tc) (c : Dev nD) (lo n : ℕ) (g : ℕ → Elt F b.ty.elt) : pt b c fullShare lo n g ⊢ pa b c lo n := by
  unfold pt pa; iintro H; iexists (fill b g); iexact H

theorem band_add (b : Ref sig .tc) (lo n k : ℕ) : band b lo (n + k) = band b lo n ∪ band b (lo + n) k := by
  ext i; simp only [Finset.mem_union, mem_band]; omega

theorem band_disj (b : Ref sig .tc) {lo n lo' n' : ℕ} (h : lo + n ≤ lo' ∨ lo' + n' ≤ lo) : Disjoint (band b lo n) (band b lo' n') := by
  rw [Finset.disjoint_left]; intro i; simp only [mem_band]; omega

theorem band_whole (b : Ref sig .tc) {n : ℕ} (h : b.ty.shape.numel = 1024 * n) : band b 0 n = Finset.univ := by
  ext i; rw [mem_band]
  have := (b.ty.shape.rowMajor i).isLt
  simp only [Finset.mem_univ, iff_true]
  change 1024 * 0 ≤ (b.ty.shape.rowMajor i).val ∧ (b.ty.shape.rowMajor i).val < _
  omega

theorem pt_add (b : Ref sig .tc) (c : Dev nD) (q : PosShare TreeShare) (lo n k : ℕ) (g : ℕ → Elt F b.ty.elt) :
    pt b c q lo (n + k) g = iprop(pt b c q lo n g ∗ pt b c q (lo + n) k g) := by
  unfold pt; rw [band_add]
  exact bi_eq (pointsTo_union (ℓ := (c : Thread nD τ).loc b) (I := band b lo n) (J := band b (lo + n) k) (band_disj b (Or.inl le_rfl)))

theorem pa_add (b : Ref sig .tc) (c : Dev nD) (lo n k : ℕ) :
    pa (F := F) b c lo (n + k) = iprop(pa b c lo n ∗ pa b c (lo + n) k) := by
  apply bi_eq
  unfold pa; rw [band_add]
  constructor
  · iintro ⟨%f, H⟩
    ihave H := (pointsTo_union (ℓ := (c : Thread nD τ).loc b) (I := band b lo n) (J := band b (lo + n) k) (band_disj b (Or.inl le_rfl))).1 $$ H
    icases H with ⟨H1, H2⟩
    isplitl [H1]
    · iexists f; iexact H1
    · iexists f; iexact H2
  · iintro ⟨⟨%f, H1⟩, ⟨%f', H2⟩⟩
    iexists _
    iapply (pointsTo_join (ℓ := (c : Thread nD τ).loc b) (I := band b lo n) (J := band b (lo + n) k) (band_disj b (Or.inl le_rfl)))
    isplitl [H1]
    · iexact H1
    · iexact H2

/-- A property of bands that is additive splits into equal pieces. -/
theorem split_bands {Φ : ℕ → ℕ → sProp 𝕄} (hadd : ∀ lo n k, Φ lo (n + k) = iprop(Φ lo n ∗ Φ (lo + n) k)) (n : ℕ) :
    ∀ (k lo : ℕ), Φ lo (n * (k + 1)) = bigSepL (List.finRange (k + 1)) fun j => Φ (lo + n * j.val) n
  | 0, lo => by rw [show List.finRange (0 + 1) = [0] from rfl, bigSepL_singleton]; simp
  | k + 1, lo => by
    rw [List.finRange_succ, bigSepL_cons, bigSepL_map, show n * (k + 1 + 1) = n + n * (k + 1) by rw [Nat.mul_succ n (k + 1), Nat.add_comm], hadd,
      split_bands hadd n k (lo + n)]
    congr 1
    congr 1; funext j
    rw [show lo + n * (Fin.succ j).val = lo + n + n * j.val by rw [Fin.val_succ, Nat.mul_succ]; omega]

theorem shares (b : Ref sig .tc) (c : Dev nD) (q : PosShare TreeShare) (lo n : ℕ) (g : ℕ → Elt F b.ty.elt) :
    pt b c q lo n g = iprop(pt b c q.left lo n g ∗ pt b c q.right lo n g) :=
  bi_eq (pointsTo_share (PosShare.mem_left_op_right q))

end Cert.KernelIdealRun
end
-- ==== Proof.IdealSched.lean ====
module

public import proofs.«01_k».proof.Proof.IdealSets

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # What every buffer holds, and what every semaphore hands over -/

local notation "𝕄" => MT nD τ sig Unit (Elt F) ℕ UU ℕ

abbrev EP : Emb (UR sig nD τ) 𝕄 := embL
abbrev ER : Emb UB 𝕄 := embR

variable (m : (ℓ : Loc nD τ sig) → Buf (Elt F) ℓ) (ρ : Dev nD → PrngReg)

/-! ## Contents -/

/-- Device `c`'s argument, by position. -/
def xv (c : Dev nD) (t : ℕ) : Elt F .f32 :=
  m ((c : Thread nD τ).loc main_arg0) (S4096x1024.rowMajor.symm ⟨t % S4096x1024.numel, Nat.mod_lt _ (by decide)⟩)

theorem fill_xv (c : Dev nD) : fill main_arg0 (xv m c) = m ((c : Thread nD τ).loc main_arg0) := by
  funext i
  unfold fill xv
  congr 1
  apply S4096x1024.rowMajor.injective
  rw [Equiv.apply_symm_apply]
  exact Fin.ext (Nat.mod_eq_of_lt (S4096x1024.rowMajor i).isLt)

/-- Device `c`'s argument, converted. -/
def cv (c : Dev nD) (t : ℕ) : Elt F .bf16 := FloatOps.truncf (F := F) .bf16 bitsLt_bf16_f32 (xv m c t)

/-- The device whose argument row `r` of device `c`'s result comes from. -/
def src (c : Dev nD) (r : ℕ) : Dev nD :=
  if r / 4096 = hx c then c
  else if r % 4096 / 1024 = qb c then partner c
  else if r % 4096 / 1024 = (qb c + 3) % 4 then partner (left c)
  else if r % 4096 / 1024 = (qb c + 1) % 4 then partner (right c)
  else if r % 1024 < 384 then partner (left (left c))
  else if r % 1024 < 768 then partner (right (right c))
  else partner c

/-- What device `c`'s result is to hold. -/
def G (c : Dev nD) (t : ℕ) : Elt F .bf16 := cv m (src c (t / 1024)) (t % 4194304)

/-- What device `c`'s three staging buffers are to hold: its partner's block, and its neighbours' partners'. -/
def vq (c : Dev nD) (t : ℕ) : Elt F .bf16 := cv m (partner c) (1024 * blk c 0 + t)
@[inherit_doc vq] def vw (c : Dev nD) (t : ℕ) : Elt F .bf16 := cv m (partner (left c)) (1024 * blk c 3 + t)
@[inherit_doc vq] def vc (c : Dev nD) (t : ℕ) : Elt F .bf16 := cv m (partner (right c)) (1024 * blk c 1 + t)
/-- Slot 0 of the input buffer by slices; slot `s` when it holds block `1 + b`. -/
def vi (c : Dev nD) (t : ℕ) : Elt F .f32 := xv m c (1024 * blk c 0 + t)
@[inherit_doc vi] def vb (c : Dev nD) (b : Fin 3) (s : Fin 2) (t : ℕ) : Elt F .f32 := xv m c (1024 * blk c (1 + b.val) + (t - 1048576 * s.val))

/-! ## The semaphores, by what they count -/

inductive Kd
  | bar | xqS | xqR | xdS | xdR | cwS | cwR | ccwS | ccwR | c2S | c2R | d2S | d2R | loc | inq | inb
deriving DecidableEq

instance : Fintype Kd := ⟨{.bar, .xqS, .xqR, .xdS, .xdR, .cwS, .cwR, .ccwS, .ccwR, .c2S, .c2R, .d2S, .d2R, .loc, .inq, .inb}, fun x => by cases x <;> decide⟩

abbrev len : Kd → ℕ
  | .bar => 1 | .xqS => 16 | .xqR => 16 | .xdS => 4 | .xdR => 4 | .cwS => 16 | .cwR => 16 | .ccwS => 16 | .ccwR => 16
  | .c2S => 6 | .c2R => 6 | .d2S => 6 | .d2R => 6 | .loc => 4 | .inq => 16 | .inb => 3

abbrev Kx := (k : Kd) × Fin (len k)

/-- The semaphore. -/
def sem : Kx → SemLoc sig
  | ⟨.bar, _⟩ => .reg barS
  | ⟨.xqS, j⟩ => .dma (s16 cc0_scratch5 j)
  | ⟨.xqR, j⟩ => .dma (s16 cc0_scratch6 j)
  | ⟨.xdS, j⟩ => .dma (s4 cc0_scratch7 j)
  | ⟨.xdR, j⟩ => .dma (s4 cc0_scratch8 j)
  | ⟨.cwS, j⟩ => .dma (s16 cc0_scratch9 j)
  | ⟨.cwR, j⟩ => .dma (s16 cc0_scratch10 j)
  | ⟨.ccwS, j⟩ => .dma (s16 cc0_scratch11 j)
  | ⟨.ccwR, j⟩ => .dma (s16 cc0_scratch12 j)
  | ⟨.c2S, j⟩ => .dma (s6 cc0_scratch13 j)
  | ⟨.c2R, j⟩ => .dma (s6 cc0_scratch14 j)
  | ⟨.d2S, j⟩ => .dma (s6 cc0_scratch15 j)
  | ⟨.d2R, j⟩ => .dma (s6 cc0_scratch16 j)
  | ⟨.loc, j⟩ => .dma (s4 cc0_scratch17 j)
  | ⟨.inq, j⟩ => .dma (s16 cc0_scratch18 j)
  | ⟨.inb, j⟩ => .dma (s3 cc0_scratch19 j)

theorem sem_inj : Function.Injective sem := by decide +kernel

def dec : SemLoc sig → Option Kx := Function.partialInv sem
theorem dec_sem (x : Kx) : dec (sem x) = some x := Function.partialInv_left sem_inj x

abbrev cell (c : Dev nD) (x : Kx) : GSem nD τ sig := ((c : Thread nD τ), sem x)

/-- The units one round of the semaphore counts in one duty. -/
def amt : Kx → ℕ
  | ⟨.bar, _⟩ => 1
  | ⟨.loc, j⟩ => if j = (0 : Fin 4) then scrA.view.dmaCredit else sqA.view.dmaCredit
  | ⟨.inq, _⟩ => (xiSl 0).view.dmaCredit
  | ⟨.inb, _⟩ => (xbSl 0).view.dmaCredit
  | ⟨_, _⟩ => (stSl sqA 0).view.dmaCredit

theorem amt_pos (x : Kx) : 0 < amt x := by
  obtain ⟨k, j⟩ := x
  cases k
  case bar => exact Nat.one_pos
  case loc =>
    show 0 < if j = (0 : Fin 4) then scrA.view.dmaCredit else sqA.view.dmaCredit
    split
    · exact View.dmaCredit_pos scrA.view (by decide)
    · exact View.dmaCredit_pos sqA.view (by decide)
  all_goals exact View.dmaCredit_pos _ (by decide)

def duts : Kx → Finset D
  | ⟨.bar, _⟩ => Finset.univ
  | _ => {0}

/-- The devices that pay device `c`'s barrier. -/
def payer (c : Dev nD) : D → Dev nD
  | 0 => partner c
  | 1 => right c
  | 2 => left c

/-- What the three units of device `c`'s barrier hand it: the room at each payer that `c` will fill. -/
def payBar (c : Dev nD) : D → sProp 𝕄
  | 0 => iprop(pa cc0_scratch1 (partner c) 0 1024 ∗ pa main_v1 (partner c) (opp (partner c) + blk (partner c) 2 + 768) 256)
  | 1 => iprop(pa cc0_scratch2 (right c) 0 1024 ∗ pa main_v1 (right c) (opp (right c) + blk (right c) 2) 384)
  | 2 => iprop(pa cc0_scratch3 (left c) 0 1024 ∗ pa main_v1 (left c) (opp (left c) + blk (left c) 2 + 384) 384)

/-- What a local copy into the result hands over. -/
def payLoc (c : Dev nD) : Fin 4 → sProp 𝕄
  | 0 => iprop(pt main_v1 c fullShare (own c) 4096 (G m c) ∗ pt cc0_scratch0 c fullShare.right 0 4096 (cv m c))
  | 1 => iprop(pt main_v1 c fullShare (opp c + blk c 0) 1024 (G m c) ∗ pt cc0_scratch1 c fullShare.right 0 1024 (vq m c))
  | 2 => iprop(pt main_v1 c fullShare (opp c + blk c 3) 1024 (G m c) ∗ pt cc0_scratch2 c fullShare.right 0 1024 (vw m c))
  | 3 => iprop(pt main_v1 c fullShare (opp c + blk c 1) 1024 (G m c) ∗ pt cc0_scratch3 c fullShare.right 0 1024 (vc m c))

/-- The block and the slot of the input copy on semaphore `i`. -/
def inB : Fin 3 → Fin 3 := ![1, 0, 2]
@[inherit_doc inB] def inS : Fin 3 → Fin 2 := ![1, 0, 1]

/-- What the semaphore hands device `c`. -/
def pay (c : Dev nD) : Kx → D → sProp 𝕄
  | ⟨.bar, _⟩, d => payBar c d
  | ⟨.xqS, j⟩, _ => pt cc0_scratch0 c fullShare.left (blk c 0 + 64 * j.val) 64 (cv m c)
  | ⟨.xqR, j⟩, _ => pt cc0_scratch1 c fullShare (64 * j.val) 64 (vq m c)
  | ⟨.xdS, j⟩, _ => pt cc0_scratch0 c fullShare.left (blk c 2 + 768 + 64 * j.val) 64 (cv m c)
  | ⟨.xdR, j⟩, _ => pt main_v1 c fullShare (opp c + blk c 2 + 768 + 64 * j.val) 64 (G m c)
  | ⟨.cwS, j⟩, _ => pt cc0_scratch1 c fullShare.left.left (64 * j.val) 64 (vq m c)
  | ⟨.cwR, j⟩, _ => pt cc0_scratch2 c fullShare (64 * j.val) 64 (vw m c)
  | ⟨.ccwS, j⟩, _ => pt cc0_scratch1 c fullShare.left.right (64 * j.val) 64 (vq m c)
  | ⟨.ccwR, j⟩, _ => pt cc0_scratch3 c fullShare (64 * j.val) 64 (vc m c)
  | ⟨.c2S, j⟩, _ => pt cc0_scratch2 c fullShare.left (64 * j.val) 64 (vw m c)
  | ⟨.c2R, j⟩, _ => pt main_v1 c fullShare (opp c + blk c 2 + 64 * j.val) 64 (G m c)
  | ⟨.d2S, j⟩, _ => pt cc0_scratch3 c fullShare.left (64 * (6 + j.val)) 64 (vc m c)
  | ⟨.d2R, j⟩, _ => pt main_v1 c fullShare (opp c + blk c 2 + 384 + 64 * j.val) 64 (G m c)
  | ⟨.loc, j⟩, _ => payLoc m c j
  | ⟨.inq, j⟩, _ => iprop(pt cc0_scratch4 c fullShare (64 * j.val) 64 (vi m c) ∗ pt main_arg0 c fullShare (blk c 0 + 64 * j.val) 64 (xv m c))
  | ⟨.inb, i⟩, _ => iprop(pt cc0_scratch4 c fullShare (1024 * (inS i).val) 1024 (vb m c (inB i) (inS i)) ∗ pt main_arg0 c fullShare (blk c (1 + (inB i).val)) 1024 (xv m c))

/-- One round of every semaphore. -/
def rd : Rounds.Schedule (GSem nD τ sig) D 𝕄 where
  duties g r := if r = 0 then (dec g.2).elim ∅ duts else ∅
  unitless _ := False
  amount g _ _ := (dec g.2).elim 1 amt
  payload g _ d := (dec g.2).elim iprop(emp) fun x => pay m g.1.1 x d
  amount_pos g _ _ _ := by
    cases dec g.2
    · exact Nat.one_pos
    · exact amt_pos _

instance pt_storable (b : Ref sig .tc) (c : Dev nD) (q : PosShare TreeShare) (lo n : ℕ) (g : ℕ → Elt F b.ty.elt) : BI.Storable (upEmb : UEmb _ 𝕄) (pt b c q lo n g) := by
  unfold pt; infer_instance
instance pa_storable (b : Ref sig .tc) (c : Dev nD) (lo n : ℕ) : BI.Storable (upEmb : UEmb _ 𝕄) (pa b c lo n) := by
  unfold pa; infer_instance

instance payBar_storable (c : Dev nD) (d : D) : BI.Storable (upEmb : UEmb _ 𝕄) (payBar (F := F) c d) := by
  unfold payBar; split <;> infer_instance
instance payLoc_storable (c : Dev nD) (j : Fin 4) : BI.Storable (upEmb : UEmb _ 𝕄) (payLoc m c j) := by
  unfold payLoc; split <;> infer_instance
instance pay_storable (c : Dev nD) (x : Kx) (d : D) : BI.Storable (upEmb : UEmb _ 𝕄) (pay m c x d) := by
  obtain ⟨k, j⟩ := x
  cases k
  case bar => exact payBar_storable c d
  case loc => exact payLoc_storable m c j
  all_goals (unfold pay; infer_instance)

instance rd_storable (g : GSem nD τ sig) (r : ℕ) (d : D) : BI.Storable (upEmb : UEmb _ 𝕄) ((rd (F := F) m).payload g r d) := by
  show BI.Storable upEmb ((dec g.2).elim iprop(emp) fun x => pay m g.1.1 x d)
  cases dec g.2 with
  | none => dsimp only [Option.elim]; infer_instance
  | some x => dsimp only [Option.elim]; infer_instance

theorem duties_cell (c : Dev nD) (x : Kx) : (rd m).duties (cell c x) 0 = duts x := by
  dsimp only [rd]; rw [if_pos rfl, dec_sem]; rfl
theorem duties_later (g : GSem nD τ sig) : ∀ r, 1 ≤ r → (rd m).duties g r = ∅ :=
  fun r hr => by dsimp only [rd]; exact if_neg fun h => by omega
theorem amount_cell (c : Dev nD) (x : Kx) (r : ℕ) (d : D) : (rd m).amount (cell c x) r d = amt x := by
  dsimp only [rd]; rw [dec_sem]; rfl
theorem payload_cell (c : Dev nD) (x : Kx) (r : ℕ) (d : D) : (rd m).payload (cell c x) r d = pay m c x d := by
  dsimp only [rd]; rw [dec_sem]; rfl

theorem duts_one {x : Kx} (h : x.1 ≠ .bar) : duts x = {0} := by
  obtain ⟨k, j⟩ := x; cases k <;> first | rfl | exact absurd rfl h

theorem expect_one (c : Dev nD) {x : Kx} (h : x.1 ≠ .bar) : (rd m).expect (cell c x) 0 = amt x := by
  unfold Schedule.expect Schedule.amountOf
  rw [duties_cell, duts_one h, Finset.sum_singleton, amount_cell]
theorem expect_bar (c : Dev nD) : (rd m).expect (cell c ⟨.bar, 0⟩) 0 = 3 := by
  unfold Schedule.expect Schedule.amountOf
  rw [duties_cell, Finset.sum_congr rfl (fun d _ => amount_cell m c ⟨.bar, 0⟩ 0 d)]; rfl

theorem rest_one (c : Dev nD) {x : Kx} (h : x.1 ≠ .bar) :
    bigSep ((rd m).duties (cell c x) 0 \ ∅) (fun d => (rd m).payload (cell c x) 0 d) = pay m c x 0 := by
  rw [Finset.sdiff_empty, duties_cell, duts_one h, bigSep_singleton, payload_cell]
theorem rest_bar (c : Dev nD) :
    bigSep ((rd m).duties (cell c ⟨.bar, 0⟩) 0 \ ∅) (fun d => (rd m).payload (cell c ⟨.bar, 0⟩) 0 d)
      = iprop(payBar c 0 ∗ payBar c 1 ∗ payBar c 2) := by
  rw [Finset.sdiff_empty, duties_cell, show duts ⟨.bar, 0⟩ = (Finset.univ : Finset D) from rfl,
    bigSep_univ_eq_bigSepL [(0 : D), 1, 2] (by decide) (by decide)]
  simp only [bigSepL_cons_cons, bigSepL_singleton, payload_cell]; rfl

/-! ## Levels -/

def L (g : GSem nD τ sig) : Finset Unit := if g.1.2 = .tc then {()} else ∅

def level : Kd → ℕ
  | .bar => 1 | .xqR => 2 | .xdR => 2 | .cwR => 3 | .ccwR => 3 | .c2R => 4 | .d2R => 4 | _ => 0
def lv (g : GSem nD τ sig) (_ : Unit) : ℕ := (dec g.2).elim 0 fun x => level x.1

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Kx) (u : Unit) : lv (cell c x) u = level x.1 := by
  unfold lv; rw [dec_sem]; rfl

/-- Everything owed is on a level above `n`. -/
def Above (n : ℕ) (O : CellTallies nD τ sig Unit) : Prop := ∀ g u, 0 < O g u → g.1.2 = .tc ∧ n < lv g u

theorem above_zero (n : ℕ) : Above n 0 := fun g u h => absurd h (by simp)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_cell {n : ℕ} (c : Dev nD) (x : Kx) (k : ℕ) (h : n < level x.1) : Above n (tallyAt (cell c x) () k) := fun g u hg => by
  rw [tallyAt_apply] at hg
  by_cases hc : g = cell c x ∧ u = ()
  · rw [hc.1]; exact ⟨rfl, by rw [lv_cell]; exact h⟩
  · rw [if_neg hc] at hg; exact absurd hg (Nat.lt_irrefl 0)
theorem Above.mono {n n' : ℕ} {O : CellTallies nD τ sig Unit} (h : Above n O) (hn : n' ≤ n) : Above n' O :=
  fun g u hg => ⟨(h g u hg).1, Nat.lt_of_le_of_lt hn (h g u hg).2⟩

theorem mayWait (c : Dev nD) (x : Kx) {O : CellTallies nD τ sig Unit} (h : Above (level x.1) O) :
    (levAts L lv : sProp 𝕄) ⊢ MayWait (c : Thread nD τ) (sem x) () O :=
  MayOwe.of_cut (L := L) (lev := lv) (level x.1) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact (lv_cell c x ()).le)
    (fun g u hg => (h g u hg).2)

end Cert.KernelIdealRun
end
-- ==== Proof.IdealSteps.lean ====
module

public import proofs.«01_k».proof.Proof.IdealSched

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # One transfer, one wait, one loop -/

local notation "𝕄" => MT nD τ sig Unit (Elt F) ℕ UU ℕ

abbrev 𝒱₀ : Variants := Variants.none

variable (m : (ℓ : Loc nD τ sig) → Buf (Elt F) ℓ) (κ : Dev nD × Kx → ℕ)

/-- What every device knows throughout: the semaphores' invariants and the levels. -/
def Ctx : sProp 𝕄 :=
  iprop((bigSep Finset.univ fun p : Dev nD × Kx => iprop(cellInv ER (rd m) (κ p) (cell p.1 p.2) ∗ reached ER (cell p.1 p.2) 0)) ∗ levAts L lv)

instance : BI.Persistent (Ctx m κ) := by unfold Ctx; infer_instance

theorem ctx_cell (c : Dev nD) (x : Kx) : Ctx m κ ⊢ iprop(cellInv ER (rd m) (κ (c, x)) (cell c x) ∗ reached ER (cell c x) 0) := by
  unfold Ctx
  have h : (bigSep Finset.univ fun p : Dev nD × Kx => iprop(cellInv ER (rd m) (κ p) (cell p.1 p.2) ∗ reached ER (cell p.1 p.2) 0))
      ⊢ iprop(cellInv ER (rd m) (κ (c, x)) (cell c x) ∗ reached ER (cell c x) 0) := bigSep_elim (Finset.mem_univ (c, x))
  iintro ⟨H, -⟩
  iapply h; iexact H
theorem ctx_wait (c : Dev nD) (x : Kx) {O : CellTallies nD τ sig Unit} (h : Above (level x.1) O) :
    Ctx m κ ⊢ MayWait (c : Thread nD τ) (sem x) () O := by
  unfold Ctx; iintro ⟨-, H⟩; iapply (mayWait (F := F) c x h); iexact H

/-- What device `c` owes, whatever it waited for. -/
def owesE (c : Dev nD) (O : CellTallies nD τ sig Unit) : sProp 𝕄 := iprop(∃ W, owes (c : Thread nD τ) O W)
/-- Device `c`'s semaphore before and after its round, the credit to wait for it, and the right to pay it. -/
def at0 (c : Dev nD) (x : Kx) : sProp 𝕄 := atPos ER (cell c x) 0 ∅ 0
@[inherit_doc at0] def at1 (c : Dev nD) (x : Kx) : sProp 𝕄 := atPos ER (cell c x) (0 + 1) ∅ 0
@[inherit_doc at0] def cr (c : Dev nD) (x : Kx) : sProp 𝕄 := cred (tallyAt (cell c x) () (amt x))
@[inherit_doc at0] def tok (c : Dev nD) (x : Kx) (d : D) : sProp 𝕄 := dutyTok ER (cell c x) 0 d

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Run one program and then another. -/
theorem seq {α β : Type} (c : Dev nD) (p : Prog (TpuEff nD τ sig (Elt F) Λ₀ .tc) α) (k : α → Prog (TpuEff nD τ sig (Elt F) Λ₀ .tc) β)
    (R : α → sProp 𝕄) (Q : β → sProp 𝕄) : iprop(WP c p R ∗ (∀ a, R a -∗ WP c (k a) Q)) ⊢ WP c (p >>= k) Q := by
  unfold WP; rw [wp_bind]; exact wp_wand_r _ _ _

theorem wand {α : Type} (c : Dev nD) (p : Prog (TpuEff nD τ sig (Elt F) Λ₀ .tc) α) (R Q : α → sProp 𝕄) :
    iprop(WP c p R ∗ (∀ a, R a -∗ Q a)) ⊢ WP c p Q := wp_wand_r _ _ _

theorem ret (c : Dev nD) {Q : PUnit → sProp 𝕄} : Q ⟨⟩ ⊢ WP c (pure ⟨⟩ : Pg F) Q := by
  show _ ⊢ wp _ _ _ (.ret ⟨⟩) Q
  rw [wp_ret]; iintro H; imodintro; iexact H

variable {m κ}

theorem wait_step (c : Dev nD) (x : Kx) (hb : x.1 ≠ .bar) {s : DmaSem sig} (hx : sem x = .dma s)
    {sp sp' : Space} {s₁ s₂ : Shape} {e₁ e₂ : EltTy} {a : Memref sig .tc sp' s₂ e₂} {b : Memref sig .tc sp s₁ e₁} {ha : a.view.WordExact} {hb' : b.view.WordExact}
    (hN : b.view.dmaCredit = amt x) {O : CellTallies nD τ sig Unit} (hab : Above (level x.1) O) :
    iprop(Ctx m κ ∗ owesE c O ∗ at0 c x ∗ cr c x)
      ⊢ WP c (Prog.lift (.waitDma2 s a b ha hb')) (fun _ => iprop(owesE c O ∗ at1 c x ∗ pay m c x 0)) := by
  have hM := ctx_wait m κ c x hab
  rw [hx] at hM
  unfold owesE at0 at1 cr Prog.lift
  iintro ⟨#HC, ⟨%W, HO⟩, Hat, Hcr⟩
  ihave HI := (ctx_cell m κ c x) $$ HC
  icases HI with ⟨#HI, -⟩
  unfold cell
  rw [hx]
  iapply (Rounds.wp_wait_rest_token 𝒱₀ ER (rd m) (c : Thread nD τ) none (κ := κ (c, x)) (k' := b.view.dmaCredit)
    (wpE_waitDma2_eq 𝒱₀ (c : Thread nD τ) none Set.univ) (Set.mem_univ _) () (O := O) (W := W) (R := 0) (m := 0) (T := ∅)
    (by rw [Nat.zero_add, hN, ← expect_one m c hb, cell, hx])) $$ [HO Hat Hcr]
  · isplitr; · iexact HI
    isplitl [Hcr]; · rw [hN]; iexact Hcr
    isplitl [HO]; · iexact HO
    isplitr; · iapply hM; iexact HC
    iexact Hat
  iintro ⟨HO, Hat, -, Hpay⟩
  rw [wp_ret]; imodintro
  isplitl [HO]; · iexists _; iexact HO
  isplitl [Hat]; · iexact Hat
  rw [← rest_one m c hb, cell, hx]; iexact Hpay

theorem wait_bar (c : Dev nD) {O : CellTallies nD τ sig Unit} (hab : Above 1 O) :
    iprop(Ctx m κ ∗ owesE c O ∗ at0 c ⟨.bar, 0⟩ ∗ cred (tallyAt (cell c ⟨.bar, 0⟩) () 3))
      ⊢ WP (F := F) c (semWaitWord barS 3#32) (fun _ => iprop(owesE c O ∗ at1 c ⟨.bar, 0⟩ ∗ payBar c 0 ∗ payBar c 1 ∗ payBar c 2)) := by
  have hM := ctx_wait m κ c ⟨.bar, 0⟩ hab
  unfold owesE at0 at1 semWaitWord
  iintro ⟨#HC, ⟨%W, HO⟩, Hat, Hcr⟩
  ihave HI := (ctx_cell m κ c ⟨.bar, 0⟩) $$ HC
  icases HI with ⟨#HI, -⟩
  iapply (Rounds.wp_wait_rest_token 𝒱₀ ER (rd m) (c : Thread nD τ) none (κ := κ (c, ⟨.bar, 0⟩)) (k' := 3)
    (wpE_semWait_eq 𝒱₀ (c : Thread nD τ) none Set.univ) (Set.mem_univ _) () (O := O) (W := W) (R := 0) (m := 0) (T := ∅)
    (by rw [Nat.zero_add]; exact (expect_bar m c).symm)) $$ [HO Hat Hcr]
  · isplitr; · iexact HI
    isplitl [Hcr]; · iexact Hcr
    isplitl [HO]; · iexact HO
    isplitr; · iapply hM; iexact HC
    iexact Hat
  iintro ⟨HO, Hat, -, Hpay⟩
  rw [wp_ret]; imodintro
  isplitl [HO]; · iexists _; iexact HO
  isplitl [Hat]; · iexact Hat
  rw [← rest_bar m c]; iexact Hpay

theorem signal_step (c e : Dev nD) (d : D) (he : payer e d = c) {O : CellTallies nD τ sig Unit} :
    iprop(Ctx m κ ∗ owesE c (O + tallyAt (cell e ⟨.bar, 0⟩) () 1) ∗ tok e ⟨.bar, 0⟩ d ∗ payBar e d)
      ⊢ WP (F := F) c (semSignalWord e barS 1#32) (fun _ => owesE c O) := by
  unfold owesE tok semSignalWord
  iintro ⟨#HC, ⟨%W, HO⟩, Ht, Hp⟩
  ihave HI := (ctx_cell m κ e ⟨.bar, 0⟩) $$ HC
  icases HI with ⟨#HI, #Hr⟩
  iapply (Rounds.wp_signal 𝒱₀ ER (rd m) (c : Thread nD τ) none (dst := (e : Thread nD τ)) (κ := κ (e, ⟨.bar, 0⟩)) (d := d) (r := 0)
      (by rw [show ((e : Thread nD τ), SemLoc.reg barS) = cell e ⟨.bar, 0⟩ from rfl, duties_cell]; exact Finset.mem_univ d)
      (amount_cell m e ⟨.bar, 0⟩ 0 d) () O rfl) $$ [HO Ht Hp]
  · isplitr; · iexact HI
    isplitl [HO]; · iexact HO
    isplitl [Ht]; · iexact Ht
    isplitl [Hp]
    · rw [show ((e : Thread nD τ), SemLoc.reg barS) = cell e ⟨.bar, 0⟩ from rfl, payload_cell, show pay m e ⟨.bar, 0⟩ d = payBar e d from rfl]; iexact Hp
    · iexact Hr
  iintro HO
  rw [wp_ret]; imodintro
  iexists _; iexact HO

/-- A transfer to another device: the source share goes to the sender's semaphore, the landed rows to the receiver's. -/
theorem send_step (c e : Dev nD) (xS xR : Kx) (hbS : xS.1 ≠ .bar) (hbR : xR.1 ≠ .bar) {sS sR : DmaSem sig} (hS : sem xS = .dma sS) (hR : sem xR = .dma sR)
    {sp sp' : Space} {s : Shape} {et : EltTy} {a : Memref sig .tc sp s et} {b : Memref sig .tc sp' s et}
    {hsc : b.view.ref.isScScratch = false} {ha : a.view.WordExact} {hb : b.view.WordExact}
    {hsem : DmaTarget.Typed sp (.dma sR) (.remote (Dev.tc e : Thread nD τ) b (.dma sS) hsc)}
    {la na lb nb : ℕ} (Ca : Contig a.view la na) (Cb : Contig b.view lb nb) {q : PosShare TreeShare}
    (ga : ℕ → Elt F a.view.ref.ty.elt) (gb : ℕ → Elt F b.view.ref.ty.elt)
    (hN : b.view.dmaCredit = amt xR) (hN' : amt xS = amt xR)
    (hv : ∀ x, b.view.read (Elt F) (fill b.view.ref gb) x = a.view.read (Elt F) (fill a.view.ref ga) x)
    (hpS : pt a.view.ref c q la na ga ⊢ pay m c xS 0) (hpR : pt b.view.ref e fullShare lb nb gb ⊢ pay m e xR 0)
    {O : CellTallies nD τ sig Unit} :
    iprop(Ctx m κ ∗ owesE c (O + tallyAt (cell e xR) () (amt xR)) ∗ pt a.view.ref c q la na ga ∗ pa b.view.ref e lb nb ∗ tok c xS 0 ∗ tok e xR 0)
      ⊢ WP c (Prog.lift (.enqueueDma a (.remote (Dev.tc e : Thread nD τ) b (.dma sS) hsc) (.dma sR) ha hb hsem)) (fun _ => iprop(owesE c O ∗ cr c xS)) := by
  unfold owesE tok cr pa pt Prog.lift
  iintro ⟨#HC, ⟨%W, HO⟩, Ha, ⟨%f, Hb⟩, HtS, HtR⟩
  ihave HI := (ctx_cell m κ c xS) $$ HC
  icases HI with ⟨#HIS, #HrS⟩
  ihave HI := (ctx_cell m κ e xR) $$ HC
  icases HI with ⟨#HIR, #HrR⟩
  have hcS : cell c xS = ((c : Thread nD τ), .dma sS) := by unfold cell; rw [hS]
  have hcR : cell e xR = ((e : Thread nD τ), .dma sR) := by unfold cell; rw [hR]
  rw [hcS, hcR]
  iapply (Rounds.wp_send_pointsTo 𝒱₀ ER (rd m) (c : Thread nD τ) none (c' := (e : Thread nD τ)) (sS := .dma sS) (sem := .dma sR) (κ₁ := κ (c, xS)) (κ₂ := κ (e, xR)) (q := q)
    (fs := fill a.view.ref ga) (fd := f) (r₁ := 0) (r₂ := 0) (d₁ := 0) (d₂ := 0)
    (by rw [← hcS, duties_cell, duts_one hbS]; exact Finset.mem_singleton_self _) (by rw [← hcR, duties_cell, duts_one hbR]; exact Finset.mem_singleton_self _)
    () () (amt xR) hN (by rw [← hcS, amount_cell, hN']) (by rw [← hcR, amount_cell]) O rfl (W := W)
    (by rw [← hcS, payload_cell, Ca.set_eq]; exact hpS)
    (by rw [← hcR, payload_cell, pointsTo_congr (Cb.landed gb f _ hv), Cb.set_eq]; exact hpR)) $$ [HO Ha Hb HtS HtR]
  · isplitr; · iexact HIS
    isplitr; · iexact HIR
    isplitl [Ha]; · rw [Ca.set_eq]; iexact Ha
    isplitl [Hb]; · rw [Cb.set_eq]; iexact Hb
    isplitl [HO]; · iexact HO
    isplitl [HtS]; · iexact HtS
    isplitr; · iexact HrS
    isplitl [HtR]; · iexact HtR
    iexact HrR
  iintro ⟨Hc, HO⟩
  rw [wp_ret]; imodintro
  isplitl [HO]; · iexists _; iexact HO
  rw [hN']; iexact Hc

/-- A copy within the device. -/
theorem copy_step (c : Dev nD) (x : Kx) (hbx : x.1 ≠ .bar) {sm : DmaSem sig} (hS : sem x = .dma sm)
    {sp sp' : Space} {s : Shape} {et : EltTy} {a : Memref sig .tc sp s et} {b : Memref sig .tc sp' s et}
    {ha : a.view.WordExact} {hb : b.view.WordExact} {hsem : DmaTarget.Typed sp (.dma sm) (.here b : DmaTarget nD τ sig .tc sp' s et)}
    {la na lb nb : ℕ} (Ca : Contig a.view la na) (Cb : Contig b.view lb nb) {q : PosShare TreeShare}
    (ga : ℕ → Elt F a.view.ref.ty.elt) (gb : ℕ → Elt F b.view.ref.ty.elt)
    (hN : b.view.dmaCredit = amt x)
    (hv : ∀ x, b.view.read (Elt F) (fill b.view.ref gb) x = a.view.read (Elt F) (fill a.view.ref ga) x)
    (hp : iprop(pt b.view.ref c fullShare lb nb gb ∗ pt a.view.ref c q la na ga) ⊢ pay m c x 0) :
    iprop(Ctx m κ ∗ pt a.view.ref c q la na ga ∗ pa b.view.ref c lb nb ∗ tok c x 0)
      ⊢ WP c (Prog.lift (.enqueueDma a (.here b) (.dma sm) ha hb hsem)) (fun _ => cr c x) := by
  unfold tok cr pa pt Prog.lift
  iintro ⟨#HC, Ha, ⟨%f, Hb⟩, Ht⟩
  ihave HI := (ctx_cell m κ c x) $$ HC
  icases HI with ⟨#HI, #Hr⟩
  have hc : cell c x = ((c : Thread nD τ), .dma sm) := by unfold cell; rw [hS]
  rw [hc]
  iapply (Rounds.wp_copy_pointsTo 𝒱₀ ER (rd m) (c : Thread nD τ) none (sem := .dma sm) (κ := κ (c, x)) (q := q) (fs := fill a.view.ref ga) (fd := f) (r := 0) (d := 0)
    (by rw [← hc, duties_cell, duts_one hbx]; exact Finset.mem_singleton_self _) () (amt x) hN (by rw [← hc, amount_cell])
    (by rw [← hc, payload_cell, pointsTo_congr (Cb.landed gb f _ hv), Cb.set_eq, Ca.set_eq]; exact hp)) $$ [Ha Hb Ht]
  · isplitr; · iexact HI
    isplitl [Ha]; · rw [Ca.set_eq]; iexact Ha
    isplitl [Hb]; · rw [Cb.set_eq]; iexact Hb
    isplitl [Ht]; · iexact Ht
    iexact Hr
  iintro Hc
  rw [wp_ret]; imodintro
  iexact Hc

/-- Load from the input buffer, convert, store to the converted copy (reading what was there first). -/
theorem conv_step (c : Dev nD) (r₁ : Rect S2x1024x1024) (r₂ : Rect S4096x1024) (p : (r₁.shape.Idx → Elt F .f32) → (r₂.shape.Idx → Elt F .bf16))
    {h₁ : xinA.view.LoadsAt r₁.toLoadRect} {h₂ : scrA.view.LoadsAt r₂.toLoadRect} {h₃ : (scrA.access r₂).Stores Finset.univ} {h₄ : Finset.univ = Finset.univ ∨ ∀ a, r₂.stride a = 1}
    {la na lb nb : ℕ} (Ca : Contig (xinA.access r₁) la na) (Cb : Contig (scrA.access r₂) lb nb) (ga : ℕ → Elt F .f32) (gb : ℕ → Elt F .bf16)
    (hv : ∀ x, (scrA.access r₂).read (Elt F) (fill cc0_scratch0 gb) x = p ((xinA.access r₁).read (Elt F) (fill cc0_scratch4 ga)) x) :
    iprop(pt cc0_scratch4 c fullShare la na ga ∗ pa cc0_scratch0 c lb nb)
      ⊢ WP c (Prog.lift (.load xinA r₁.toLoadRect h₁) >>= fun v => Prog.lift (.load scrA r₂.toLoadRect h₂) >>= fun _ => Prog.lift (.store scrA r₂ (p v) Finset.univ h₃ h₄) : Pg F)
          (fun _ => iprop(pt cc0_scratch4 c fullShare la na ga ∗ pt cc0_scratch0 c fullShare lb nb gb)) := by
  unfold pa Prog.lift
  simp only [Prog.bind_op, Prog.bind_ret]
  iintro ⟨Ha, ⟨%f, Hb⟩⟩
  unfold pt
  iapply (wp_load_rect 𝒱₀ (c : Thread nD τ) none Set.univ (m := xinA) (r := r₁) (by rw [Ca.set_eq])) $$ Ha; iintro Ha
  iapply (wp_load_rect 𝒱₀ (c : Thread nD τ) none Set.univ (m := scrA) (r := r₂) (by rw [Cb.set_eq])) $$ Hb; iintro Hb
  iapply (wp_store 𝒱₀ (c : Thread nD τ) none Set.univ (m := scrA) (r := r₂) (Mk := Finset.univ) (by rw [View.setOn_univ, Cb.set_eq])) $$ Hb; iintro Hb
  rw [wp_ret]; imodintro
  isplitl [Ha]; · iexact Ha
  rw [← pointsTo_congr (ℓ := (c : Thread nD τ).loc cc0_scratch0) (I := band cc0_scratch0 lb nb) (fun i hi => Cb.landed gb f _ hv i (by rw [Cb.set_eq]; exact hi))]
  iexact Hb

/-! ## Loops -/

/-- What is owed when the indices `l` are still to come. -/
def oweL {ι : Type} (g : ι → CellTallies nD τ sig Unit) : List ι → CellTallies nD τ sig Unit → CellTallies nD τ sig Unit
  | [], R => R
  | i :: l, R => oweL g l R + g i

theorem above_oweL {ι : Type} {n : ℕ} {g : ι → CellTallies nD τ sig Unit} (hg : ∀ i, Above n (g i)) :
    ∀ (l : List ι) {R : CellTallies nD τ sig Unit}, Above n R → Above n (oweL g l R)
  | [], _, h => h
  | i :: l, _, h => above_add (above_oweL hg l h) (hg i)

theorem loop {ι : Type} (c : Dev nD) (f : ι → Pg F) (I : List ι → sProp 𝕄) (A B : ι → sProp 𝕄)
    (step : ∀ i l, iprop(Ctx m κ ∗ I (i :: l) ∗ A i) ⊢ WP c (f i) (fun _ => iprop(I l ∗ B i))) :
    ∀ l, iprop(Ctx m κ ∗ I l ∗ bigSepL l A) ⊢ WP c (runL f l) (fun _ => iprop(I [] ∗ bigSepL l B))
  | [] => by
    iintro ⟨-, HI, -⟩
    unfold runL
    iapply (ret c (Q := fun _ => iprop(I [] ∗ bigSepL [] B)))
    isplitl [HI]; · iexact HI
    simp only [bigSepL_nil]; iempintro
  | i :: l => by
    rw [bigSepL_cons', bigSepL_cons']
    iintro ⟨#HC, HI, HA, HL⟩
    unfold runL
    iapply (seq c (f i) (fun _ => runL f l) (fun _ => iprop(I l ∗ B i)))
    isplitl [HI HA]
    · iapply (step i l)
      isplitr; · iexact HC
      isplitl [HI] <;> iassumption
    iintro %u ⟨HI, HB⟩
    iapply (wand c (runL f l) (fun _ => iprop(I [] ∗ bigSepL l B)))
    isplitl [HI HL]
    · iapply (loop c f I A B step l)
      isplitr; · iexact HC
      isplitl [HI] <;> iassumption
    iintro %u ⟨HI, HL⟩
    isplitl [HI]; · iexact HI
    isplitl [HB] <;> iassumption

/-- A loop each of whose turns pays what it owes. -/
theorem loop_owing {ι : Type} (c : Dev nD) (f : ι → Pg F) (g : ι → CellTallies nD τ sig Unit) (n : ℕ) (hg : ∀ i, Above n (g i)) (A B : ι → sProp 𝕄)
    (step : ∀ i O, Above n O → iprop(Ctx m κ ∗ owesE c (O + g i) ∗ A i) ⊢ WP c (f i) (fun _ => iprop(owesE c O ∗ B i)))
    (l : List ι) (R : CellTallies nD τ sig Unit) (hR : Above n R) :
    iprop(Ctx m κ ∗ owesE c (oweL g l R) ∗ bigSepL l A) ⊢ WP c (runL f l) (fun _ => iprop(owesE c R ∗ bigSepL l B)) :=
  loop c f (fun l => owesE c (oweL g l R)) A B (fun i l => step i (oweL g l R) (above_oweL hg l hR)) l

/-- A loop that owes nothing new. -/
theorem loop_plain {ι : Type} (c : Dev nD) (f : ι → Pg F) (O : CellTallies nD τ sig Unit) (A B : ι → sProp 𝕄)
    (step : ∀ i, iprop(Ctx m κ ∗ owesE c O ∗ A i) ⊢ WP c (f i) (fun _ => iprop(owesE c O ∗ B i)))
    (l : List ι) : iprop(Ctx m κ ∗ owesE c O ∗ bigSepL l A) ⊢ WP c (runL f l) (fun _ => iprop(owesE c O ∗ bigSepL l B)) :=
  loop c f (fun _ => owesE c O) A B (fun i _ => step i) l

end Cert.KernelIdealRun
end
-- ==== Proof.IdealValues.lean ====
module

public import proofs.«01_k».proof.Proof.IdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # Each transfer carries what its destination is to hold -/

local notation "𝕄" => MT nD τ sig Unit (Elt F) ℕ UU ℕ

variable (m : (ℓ : Loc nD τ sig) → Buf (Elt F) ℓ)

/-! ## Where the rows of the result come from -/

theorem src_own (c : Dev nD) (r : ℕ) (h : own c ≤ r ∧ r < own c + 4096) : src c r = c := by
  unfold src; unfold own at h; rw [if_pos (by omega)]
theorem src_q (c : Dev nD) (r : ℕ) (h : opp c + blk c 0 ≤ r ∧ r < opp c + blk c 0 + 1024) : src c r = partner c := by
  have h1 := hx_lt c; have h2 := qb_lt c
  unfold src; unfold opp blk at h; rw [if_neg (by omega), if_pos (by omega)]
theorem src_w (c : Dev nD) (r : ℕ) (h : opp c + blk c 3 ≤ r ∧ r < opp c + blk c 3 + 1024) : src c r = partner (left c) := by
  have h1 := hx_lt c; have h2 := qb_lt c
  unfold src; unfold opp blk at h; rw [if_neg (by omega), if_neg (by omega), if_pos (by omega)]
theorem src_c (c : Dev nD) (r : ℕ) (h : opp c + blk c 1 ≤ r ∧ r < opp c + blk c 1 + 1024) : src c r = partner (right c) := by
  have h1 := hx_lt c; have h2 := qb_lt c
  unfold src; unfold opp blk at h; rw [if_neg (by omega), if_neg (by omega), if_neg (by omega), if_pos (by omega)]
theorem src_2w (c : Dev nD) (r : ℕ) (h : opp c + blk c 2 ≤ r ∧ r < opp c + blk c 2 + 384) : src c r = partner (left (left c)) := by
  have h1 := hx_lt c; have h2 := qb_lt c
  unfold src; unfold opp blk at h; rw [if_neg (by omega), if_neg (by omega), if_neg (by omega), if_neg (by omega), if_pos (by omega)]
theorem src_2c (c : Dev nD) (r : ℕ) (h : opp c + blk c 2 + 384 ≤ r ∧ r < opp c + blk c 2 + 768) : src c r = partner (right (right c)) := by
  have h1 := hx_lt c; have h2 := qb_lt c
  unfold src; unfold opp blk at h; rw [if_neg (by omega), if_neg (by omega), if_neg (by omega), if_neg (by omega), if_neg (by omega), if_pos (by omega)]
theorem src_2d (c : Dev nD) (r : ℕ) (h : opp c + blk c 2 + 768 ≤ r ∧ r < opp c + blk c 2 + 1024) : src c r = partner c := by
  have h1 := hx_lt c; have h2 := qb_lt c
  unfold src; unfold opp blk at h; rw [if_neg (by omega), if_neg (by omega), if_neg (by omega), if_neg (by omega), if_neg (by omega), if_neg (by omega)]

theorem G_at (c e : Dev nD) (t u : ℕ) (hs : src c (t / 1024) = e) (hu : t % 4194304 = u) : G m c t = cv m e u := by
  unfold G; rw [hs, hu]

/-! ## Neighbours see the same blocks -/

theorem blk_partner (c : Dev nD) (i : ℕ) : blk (partner c) i = blk c i := by unfold blk; rw [qb_partner]
theorem blk_right (c : Dev nD) (i : ℕ) : blk (right c) i = blk c (1 + i) := by unfold blk; rw [qb_right]; congr 1; omega
theorem blk_left (c : Dev nD) (i : ℕ) : blk (left c) i = blk c (3 + i) := by unfold blk; rw [qb_left]; congr 1; omega
theorem blk_four (c : Dev nD) (i : ℕ) : blk c (4 + i) = blk c i := by unfold blk; congr 1; omega
theorem own_partner (c : Dev nD) : own (partner c) = opp c := by unfold own opp; rw [hx_partner]
theorem opp_partner (c : Dev nD) : opp (partner c) = own c := by have := hx_lt c; unfold own opp; rw [hx_partner]; omega
theorem opp_right (c : Dev nD) : opp (right c) = opp c := by unfold opp; rw [hx_right]
theorem opp_left (c : Dev nD) : opp (left c) = opp c := by unfold opp; rw [hx_left]
theorem own_eq (c : Dev nD) : own c = 0 ∧ opp c = 4096 ∨ own c = 4096 ∧ opp c = 0 := by have := hx_lt c; unfold own opp; omega
theorem blk_lt (c : Dev nD) (i : ℕ) : ∃ q, q < 4 ∧ blk c i = 1024 * q := ⟨_, Nat.mod_lt _ (by decide), rfl⟩

/-! ## The reads -/

theorem vq_partner (c : Dev nD) (t : ℕ) : vq m (partner c) t = cv m c (1024 * blk c 0 + t) := by
  unfold vq; rw [partner_partner, blk_partner]
theorem vw_right (c : Dev nD) (t : ℕ) : vw m (right c) t = vq m c t := by
  unfold vw vq; rw [left_right, blk_right]; exact congrArg (fun b => cv m (partner c) (1024 * b + t)) (blk_four c 0)
theorem vc_left (c : Dev nD) (t : ℕ) : vc m (left c) t = vq m c t := by
  unfold vc vq; rw [right_left, blk_left]; exact congrArg (fun b => cv m (partner c) (1024 * b + t)) (blk_four c 0)

variable {s : Shape}

theorem rm_lt {n : ℕ} {sp : Space} {e : EltTy} {v : View sig .tc sp s e} {lo : ℕ} (h : Contig v lo n) (x : s.Idx) : (s.rowMajor x).val < 1024 * n := by
  rw [← h.num]; exact (s.rowMajor x).isLt

theorem hv_xq (c : Dev nD) (j : Fin 16) (x) : (stSl sqA j).view.read (Elt F) (fill cc0_scratch1 (vq m (partner c))) x = (scSl c j).view.read (Elt F) (fill cc0_scratch0 (cv m c)) x := by
  rw [(c_st c_sq j).read_fill, (c_sc c j).read_fill]
  show vq m (partner c) _ = cv m c _
  rw [vq_partner]; congr 1; omega

theorem hv_xd (c : Dev nD) (i : Fin 4) (x) : (xdDst c i).view.read (Elt F) (fill main_v1 (G m (partner c))) x = (xdSrc c i).view.read (Elt F) (fill cc0_scratch0 (cv m c)) x := by
  rw [(c_xdD c i).read_fill, (c_xdS c i).read_fill]
  have hlt := rm_lt (c_xdD c i) x
  have hi := i.isLt
  obtain ⟨q, hq, hb⟩ := blk_lt c 2
  show G m (partner c) _ = cv m c _
  refine G_at m _ _ _ _ ((src_2d (partner c) _ ?_).trans (partner_partner c)) ?_
  · rw [opp_partner, blk_partner]; change _ < 1024 * 64 at hlt; constructor <;> omega
  · rcases own_eq c with ⟨h, -⟩ | ⟨h, -⟩ <;> rw [h, hb] <;> omega

theorem hv_cw (c : Dev nD) (j : Fin 16) (x) : (stSl scwA j).view.read (Elt F) (fill cc0_scratch2 (vw m (right c))) x = (stSl sqA j).view.read (Elt F) (fill cc0_scratch1 (vq m c)) x := by
  rw [(c_st c_scw j).read_fill, (c_st c_sq j).read_fill]
  exact vw_right m c _
theorem hv_ccw (c : Dev nD) (j : Fin 16) (x) : (stSl sccwA j).view.read (Elt F) (fill cc0_scratch3 (vc m (left c))) x = (stSl sqA j).view.read (Elt F) (fill cc0_scratch1 (vq m c)) x := by
  rw [(c_st c_sccw j).read_fill, (c_st c_sq j).read_fill]
  exact vc_left m c _

theorem row9_lo (c : Dev nD) (k : Fin 6) : row9 c k.val = opp (right c) + blk (right c) 2 + 64 * k.val := by
  rw [opp_right, blk_right]; exact if_pos k.isLt
theorem row9_mid (c : Dev nD) (k : Fin 6) : row9 c (6 + k.val) = opp (left c) + blk (left c) 2 + 384 + 64 * k.val := by
  rw [opp_left, blk_left, show 3 + 2 = 4 + 1 from rfl, blk_four]
  unfold row9; rw [if_neg (by omega), if_pos (by omega)]; omega

theorem hv_2cw (c : Dev nD) (k : Fin 6) (x) : (o9 c ⟨k.val, by omega⟩).view.read (Elt F) (fill main_v1 (G m (right c))) x = (stSl scwA (lo k)).view.read (Elt F) (fill cc0_scratch2 (vw m c)) x := by
  rw [(c_o9 c _).read_fill, (c_st c_scw _).read_fill]
  have hlt := rm_lt (c_o9 c ⟨k.val, by omega⟩) x
  have hi := k.isLt
  obtain ⟨q, hq, hb⟩ := blk_lt (right c) 2
  show G m (right c) (1024 * row9 c k.val + _) = cv m (partner (left c)) (1024 * blk c 3 + (1024 * (64 * k.val) + _))
  rw [show blk c 3 = blk (right c) 2 from (blk_right c 2).symm, row9_lo]
  refine G_at m _ _ _ _ ((src_2w (right c) _ ?_).trans (by rw [left_right])) ?_
  · change _ < 1024 * 64 at hlt; constructor <;> omega
  · rcases own_eq (right c) with ⟨-, h⟩ | ⟨-, h⟩ <;> rw [h, hb] <;> omega

theorem hv_2ccw (c : Dev nD) (k : Fin 6) (x) : (o9 c ⟨6 + k.val, by omega⟩).view.read (Elt F) (fill main_v1 (G m (left c))) x = (stSl sccwA (mid k)).view.read (Elt F) (fill cc0_scratch3 (vc m c)) x := by
  rw [(c_o9 c _).read_fill, (c_st c_sccw _).read_fill]
  have hlt := rm_lt (c_o9 c ⟨6 + k.val, by omega⟩) x
  have hi := k.isLt
  obtain ⟨q, hq, hb⟩ := blk_lt (left c) 2
  show G m (left c) (1024 * row9 c (6 + k.val) + _) = cv m (partner (right c)) (1024 * blk c 1 + (1024 * (64 * (6 + k.val)) + _))
  rw [show blk c 1 = blk (left c) 2 from by rw [blk_left, show 3 + 2 = 4 + 1 from rfl, blk_four], row9_mid]
  refine G_at m _ _ _ _ ((src_2c (left c) _ ?_).trans (by rw [right_left])) ?_
  · change _ < 1024 * 64 at hlt; constructor <;> omega
  · rcases own_eq (left c) with ⟨-, h⟩ | ⟨-, h⟩ <;> rw [h, hb] <;> omega

theorem hv_mine (c : Dev nD) (x) : (oMine c).view.read (Elt F) (fill main_v1 (G m c)) x = scrA.view.read (Elt F) (fill cc0_scratch0 (cv m c)) x := by
  rw [(c_mine c).read_fill, c_scr.read_fill]
  have hlt := rm_lt (c_mine c) x
  show G m c _ = cv m c _
  refine G_at m _ _ _ _ (src_own c _ ?_) ?_
  · constructor <;> omega
  · rcases own_eq c with ⟨h, -⟩ | ⟨h, -⟩ <;> rw [h] <;> omega

theorem hv_oQ (c : Dev nD) (x) : (oQ c).view.read (Elt F) (fill main_v1 (G m c)) x = sqA.view.read (Elt F) (fill cc0_scratch1 (vq m c)) x := by
  rw [(c_oQ c).read_fill, c_sq.read_fill]
  have hlt := rm_lt (c_oQ c) x
  obtain ⟨q, hq, hb⟩ := blk_lt c 0
  show G m c _ = cv m (partner c) (1024 * blk c 0 + _)
  refine G_at m _ _ _ _ (src_q c _ ?_) ?_
  · constructor <;> omega
  · rcases own_eq c with ⟨-, h⟩ | ⟨-, h⟩ <;> rw [h, hb] <;> omega

theorem hv_oC1 (c : Dev nD) (x) : (oC c 1).view.read (Elt F) (fill main_v1 (G m c)) x = scwA.view.read (Elt F) (fill cc0_scratch2 (vw m c)) x := by
  rw [(c_oC c 1).read_fill, c_scw.read_fill]
  have hlt := rm_lt (c_oC c 1) x
  obtain ⟨q, hq, hb⟩ := blk_lt c 3
  show G m c (1024 * (opp c + blk c 3) + _) = cv m (partner (left c)) (1024 * blk c 3 + _)
  refine G_at m _ _ _ _ (src_w c _ ?_) ?_
  · constructor <;> omega
  · rcases own_eq c with ⟨-, h⟩ | ⟨-, h⟩ <;> rw [h, hb] <;> omega

theorem hv_oC0 (c : Dev nD) (x) : (oC c 0).view.read (Elt F) (fill main_v1 (G m c)) x = sccwA.view.read (Elt F) (fill cc0_scratch3 (vc m c)) x := by
  rw [(c_oC c 0).read_fill, c_sccw.read_fill]
  have hlt := rm_lt (c_oC c 0) x
  obtain ⟨q, hq, hb⟩ := blk_lt c 1
  show G m c (1024 * (opp c + blk c 1) + _) = cv m (partner (right c)) (1024 * blk c 1 + _)
  refine G_at m _ _ _ _ (src_c c _ ?_) ?_
  · constructor <;> omega
  · rcases own_eq c with ⟨-, h⟩ | ⟨-, h⟩ <;> rw [h, hb] <;> omega

theorem hv_inq (c : Dev nD) (j : Fin 16) (x) : (xiSl j).view.read (Elt F) (fill cc0_scratch4 (vi m c)) x = (aqSl c j).view.read (Elt F) (fill main_arg0 (xv m c)) x := by
  rw [(c_xi j).read_fill, (c_aq c j).read_fill]
  show xv m c (1024 * blk c 0 + _) = xv m c _
  congr 1; omega

theorem hv_inb (c : Dev nD) (b : Fin 3) (s : Fin 2) (x) : (xbSl s).view.read (Elt F) (fill cc0_scratch4 (vb m c b s)) x = (abSl c b).view.read (Elt F) (fill main_arg0 (xv m c)) x := by
  rw [(c_xb s).read_fill, (c_ab c b).read_fill]
  show xv m c (1024 * blk c (1 + b.val) + _) = xv m c _
  congr 1; omega

theorem hv_convQ (c : Dev nD) (j : Fin 16) (x) :
    (scrA.access (rQ c j)).read (Elt F) (fill cc0_scratch0 (cv m c)) x
      = k0_pay1 ((xinA.access (Rect.unit (s := S2x1024x1024) ![0, 64 * j.val, 0] S1x64x1024.size (inb_xi j))).read (Elt F) (fill cc0_scratch4 (vi m c))) x := by
  rw [(c_rQ c j).read_fill]
  unfold k0_pay1 truncf shapeCast
  beta_reduce
  rw [(c_xiA j).read_fill]
  show FloatOps.truncf _ _ (xv m c _) = FloatOps.truncf _ _ (xv m c (1024 * blk c 0 + _))
  rw [Shape.rowMajor_reshapeEquiv, Shape.rowMajor_reshapeEquiv]
  have e : ((rQ c j).shape.rowMajor x).val = (S64x1024.rowMajor x).val := rfl
  congr 2; omega

theorem hv_convB (c : Dev nD) (b : Fin 3) (s : Fin 2) (x) :
    (scrA.access (rB c b)).read (Elt F) (fill cc0_scratch0 (cv m c)) x
      = k0_pay20 ((xinA.access (Rect.unit (s := S2x1024x1024) ![s.val, 0, 0] S1x1024x1024.size (inb_xb s))).read (Elt F) (fill cc0_scratch4 (vb m c b s))) x := by
  rw [(c_rB c b).read_fill]
  unfold k0_pay20 truncf shapeCast
  beta_reduce
  rw [(c_xbA s).read_fill]
  show FloatOps.truncf _ _ (xv m c _) = FloatOps.truncf _ _ (xv m c (1024 * blk c (1 + b.val) + _))
  rw [Shape.rowMajor_reshapeEquiv, Shape.rowMajor_reshapeEquiv]
  have e : ((rB c b).shape.rowMajor x).val = (S1024x1024.rowMajor x).val := rfl
  congr 2; omega

end Cert.KernelIdealRun
end
-- ==== Proof.IdealTurns.lean ====
module

public import proofs.«01_k».proof.Proof.IdealValues

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # One turn of every loop -/

local notation "𝕄" => MT nD τ sig Unit (Elt F) ℕ UU ℕ

variable {m : (ℓ : Loc nD τ sig) → Buf (Elt F) ℓ} {κ : Dev nD × Kx → ℕ}

/-! ## Running in order, with the rest of the state kept aside -/

theorem ent {P Q : sProp 𝕄} (h : P = Q) : P ⊢ Q := h ▸ Entails.rfl
theorem ent' {P Q : sProp 𝕄} (h : P = Q) : Q ⊢ P := h ▸ Entails.rfl

theorem seq1 {c : Dev nD} {p : Pg F} {k : PUnit → Pg F} {P R : sProp 𝕄} {Q : PUnit → sProp 𝕄} (h : P ⊢ WP c p (fun _ => R)) :
    P ⊢ iprop((R -∗ WP c (k ⟨⟩) Q) -∗ WP c (p >>= k) Q) := by
  iintro HP HR
  iapply (seq c p k (fun _ => R) Q)
  isplitl [HP]; · iapply h; iexact HP
  iintro %u HQ
  iapply HR; iexact HQ

theorem last1 {c : Dev nD} {p : Pg F} {P R : sProp 𝕄} {Q : PUnit → sProp 𝕄} (h : P ⊢ WP c p (fun _ => R)) :
    P ⊢ iprop((R -∗ Q ⟨⟩) -∗ WP c p Q) := by
  iintro HP HR
  iapply (wand c p (fun _ => R) Q)
  isplitl [HP]; · iapply h; iexact HP
  iintro %u HQ
  iapply HR; iexact HQ

/-- The same for a program of two readings and a write. -/
theorem seq3 {α β : Type} {c : Dev nD} {a : Prog (TpuEff nD τ sig (Elt F) Λ₀ .tc) α} {b : Prog (TpuEff nD τ sig (Elt F) Λ₀ .tc) β} {s : α → Pg F} {k : PUnit → Pg F}
    {P R : sProp 𝕄} {Q : PUnit → sProp 𝕄} (h : P ⊢ WP c (a >>= fun v => b >>= fun _ => s v) (fun _ => R)) :
    P ⊢ iprop((R -∗ WP c (k ⟨⟩) Q) -∗ WP c (a >>= fun v => b >>= fun _ => s v >>= k) Q) := by
  have h' := seq1 (k := k) (Q := Q) h
  simp only [bind_assoc] at h'
  exact h'

theorem with_owes {c : Dev nD} {p : Pg F} {A B : sProp 𝕄} {O : CellTallies nD τ sig Unit} (h : iprop(Ctx m κ ∗ A) ⊢ WP c p (fun _ => B)) :
    iprop(Ctx m κ ∗ owesE c O ∗ A) ⊢ WP c p (fun _ => iprop(owesE c O ∗ B)) := by
  iintro ⟨#HC, HO, HA⟩
  iapply (last1 h) $$ [HA]
  · isplitr; · iexact HC
    iexact HA
  iintro HB
  isplitl [HO] <;> iassumption

/-! ## What is owed -/

def gxq (c : Dev nD) (j : Fin 16) : CellTallies nD τ sig Unit := tallyAt (cell (partner c) ⟨.xqR, j⟩) () (amt ⟨.xqR, j⟩)
def gxd (c : Dev nD) (i : Fin 4) : CellTallies nD τ sig Unit := tallyAt (cell (partner c) ⟨.xdR, i⟩) () (amt ⟨.xdR, i⟩)
def g1 (c : Dev nD) (j : Fin 16) : CellTallies nD τ sig Unit :=
  tallyAt (cell (left c) ⟨.ccwR, j⟩) () (amt ⟨.ccwR, j⟩) + tallyAt (cell (right c) ⟨.cwR, j⟩) () (amt ⟨.cwR, j⟩)
def gc2 (c : Dev nD) (k : Fin 6) : CellTallies nD τ sig Unit := tallyAt (cell (right c) ⟨.c2R, k⟩) () (amt ⟨.c2R, k⟩)
def gd2 (c : Dev nD) (k : Fin 6) : CellTallies nD τ sig Unit := tallyAt (cell (left c) ⟨.d2R, k⟩) () (amt ⟨.d2R, k⟩)
def gb (c : Dev nD) : CellTallies nD τ sig Unit := tallyAt (cell c ⟨.bar, 0⟩) () 1

def O4 (c : Dev nD) : CellTallies nD τ sig Unit := oweL (gd2 c) l6 0
def O3 (c : Dev nD) : CellTallies nD τ sig Unit := oweL (gc2 c) l6 (O4 c)
def O2 (c : Dev nD) : CellTallies nD τ sig Unit := oweL (g1 c) l16 (O3 c)
def O1 (c : Dev nD) : CellTallies nD τ sig Unit := oweL (gxd c) l4 (O2 c)
def Oq (c : Dev nD) : CellTallies nD τ sig Unit := oweL (gxq c) l16 (O1 c)
/-- Everything a device owes when it starts. -/
def O₀ (c : Dev nD) : CellTallies nD τ sig Unit := Oq c + gb (right c) + gb (left c) + gb (partner c)

theorem a_gxq (c : Dev nD) (j : Fin 16) : Above 1 (gxq c j) := above_cell _ _ _ (by show 1 < 2; decide)
theorem a_gxd (c : Dev nD) (j : Fin 4) : Above 1 (gxd c j) := above_cell _ _ _ (by show 1 < 2; decide)
theorem a_g1 (c : Dev nD) (j : Fin 16) : Above 2 (g1 c j) := above_add (above_cell _ _ _ (by show 2 < 3; decide)) (above_cell _ _ _ (by show 2 < 3; decide))
theorem a_gc2 (c : Dev nD) (j : Fin 6) : Above 3 (gc2 c j) := above_cell _ _ _ (by show 3 < 4; decide)
theorem a_gd2 (c : Dev nD) (j : Fin 6) : Above 3 (gd2 c j) := above_cell _ _ _ (by show 3 < 4; decide)
theorem a_O4 (c : Dev nD) : Above 3 (O4 c) := above_oweL (a_gd2 c) _ (above_zero _)
theorem a_O3 (c : Dev nD) : Above 3 (O3 c) := above_oweL (a_gc2 c) _ (a_O4 c)
theorem a_O2 (c : Dev nD) : Above 2 (O2 c) := above_oweL (a_g1 c) _ ((a_O3 c).mono (by decide))
theorem a_O1 (c : Dev nD) : Above 1 (O1 c) := above_oweL (a_gxd c) _ ((a_O2 c).mono (by decide))
theorem a_Oq (c : Dev nD) : Above 1 (Oq c) := above_oweL (a_gxq c) _ (a_O1 c)

/-! ## Reading the argument and converting it -/

theorem t_startQ (c : Dev nD) (j : Fin 16) :
    iprop(Ctx m κ ∗ pt main_arg0 c fullShare (blk c 0 + 64 * j.val) 64 (xv m c) ∗ pa cc0_scratch4 c (64 * j.val) 64 ∗ tok c ⟨.inq, j⟩ 0)
      ⊢ WP c (startQ c j) (fun _ => cr c ⟨.inq, j⟩) := by
  refine copy_step c ⟨.inq, j⟩ (by simp) ?_ (c_aq c j) (c_xi j) (xv m c) (vi m c) ?_ (hv_inq m c j) ?_
  · rfl
  · rfl
  · exact Entails.rfl

theorem t_startB (c : Dev nD) (i : Fin 3) :
    iprop(Ctx m κ ∗ pt main_arg0 c fullShare (blk c (1 + (inB i).val)) 1024 (xv m c) ∗ pa cc0_scratch4 c (1024 * (inS i).val) 1024 ∗ tok c ⟨.inb, i⟩ 0)
      ⊢ WP c (startB c (inB i) (inS i) i) (fun _ => cr c ⟨.inb, i⟩) := by
  refine copy_step c ⟨.inb, i⟩ (by simp) ?_ (c_ab c (inB i)) (c_xb (inS i)) (xv m c) (vb m c (inB i) (inS i)) ?_ (hv_inb m c (inB i) (inS i)) ?_
  · rfl
  · rfl
  · exact Entails.rfl

theorem t_waitB (c : Dev nD) (i : Fin 3) {O : CellTallies nD τ sig Unit} (hO : Above 0 O) :
    iprop(Ctx m κ ∗ owesE c O ∗ at0 c ⟨.inb, i⟩ ∗ cr c ⟨.inb, i⟩)
      ⊢ WP c (waitB c (inB i) (inS i) i) (fun _ => iprop(owesE c O ∗ at1 c ⟨.inb, i⟩ ∗ pay m c ⟨.inb, i⟩ 0)) := by
  refine wait_step c ⟨.inb, i⟩ (by simp) ?_ ?_ hO
  · rfl
  · rfl

theorem t_convB (c : Dev nD) (b : Fin 3) (s : Fin 2) :
    iprop(pt cc0_scratch4 c fullShare (1024 * s.val) 1024 (vb m c b s) ∗ pa cc0_scratch0 c (blk c (1 + b.val)) 1024)
      ⊢ WP c (convB c b s) (fun _ => iprop(pt cc0_scratch4 c fullShare (1024 * s.val) 1024 (vb m c b s) ∗ pt cc0_scratch0 c fullShare (blk c (1 + b.val)) 1024 (cv m c))) :=
  by
  unfold convB
  have h := fun h₁ h₂ h₃ h₄ => conv_step (F := F) c (Rect.unit (s := S2x1024x1024) ![s.val, 0, 0] S1x1024x1024.size (inb_xb s)) (rB c b) k0_pay20 (h₁ := h₁) (h₂ := h₂) (h₃ := h₃) (h₄ := h₄)
    (c_xbA s) (c_rB c b) (vb m c b s) (cv m c) (hv_convB m c b s)
  exact h _ _ _ _

theorem t_convQ (c : Dev nD) (j : Fin 16) {h₁ h₂ h₃ h₄} :
    iprop(pt cc0_scratch4 c fullShare (64 * j.val) 64 (vi m c) ∗ pa cc0_scratch0 c (blk c 0 + 64 * j.val) 64)
      ⊢ WP c (Prog.lift (.load xinA (Rect.unit (s := S2x1024x1024) ![0, 64 * j.val, 0] S1x64x1024.size (inb_xi j)).toLoadRect h₁) >>= fun v => Prog.lift (.load scrA (rQ c j).toLoadRect h₂) >>= fun _ =>
          Prog.lift (.store scrA (rQ c j) (k0_pay1 v) Finset.univ h₃ h₄) : Pg F)
        (fun _ => iprop(pt cc0_scratch4 c fullShare (64 * j.val) 64 (vi m c) ∗ pt cc0_scratch0 c fullShare (blk c 0 + 64 * j.val) 64 (cv m c))) :=
  by
  have h := fun h₁ h₂ h₃ h₄ => conv_step (F := F) c (Rect.unit (s := S2x1024x1024) ![0, 64 * j.val, 0] S1x64x1024.size (inb_xi j)) (rQ c j) k0_pay1 (h₁ := h₁) (h₂ := h₂) (h₃ := h₃) (h₄ := h₄)
    (c_xiA j) (c_rQ c j) (vi m c) (cv m c) (hv_convQ m c j)
  exact h _ _ _ _

/-- The transfer of a converted slice to the partner. -/
theorem t_sendQ (c : Dev nD) (j : Fin 16) {O : CellTallies nD τ sig Unit} {h₁ h₂ h₃ h₄} :
    iprop(Ctx m κ ∗ owesE c (O + gxq c j) ∗ pt cc0_scratch0 c fullShare.left (blk c 0 + 64 * j.val) 64 (cv m c) ∗ pa cc0_scratch1 (partner c) (64 * j.val) 64 ∗ tok c ⟨.xqS, j⟩ 0 ∗ tok (partner c) ⟨.xqR, j⟩ 0)
      ⊢ WP (F := F) c (Prog.lift (.enqueueDma (scSl c j) (.remote (Dev.tc ((dests c).xq j)) (stSl sqA j) (.dma (s16 cc0_scratch5 j)) h₁) (.dma (s16 cc0_scratch6 j)) h₂ h₃ h₄))
          (fun _ => iprop(owesE c O ∗ cr c ⟨.xqS, j⟩)) := by
  refine send_step c (partner c) ⟨.xqS, j⟩ ⟨.xqR, j⟩ (by simp) (by simp) ?_ ?_ (c_sc c j) (c_st c_sq j) (cv m c) (vq m (partner c)) ?_ ?_ (hv_xq m c j) ?_ ?_
  · rfl
  · rfl
  · rfl
  · rfl
  · exact Entails.rfl
  · exact Entails.rfl

theorem t_waitInq (c : Dev nD) (j : Fin 16) {O : CellTallies nD τ sig Unit} (hO : Above 0 O) {h₁ h₂} :
    iprop(Ctx m κ ∗ owesE c O ∗ at0 c ⟨.inq, j⟩ ∗ cr c ⟨.inq, j⟩)
      ⊢ WP c (Prog.lift (.waitDma2 (s16 cc0_scratch18 j) (aqSl c j) (xiSl j) h₁ h₂)) (fun _ => iprop(owesE c O ∗ at1 c ⟨.inq, j⟩ ∗ pay m c ⟨.inq, j⟩ 0)) := by
  refine wait_step c ⟨.inq, j⟩ (by simp) ?_ ?_ hO
  · rfl
  · rfl

theorem t_stepQ (c : Dev nD) (j : Fin 16) (O : CellTallies nD τ sig Unit) (hO : Above 1 O) :
    iprop(Ctx m κ ∗ owesE c (O + gxq c j) ∗ at0 c ⟨.inq, j⟩ ∗ cr c ⟨.inq, j⟩ ∗ pa cc0_scratch0 c (blk c 0 + 64 * j.val) 64 ∗ pa cc0_scratch1 (partner c) (64 * j.val) 64 ∗ tok c ⟨.xqS, j⟩ 0 ∗ tok (partner c) ⟨.xqR, j⟩ 0)
      ⊢ WP c (stepQ (dests c) c j) (fun _ => iprop(owesE c O ∗ at1 c ⟨.inq, j⟩ ∗ cr c ⟨.xqS, j⟩ ∗ pa cc0_scratch4 c (64 * j.val) 64
          ∗ pt main_arg0 c fullShare (blk c 0 + 64 * j.val) 64 (xv m c) ∗ pt cc0_scratch0 c fullShare.right (blk c 0 + 64 * j.val) 64 (cv m c))) := by
  unfold stepQ
  iintro ⟨#HC, HO, Hat, Hcr, Hs, Hq, HtS, HtR⟩
  iapply (seq1 (t_waitInq (m := m) (κ := κ) c j (above_add (hO.mono (by show 0 ≤ 1; decide)) ((a_gxq c j).mono (by show 0 ≤ 1; decide))))) $$ [HO Hat Hcr]
  · isplitr; · iexact HC
    isplitl [HO]; · iexact HO
    isplitl [Hat] <;> iassumption
  iintro ⟨HO, Hat, HP⟩
  ihave HP := (ent (show pay m c ⟨.inq, j⟩ 0 = iprop(pt cc0_scratch4 c fullShare (64 * j.val) 64 (vi m c) ∗ pt main_arg0 c fullShare (blk c 0 + 64 * j.val) 64 (xv m c)) from rfl)) $$ HP
  icases HP with ⟨Hi, Ha⟩
  iapply (seq3 (t_convQ (m := m) c j)) $$ [Hi Hs]
  · isplitl [Hi] <;> iassumption
  iintro ⟨Hi, Hs⟩
  ihave Hs := (ent (shares _ _ _ _ _ _)) $$ Hs
  icases Hs with ⟨Hl, Hr⟩
  iapply (last1 (t_sendQ (m := m) (κ := κ) c j)) $$ [HO Hl Hq HtS HtR]
  · isplitr; · iexact HC
    isplitl [HO]; · iexact HO
    isplitl [Hl]; · iexact Hl
    isplitl [Hq]; · iexact Hq
    isplitl [HtS] <;> iassumption
  iintro ⟨HO, Hc⟩
  isplitl [HO]; · iexact HO
  isplitl [Hat]; · iexact Hat
  isplitl [Hc]; · iexact Hc
  isplitl [Hi]; · iapply (pt_pa _ _ _ _ _) $$ Hi
  isplitl [Ha] <;> iassumption

theorem t_sendXd (c : Dev nD) (i : Fin 4) (O : CellTallies nD τ sig Unit) (hO : Above 1 O) :
    iprop(Ctx m κ ∗ owesE c (O + gxd c i) ∗ pt cc0_scratch0 c fullShare.left (blk c 2 + 768 + 64 * i.val) 64 (cv m c)
        ∗ pa main_v1 (partner c) (own c + blk c 2 + 768 + 64 * i.val) 64 ∗ tok c ⟨.xdS, i⟩ 0 ∗ tok (partner c) ⟨.xdR, i⟩ 0)
      ⊢ WP c (sendXd (dests c) c i) (fun _ => iprop(owesE c O ∗ cr c ⟨.xdS, i⟩)) := by
  refine send_step c (partner c) ⟨.xdS, i⟩ ⟨.xdR, i⟩ (by simp) (by simp) ?_ ?_ (c_xdS c i) (c_xdD c i) (cv m c) (G m (partner c)) ?_ ?_ (hv_xd m c i) ?_ ?_
  · rfl
  · rfl
  · rfl
  · rfl
  · exact Entails.rfl
  · exact ent (by show pt _ _ _ _ _ _ = pt _ _ _ _ _ _; rw [opp_partner, blk_partner])

/-! ## The hops -/

theorem t_waitSq (c : Dev nD) (j : Fin 16) {O : CellTallies nD τ sig Unit} (hO : Above 2 O) :
    iprop(Ctx m κ ∗ owesE c O ∗ at0 c ⟨.xqR, j⟩ ∗ cr c ⟨.xqR, j⟩)
      ⊢ WP c (waitSt sqA (Memref.isWhole_whole _) (s16 cc0_scratch6 j) j) (fun _ => iprop(owesE c O ∗ at1 c ⟨.xqR, j⟩ ∗ pt cc0_scratch1 c fullShare (64 * j.val) 64 (vq m c))) := by
  refine wait_step c ⟨.xqR, j⟩ (by simp) ?_ ?_ hO
  · rfl
  · rfl
theorem t_waitCw (c : Dev nD) (j : Fin 16) {O : CellTallies nD τ sig Unit} (hO : Above 3 O) :
    iprop(Ctx m κ ∗ owesE c O ∗ at0 c ⟨.cwR, j⟩ ∗ cr c ⟨.cwR, j⟩)
      ⊢ WP c (waitSt scwA (Memref.isWhole_whole _) (s16 cc0_scratch10 j) j) (fun _ => iprop(owesE c O ∗ at1 c ⟨.cwR, j⟩ ∗ pt cc0_scratch2 c fullShare (64 * j.val) 64 (vw m c))) := by
  refine wait_step c ⟨.cwR, j⟩ (by simp) ?_ ?_ hO
  · rfl
  · rfl
theorem t_waitCcw (c : Dev nD) (j : Fin 16) {O : CellTallies nD τ sig Unit} (hO : Above 3 O) :
    iprop(Ctx m κ ∗ owesE c O ∗ at0 c ⟨.ccwR, j⟩ ∗ cr c ⟨.ccwR, j⟩)
      ⊢ WP c (waitSt sccwA (Memref.isWhole_whole _) (s16 cc0_scratch12 j) j) (fun _ => iprop(owesE c O ∗ at1 c ⟨.ccwR, j⟩ ∗ pt cc0_scratch3 c fullShare (64 * j.val) 64 (vc m c))) := by
  refine wait_step c ⟨.ccwR, j⟩ (by simp) ?_ ?_ hO
  · rfl
  · rfl

theorem t_fwdCw (c : Dev nD) (j : Fin 16) {O : CellTallies nD τ sig Unit} :
    iprop(Ctx m κ ∗ owesE c (O + tallyAt (cell (right c) ⟨.cwR, j⟩) () (amt ⟨.cwR, j⟩)) ∗ pt cc0_scratch1 c fullShare.left.left (64 * j.val) 64 (vq m c) ∗ pa cc0_scratch2 (right c) (64 * j.val) 64 ∗ tok c ⟨.cwS, j⟩ 0 ∗ tok (right c) ⟨.cwR, j⟩ 0)
      ⊢ WP (F := F) c (fwd1 ((dests c).cw1 j) scwA (Memref.isWhole_whole _) rfl (s16 cc0_scratch9 j) (s16 cc0_scratch10 j) j) (fun _ => iprop(owesE c O ∗ cr c ⟨.cwS, j⟩)) := by
  refine send_step c (right c) ⟨.cwS, j⟩ ⟨.cwR, j⟩ (by simp) (by simp) ?_ ?_ (c_st c_sq j) (c_st c_scw j) (vq m c) (vw m (right c)) ?_ ?_ (hv_cw m c j) ?_ ?_
  · rfl
  · rfl
  · rfl
  · rfl
  · exact Entails.rfl
  · exact Entails.rfl
theorem t_fwdCcw (c : Dev nD) (j : Fin 16) {O : CellTallies nD τ sig Unit} :
    iprop(Ctx m κ ∗ owesE c (O + tallyAt (cell (left c) ⟨.ccwR, j⟩) () (amt ⟨.ccwR, j⟩)) ∗ pt cc0_scratch1 c fullShare.left.right (64 * j.val) 64 (vq m c) ∗ pa cc0_scratch3 (left c) (64 * j.val) 64 ∗ tok c ⟨.ccwS, j⟩ 0 ∗ tok (left c) ⟨.ccwR, j⟩ 0)
      ⊢ WP (F := F) c (fwd1 ((dests c).ccw1 j) sccwA (Memref.isWhole_whole _) rfl (s16 cc0_scratch11 j) (s16 cc0_scratch12 j) j) (fun _ => iprop(owesE c O ∗ cr c ⟨.ccwS, j⟩)) := by
  refine send_step c (left c) ⟨.ccwS, j⟩ ⟨.ccwR, j⟩ (by simp) (by simp) ?_ ?_ (c_st c_sq j) (c_st c_sccw j) (vq m c) (vc m (left c)) ?_ ?_ (hv_ccw m c j) ?_ ?_
  · rfl
  · rfl
  · rfl
  · rfl
  · exact Entails.rfl
  · exact Entails.rfl

theorem t_step1 (c : Dev nD) (j : Fin 16) (O : CellTallies nD τ sig Unit) (hO : Above 2 O) :
    iprop(Ctx m κ ∗ owesE c (O + g1 c j) ∗ at0 c ⟨.xqR, j⟩ ∗ cr c ⟨.xqR, j⟩ ∗ pa cc0_scratch2 (right c) (64 * j.val) 64 ∗ pa cc0_scratch3 (left c) (64 * j.val) 64
        ∗ tok c ⟨.cwS, j⟩ 0 ∗ tok (right c) ⟨.cwR, j⟩ 0 ∗ tok c ⟨.ccwS, j⟩ 0 ∗ tok (left c) ⟨.ccwR, j⟩ 0)
      ⊢ WP c (step1 (dests c) c j) (fun _ => iprop(owesE c O ∗ at1 c ⟨.xqR, j⟩ ∗ cr c ⟨.cwS, j⟩ ∗ cr c ⟨.ccwS, j⟩ ∗ pt cc0_scratch1 c fullShare.right (64 * j.val) 64 (vq m c))) := by
  unfold step1
  iintro ⟨#HC, HO, Hat, Hcr, H2, H3, Ht1, Ht2, Ht3, Ht4⟩
  iapply (seq1 (t_waitSq (m := m) (κ := κ) c j (above_add hO (a_g1 c j)))) $$ [HO Hat Hcr]
  · isplitr; · iexact HC
    isplitl [HO]; · iexact HO
    isplitl [Hat] <;> iassumption
  iintro ⟨HO, Hat, HP⟩
  ihave HP := (ent (shares _ _ _ _ _ _)) $$ HP
  icases HP with ⟨Hl, Hr⟩
  ihave Hl := (ent (shares _ _ _ _ _ _)) $$ Hl
  icases Hl with ⟨Hll, Hlr⟩
  unfold g1
  rw [← add_assoc]
  iapply (seq1 (t_fwdCw (m := m) (κ := κ) c j)) $$ [HO Hll H2 Ht1 Ht2]
  · isplitr; · iexact HC
    isplitl [HO]; · iexact HO
    isplitl [Hll]; · iexact Hll
    isplitl [H2]; · iexact H2
    isplitl [Ht1] <;> iassumption
  iintro ⟨HO, Hc1⟩
  iapply (last1 (t_fwdCcw (m := m) (κ := κ) c j)) $$ [HO Hlr H3 Ht3 Ht4]
  · isplitr; · iexact HC
    isplitl [HO]; · iexact HO
    isplitl [Hlr]; · iexact Hlr
    isplitl [H3]; · iexact H3
    isplitl [Ht3] <;> iassumption
  iintro ⟨HO, Hc2⟩
  isplitl [HO]; · iexact HO
  isplitl [Hat]; · iexact Hat
  isplitl [Hc1]; · iexact Hc1
  isplitl [Hc2] <;> iassumption

theorem t_fwd2cw (c : Dev nD) (k : Fin 6) {O : CellTallies nD τ sig Unit} :
    iprop(Ctx m κ ∗ owesE c (O + gc2 c k) ∗ pt cc0_scratch2 c fullShare.left (64 * (lo k).val) 64 (vw m c) ∗ pa main_v1 (right c) (row9 c k.val) 64 ∗ tok c ⟨.c2S, k⟩ 0 ∗ tok (right c) ⟨.c2R, k⟩ 0)
      ⊢ WP (F := F) c (fwd2 c ((dests c).cw2 k) scwA (Memref.isWhole_whole _) (s6 cc0_scratch13 k) (s6 cc0_scratch14 k) (lo k) ⟨k.val, by omega⟩) (fun _ => iprop(owesE c O ∗ cr c ⟨.c2S, k⟩)) := by
  have hk : k.val < 28 := by omega
  refine send_step c (right c) ⟨.c2S, k⟩ ⟨.c2R, k⟩ (by simp) (by simp) ?_ ?_ (c_st c_scw (lo k)) (c_o9 c ⟨k.val, hk⟩) (vw m c) (G m (right c)) ?_ ?_ (hv_2cw m c k) ?_ ?_
  · rfl
  · rfl
  · rfl
  · rfl
  · exact Entails.rfl
  · exact ent (by show pt _ _ _ (row9 c k.val) _ _ = pt _ _ _ _ _ _; rw [row9_lo])
theorem t_fwd2ccw (c : Dev nD) (k : Fin 6) {O : CellTallies nD τ sig Unit} :
    iprop(Ctx m κ ∗ owesE c (O + gd2 c k) ∗ pt cc0_scratch3 c fullShare.left (64 * (mid k).val) 64 (vc m c) ∗ pa main_v1 (left c) (row9 c (6 + k.val)) 64 ∗ tok c ⟨.d2S, k⟩ 0 ∗ tok (left c) ⟨.d2R, k⟩ 0)
      ⊢ WP (F := F) c (fwd2 c ((dests c).ccw2 k) sccwA (Memref.isWhole_whole _) (s6 cc0_scratch15 k) (s6 cc0_scratch16 k) (mid k) ⟨6 + k.val, by omega⟩) (fun _ => iprop(owesE c O ∗ cr c ⟨.d2S, k⟩)) := by
  have hk : 6 + k.val < 28 := by omega
  refine send_step c (left c) ⟨.d2S, k⟩ ⟨.d2R, k⟩ (by simp) (by simp) ?_ ?_ (c_st c_sccw (mid k)) (c_o9 c ⟨6 + k.val, hk⟩) (vc m c) (G m (left c)) ?_ ?_ (hv_2ccw m c k) ?_ ?_
  · rfl
  · rfl
  · rfl
  · rfl
  · exact Entails.rfl
  · exact ent (by show pt _ _ _ (row9 c (6 + k.val)) _ _ = pt _ _ _ _ _ _; rw [row9_mid])

theorem t_step2cw (c : Dev nD) (k : Fin 6) (O : CellTallies nD τ sig Unit) (hO : Above 3 O) :
    iprop(Ctx m κ ∗ owesE c (O + gc2 c k) ∗ at0 c ⟨.cwR, lo k⟩ ∗ cr c ⟨.cwR, lo k⟩ ∗ pa main_v1 (right c) (opp (right c) + blk (right c) 2 + 64 * k.val) 64 ∗ tok c ⟨.c2S, k⟩ 0 ∗ tok (right c) ⟨.c2R, k⟩ 0)
      ⊢ WP c (step2cw (dests c) c k) (fun _ => iprop(owesE c O ∗ at1 c ⟨.cwR, lo k⟩ ∗ cr c ⟨.c2S, k⟩ ∗ pt cc0_scratch2 c fullShare.right (64 * (lo k).val) 64 (vw m c))) := by
  unfold step2cw
  rw [← row9_lo]
  iintro ⟨#HC, HO, Hat, Hcr, H2, Ht1, Ht2⟩
  iapply (seq1 (t_waitCw (m := m) (κ := κ) c (lo k) (above_add hO (a_gc2 c k)))) $$ [HO Hat Hcr]
  · isplitr; · iexact HC
    isplitl [HO]; · iexact HO
    isplitl [Hat] <;> iassumption
  iintro ⟨HO, Hat, HP⟩
  ihave HP := (ent (shares _ _ _ _ _ _)) $$ HP
  icases HP with ⟨Hl, Hr⟩
  iapply (last1 (t_fwd2cw (m := m) (κ := κ) c k)) $$ [HO Hl H2 Ht1 Ht2]
  · isplitr; · iexact HC
    isplitl [HO]; · iexact HO
    isplitl [Hl]; · iexact Hl
    isplitl [H2]; · iexact H2
    isplitl [Ht1] <;> iassumption
  iintro ⟨HO, Hc1⟩
  isplitl [HO]; · iexact HO
  isplitl [Hat]; · iexact Hat
  isplitl [Hc1] <;> iassumption

theorem t_step2ccw (c : Dev nD) (k : Fin 6) (O : CellTallies nD τ sig Unit) (hO : Above 3 O) :
    iprop(Ctx m κ ∗ owesE c (O + gd2 c k) ∗ at0 c ⟨.ccwR, mid k⟩ ∗ cr c ⟨.ccwR, mid k⟩ ∗ pa main_v1 (left c) (opp (left c) + blk (left c) 2 + 384 + 64 * k.val) 64 ∗ tok c ⟨.d2S, k⟩ 0 ∗ tok (left c) ⟨.d2R, k⟩ 0)
      ⊢ WP c (step2ccw (dests c) c k) (fun _ => iprop(owesE c O ∗ at1 c ⟨.ccwR, mid k⟩ ∗ cr c ⟨.d2S, k⟩ ∗ pt cc0_scratch3 c fullShare.right (64 * (mid k).val) 64 (vc m c))) := by
  unfold step2ccw
  rw [← row9_mid]
  iintro ⟨#HC, HO, Hat, Hcr, H2, Ht1, Ht2⟩
  iapply (seq1 (t_waitCcw (m := m) (κ := κ) c (mid k) (above_add hO (a_gd2 c k)))) $$ [HO Hat Hcr]
  · isplitr; · iexact HC
    isplitl [HO]; · iexact HO
    isplitl [Hat] <;> iassumption
  iintro ⟨HO, Hat, HP⟩
  ihave HP := (ent (shares _ _ _ _ _ _)) $$ HP
  icases HP with ⟨Hl, Hr⟩
  iapply (last1 (t_fwd2ccw (m := m) (κ := κ) c k)) $$ [HO Hl H2 Ht1 Ht2]
  · isplitr; · iexact HC
    isplitl [HO]; · iexact HO
    isplitl [Hl]; · iexact Hl
    isplitl [H2]; · iexact H2
    isplitl [Ht1] <;> iassumption
  iintro ⟨HO, Hc1⟩
  isplitl [HO]; · iexact HO
  isplitl [Hat]; · iexact Hat
  isplitl [Hc1] <;> iassumption

/-! ## Copies to the result -/

theorem t_flushMine (c : Dev nD) :
    iprop(Ctx m κ ∗ pt cc0_scratch0 c fullShare.right 0 4096 (cv m c) ∗ pa main_v1 c (own c) 4096 ∗ tok c ⟨.loc, (0 : Fin 4)⟩ 0)
      ⊢ WP c (flushMine c) (fun _ => cr c ⟨.loc, (0 : Fin 4)⟩) := by
  refine copy_step c ⟨.loc, (0 : Fin 4)⟩ (by simp) ?_ c_scr (c_mine c) (cv m c) (G m c) ?_ (hv_mine m c) ?_
  · rfl
  · rfl
  · exact Entails.rfl
theorem t_flushQ (c : Dev nD) :
    iprop(Ctx m κ ∗ pt cc0_scratch1 c fullShare.right 0 1024 (vq m c) ∗ pa main_v1 c (opp c + blk c 0) 1024 ∗ tok c ⟨.loc, (1 : Fin 4)⟩ 0)
      ⊢ WP c (flush sqA (Memref.isWhole_whole _) (oQ c) (oQ_exact c) 1) (fun _ => cr c ⟨.loc, (1 : Fin 4)⟩) := by
  refine copy_step c ⟨.loc, (1 : Fin 4)⟩ (by simp) ?_ c_sq (c_oQ c) (vq m c) (G m c) ?_ (hv_oQ m c) ?_
  · rfl
  · rfl
  · exact Entails.rfl
theorem t_flushW (c : Dev nD) :
    iprop(Ctx m κ ∗ pt cc0_scratch2 c fullShare.right 0 1024 (vw m c) ∗ pa main_v1 c (opp c + blk c 3) 1024 ∗ tok c ⟨.loc, (2 : Fin 4)⟩ 0)
      ⊢ WP c (flush scwA (Memref.isWhole_whole _) (oC c 1) (oC_exact c 1) 2) (fun _ => cr c ⟨.loc, (2 : Fin 4)⟩) := by
  refine copy_step c ⟨.loc, (2 : Fin 4)⟩ (by simp) ?_ c_scw (c_oC c 1) (vw m c) (G m c) ?_ (hv_oC1 m c) ?_
  · rfl
  · rfl
  · exact Entails.rfl
theorem t_flushC (c : Dev nD) :
    iprop(Ctx m κ ∗ pt cc0_scratch3 c fullShare.right 0 1024 (vc m c) ∗ pa main_v1 c (opp c + blk c 1) 1024 ∗ tok c ⟨.loc, (3 : Fin 4)⟩ 0)
      ⊢ WP c (flush sccwA (Memref.isWhole_whole _) (oC c 0) (oC_exact c 0) 3) (fun _ => cr c ⟨.loc, (3 : Fin 4)⟩) := by
  refine copy_step c ⟨.loc, (3 : Fin 4)⟩ (by simp) ?_ c_sccw (c_oC c 0) (vc m c) (G m c) ?_ (hv_oC0 m c) ?_
  · rfl
  · rfl
  · exact Entails.rfl

/-! ## The waits at the end -/

theorem t_waitXd (c : Dev nD) (i : Fin 4) {O : CellTallies nD τ sig Unit} (hO : Above 4 O) :
    iprop(Ctx m κ ∗ owesE c O ∗ at0 c ⟨.xdR, i⟩ ∗ cr c ⟨.xdR, i⟩)
      ⊢ WP c (waitO (s4 cc0_scratch8 i) c ⟨12 + i.val, by omega⟩) (fun _ => iprop(owesE c O ∗ at1 c ⟨.xdR, i⟩ ∗ pay m c ⟨.xdR, i⟩ 0)) := by
  refine wait_step c ⟨.xdR, i⟩ (by simp) ?_ ?_ (hO.mono (by show 2 ≤ 4; decide))
  · rfl
  · rfl
theorem t_wait2w (c : Dev nD) (i : Fin 6) {O : CellTallies nD τ sig Unit} (hO : Above 4 O) :
    iprop(Ctx m κ ∗ owesE c O ∗ at0 c ⟨.c2R, i⟩ ∗ cr c ⟨.c2R, i⟩)
      ⊢ WP c (waitO (s6 cc0_scratch14 i) c ⟨16 + i.val, by omega⟩) (fun _ => iprop(owesE c O ∗ at1 c ⟨.c2R, i⟩ ∗ pay m c ⟨.c2R, i⟩ 0)) := by
  refine wait_step c ⟨.c2R, i⟩ (by simp) ?_ ?_ hO
  · rfl
  · rfl
theorem t_wait2c (c : Dev nD) (i : Fin 6) {O : CellTallies nD τ sig Unit} (hO : Above 4 O) :
    iprop(Ctx m κ ∗ owesE c O ∗ at0 c ⟨.d2R, i⟩ ∗ cr c ⟨.d2R, i⟩)
      ⊢ WP c (waitO (s6 cc0_scratch16 i) c ⟨22 + i.val, by omega⟩) (fun _ => iprop(owesE c O ∗ at1 c ⟨.d2R, i⟩ ∗ pay m c ⟨.d2R, i⟩ 0)) := by
  refine wait_step c ⟨.d2R, i⟩ (by simp) ?_ ?_ hO
  · rfl
  · rfl

theorem t_sentXq (c : Dev nD) (j : Fin 16) {O : CellTallies nD τ sig Unit} (hO : Above 0 O) :
    iprop(Ctx m κ ∗ owesE c O ∗ at0 c ⟨.xqS, j⟩ ∗ cr c ⟨.xqS, j⟩) ⊢ WP c (sentXq c j) (fun _ => iprop(owesE c O ∗ at1 c ⟨.xqS, j⟩ ∗ pay m c ⟨.xqS, j⟩ 0)) := by
  refine wait_step c ⟨.xqS, j⟩ (by simp) ?_ ?_ hO
  · rfl
  · rfl
theorem t_sentXd (c : Dev nD) (j : Fin 4) {O : CellTallies nD τ sig Unit} (hO : Above 0 O) :
    iprop(Ctx m κ ∗ owesE c O ∗ at0 c ⟨.xdS, j⟩ ∗ cr c ⟨.xdS, j⟩) ⊢ WP c (sentXd c j) (fun _ => iprop(owesE c O ∗ at1 c ⟨.xdS, j⟩ ∗ pay m c ⟨.xdS, j⟩ 0)) := by
  refine wait_step c ⟨.xdS, j⟩ (by simp) ?_ ?_ hO
  · rfl
  · rfl
theorem t_sentCw (c : Dev nD) (j : Fin 16) {O : CellTallies nD τ sig Unit} (hO : Above 0 O) :
    iprop(Ctx m κ ∗ owesE c O ∗ at0 c ⟨.cwS, j⟩ ∗ cr c ⟨.cwS, j⟩)
      ⊢ WP c (sent1 scwA (Memref.isWhole_whole _) (s16 cc0_scratch9 j) j) (fun _ => iprop(owesE c O ∗ at1 c ⟨.cwS, j⟩ ∗ pay m c ⟨.cwS, j⟩ 0)) := by
  refine wait_step c ⟨.cwS, j⟩ (by simp) ?_ ?_ hO
  · rfl
  · rfl
theorem t_sentCcw (c : Dev nD) (j : Fin 16) {O : CellTallies nD τ sig Unit} (hO : Above 0 O) :
    iprop(Ctx m κ ∗ owesE c O ∗ at0 c ⟨.ccwS, j⟩ ∗ cr c ⟨.ccwS, j⟩)
      ⊢ WP c (sent1 sccwA (Memref.isWhole_whole _) (s16 cc0_scratch11 j) j) (fun _ => iprop(owesE c O ∗ at1 c ⟨.ccwS, j⟩ ∗ pay m c ⟨.ccwS, j⟩ 0)) := by
  refine wait_step c ⟨.ccwS, j⟩ (by simp) ?_ ?_ hO
  · rfl
  · rfl
theorem t_sentBoth (c : Dev nD) (j : Fin 16) {O : CellTallies nD τ sig Unit} (hO : Above 0 O) :
    iprop(Ctx m κ ∗ owesE c O ∗ at0 c ⟨.cwS, j⟩ ∗ cr c ⟨.cwS, j⟩ ∗ at0 c ⟨.ccwS, j⟩ ∗ cr c ⟨.ccwS, j⟩)
      ⊢ WP c (sentBoth j) (fun _ => iprop(owesE c O ∗ at1 c ⟨.cwS, j⟩ ∗ pay m c ⟨.cwS, j⟩ 0 ∗ at1 c ⟨.ccwS, j⟩ ∗ pay m c ⟨.ccwS, j⟩ 0)) := by
  unfold sentBoth
  iintro ⟨#HC, HO, Ha, Hc, Ha', Hc'⟩
  iapply (seq1 (t_sentCw (m := m) (κ := κ) c j hO)) $$ [HO Ha Hc]
  · isplitr; · iexact HC
    isplitl [HO]; · iexact HO
    isplitl [Ha] <;> iassumption
  iintro ⟨HO, Ha, Hp⟩
  iapply (last1 (t_sentCcw (m := m) (κ := κ) c j hO)) $$ [HO Ha' Hc']
  · isplitr; · iexact HC
    isplitl [HO]; · iexact HO
    isplitl [Ha'] <;> iassumption
  iintro ⟨HO, Ha', Hp'⟩
  isplitl [HO]; · iexact HO
  isplitl [Ha]; · iexact Ha
  isplitl [Hp]; · iexact Hp
  isplitl [Ha'] <;> iassumption
theorem t_sent2w (c : Dev nD) (k : Fin 6) {O : CellTallies nD τ sig Unit} (hO : Above 0 O) :
    iprop(Ctx m κ ∗ owesE c O ∗ at0 c ⟨.c2S, k⟩ ∗ cr c ⟨.c2S, k⟩)
      ⊢ WP c (sent2 scwA (Memref.isWhole_whole _) (s6 cc0_scratch13 k) c ⟨k.val, by omega⟩ (lo k)) (fun _ => iprop(owesE c O ∗ at1 c ⟨.c2S, k⟩ ∗ pay m c ⟨.c2S, k⟩ 0)) := by
  refine wait_step c ⟨.c2S, k⟩ (by simp) ?_ ?_ hO
  · rfl
  · rfl
theorem t_sent2c (c : Dev nD) (k : Fin 6) {O : CellTallies nD τ sig Unit} (hO : Above 0 O) :
    iprop(Ctx m κ ∗ owesE c O ∗ at0 c ⟨.d2S, k⟩ ∗ cr c ⟨.d2S, k⟩)
      ⊢ WP c (sent2 sccwA (Memref.isWhole_whole _) (s6 cc0_scratch15 k) c ⟨6 + k.val, by omega⟩ (mid k)) (fun _ => iprop(owesE c O ∗ at1 c ⟨.d2S, k⟩ ∗ pay m c ⟨.d2S, k⟩ 0)) := by
  refine wait_step c ⟨.d2S, k⟩ (by simp) ?_ ?_ hO
  · rfl
  · rfl

theorem t_waitMine (c : Dev nD) {O : CellTallies nD τ sig Unit} (hO : Above 0 O) :
    iprop(Ctx m κ ∗ owesE c O ∗ at0 c ⟨.loc, (0 : Fin 4)⟩ ∗ cr c ⟨.loc, (0 : Fin 4)⟩) ⊢ WP c (waitMine c) (fun _ => iprop(owesE c O ∗ at1 c ⟨.loc, (0 : Fin 4)⟩ ∗ payLoc m c 0)) := by
  refine wait_step c ⟨.loc, (0 : Fin 4)⟩ (by simp) ?_ ?_ hO
  · rfl
  · rfl
theorem t_waitQ (c : Dev nD) {O : CellTallies nD τ sig Unit} (hO : Above 0 O) :
    iprop(Ctx m κ ∗ owesE c O ∗ at0 c ⟨.loc, (1 : Fin 4)⟩ ∗ cr c ⟨.loc, (1 : Fin 4)⟩)
      ⊢ WP c (waitFlush sqA (Memref.isWhole_whole _) (oQ c) (oQ_exact c) 1) (fun _ => iprop(owesE c O ∗ at1 c ⟨.loc, (1 : Fin 4)⟩ ∗ payLoc m c 1)) := by
  refine wait_step c ⟨.loc, (1 : Fin 4)⟩ (by simp) ?_ ?_ hO
  · rfl
  · rfl
theorem t_waitW (c : Dev nD) {O : CellTallies nD τ sig Unit} (hO : Above 0 O) :
    iprop(Ctx m κ ∗ owesE c O ∗ at0 c ⟨.loc, (2 : Fin 4)⟩ ∗ cr c ⟨.loc, (2 : Fin 4)⟩)
      ⊢ WP c (waitFlush scwA (Memref.isWhole_whole _) (oC c 1) (oC_exact c 1) 2) (fun _ => iprop(owesE c O ∗ at1 c ⟨.loc, (2 : Fin 4)⟩ ∗ payLoc m c 2)) := by
  refine wait_step c ⟨.loc, (2 : Fin 4)⟩ (by simp) ?_ ?_ hO
  · rfl
  · rfl
theorem t_waitC (c : Dev nD) {O : CellTallies nD τ sig Unit} (hO : Above 0 O) :
    iprop(Ctx m κ ∗ owesE c O ∗ at0 c ⟨.loc, (3 : Fin 4)⟩ ∗ cr c ⟨.loc, (3 : Fin 4)⟩)
      ⊢ WP c (waitFlush sccwA (Memref.isWhole_whole _) (oC c 0) (oC_exact c 0) 3) (fun _ => iprop(owesE c O ∗ at1 c ⟨.loc, (3 : Fin 4)⟩ ∗ payLoc m c 3)) := by
  refine wait_step c ⟨.loc, (3 : Fin 4)⟩ (by simp) ?_ ?_ hO
  · rfl
  · rfl

end Cert.KernelIdealRun
end
-- ==== Proof.IdealPhases.lean ====
module

public import Idealize.ShloMosaic.Lib.Pipeline.TalkSched
public import proofs.«01_k».proof.Proof.IdealTurns

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The loops, and the buffers cut into what they work on -/

local notation "𝕄" => MT nD τ sig Unit (Elt F) ℕ UU ℕ

variable {m : (ℓ : Loc nD τ sig) → Buf (Elt F) ℓ} {κ : Dev nD × Kx → ℕ}

theorem zip {I : Type} (A B : I → sProp 𝕄) : ∀ l : List I, bigSepL l (fun i => iprop(A i ∗ B i)) = iprop(bigSepL l A ∗ bigSepL l B)
  | [] => by
    simp only [bigSepL_nil]
    refine bi_eq ⟨show _ ⊢ _ from ?_, show _ ⊢ _ from ?_⟩
    · iintro -; isplitl <;> iempintro
    · iintro -; iempintro
  | i :: l => by
    rw [bigSepL_cons', bigSepL_cons', bigSepL_cons', zip A B l]
    refine bi_eq ⟨show _ ⊢ _ from ?_, show _ ⊢ _ from ?_⟩
    · iintro ⟨⟨H1, H2⟩, H3, H4⟩
      isplitl [H1 H3]; · isplitl [H1] <;> iassumption
      isplitl [H2] <;> iassumption
    · iintro ⟨⟨H1, H3⟩, H2, H4⟩
      isplitl [H1 H2]; · isplitl [H1] <;> iassumption
      isplitl [H3] <;> iassumption

/-! ## Cutting -/

theorem pt16 (b : Ref sig .tc) (c : Dev nD) (q : PosShare TreeShare) (lo : ℕ) (g : ℕ → Elt F b.ty.elt) :
    pt b c q lo 1024 g = bigSepL l16 fun j => pt b c q (lo + 64 * j.val) 64 g :=
  split_bands (Φ := fun lo n => pt b c q lo n g) (fun lo n k => pt_add b c q lo n k g) 64 15 lo
theorem pa16 (b : Ref sig .tc) (c : Dev nD) (lo : ℕ) :
    pa (F := F) b c lo 1024 = bigSepL l16 fun j => pa b c (lo + 64 * j.val) 64 :=
  split_bands (Φ := fun lo n => pa b c lo n) (fun lo n k => pa_add b c lo n k) 64 15 lo
theorem pt16z (b : Ref sig .tc) (c : Dev nD) (q : PosShare TreeShare) (g : ℕ → Elt F b.ty.elt) :
    pt b c q 0 1024 g = bigSepL l16 fun j => pt b c q (64 * j.val) 64 g := by
  rw [pt16]; congr 1; funext j; rw [Nat.zero_add]
theorem pa16z (b : Ref sig .tc) (c : Dev nD) :
    pa (F := F) b c 0 1024 = bigSepL l16 fun j => pa b c (64 * j.val) 64 := by
  rw [pa16]; congr 1; funext j; rw [Nat.zero_add]
theorem pt4 (b : Ref sig .tc) (c : Dev nD) (q : PosShare TreeShare) (lo : ℕ) (g : ℕ → Elt F b.ty.elt) :
    pt b c q lo 256 g = bigSepL l4 fun j => pt b c q (lo + 64 * j.val) 64 g :=
  split_bands (Φ := fun lo n => pt b c q lo n g) (fun lo n k => pt_add b c q lo n k g) 64 3 lo
theorem pa4 (b : Ref sig .tc) (c : Dev nD) (lo : ℕ) :
    pa (F := F) b c lo 256 = bigSepL l4 fun j => pa b c (lo + 64 * j.val) 64 :=
  split_bands (Φ := fun lo n => pa b c lo n) (fun lo n k => pa_add b c lo n k) 64 3 lo
theorem pt6 (b : Ref sig .tc) (c : Dev nD) (q : PosShare TreeShare) (lo : ℕ) (g : ℕ → Elt F b.ty.elt) :
    pt b c q lo 384 g = bigSepL l6 fun j => pt b c q (lo + 64 * j.val) 64 g :=
  split_bands (Φ := fun lo n => pt b c q lo n g) (fun lo n k => pt_add b c q lo n k g) 64 5 lo
theorem pa6 (b : Ref sig .tc) (c : Dev nD) (lo : ℕ) :
    pa (F := F) b c lo 384 = bigSepL l6 fun j => pa b c (lo + 64 * j.val) 64 :=
  split_bands (Φ := fun lo n => pa b c lo n) (fun lo n k => pa_add b c lo n k) 64 5 lo

theorem four {Φ : ℕ → ℕ → sProp 𝕄} (hadd : ∀ lo n k, Φ lo (n + k) = iprop(Φ lo n ∗ Φ (lo + n) k)) (lo : ℕ) (c : Dev nD) :
    Φ lo 4096 = iprop(Φ (lo + blk c 0) 1024 ∗ Φ (lo + blk c 1) 1024 ∗ Φ (lo + blk c 2) 1024 ∗ Φ (lo + blk c 3) 1024) := by
  have h : Φ lo 4096 = bigSepL (List.finRange 4) fun j => Φ (lo + 1024 * j.val) 1024 := split_bands hadd 1024 3 lo
  have hp : ∀ (a b d e : Fin 4), [(0 : Fin 4), 1, 2, 3].Perm [a, b, d, e] → blk c 0 = 1024 * a.val → blk c 1 = 1024 * b.val → blk c 2 = 1024 * d.val → blk c 3 = 1024 * e.val →
      Φ lo 4096 = iprop(Φ (lo + blk c 0) 1024 ∗ Φ (lo + blk c 1) 1024 ∗ Φ (lo + blk c 2) 1024 ∗ Φ (lo + blk c 3) 1024) := fun a b d e hl h0 h1 h2 h3 => by
    rw [h, h0, h1, h2, h3]
    exact (TalkSites.bigSepL_perm (l := [(0 : Fin 4), 1, 2, 3]) hl (by decide) fun j : Fin 4 => Φ (lo + 1024 * j.val) 1024)
  have hq := qb_lt c
  rcases (by omega : qb c = 0 ∨ qb c = 1 ∨ qb c = 2 ∨ qb c = 3) with h' | h' | h' | h'
  · exact hp 0 1 2 3 (by decide) (by unfold blk; rw [h']; rfl) (by unfold blk; rw [h']; rfl) (by unfold blk; rw [h']; rfl) (by unfold blk; rw [h']; rfl)
  · exact hp 1 2 3 0 (by decide) (by unfold blk; rw [h']; rfl) (by unfold blk; rw [h']; rfl) (by unfold blk; rw [h']; rfl) (by unfold blk; rw [h']; rfl)
  · exact hp 2 3 0 1 (by decide) (by unfold blk; rw [h']; rfl) (by unfold blk; rw [h']; rfl) (by unfold blk; rw [h']; rfl) (by unfold blk; rw [h']; rfl)
  · exact hp 3 0 1 2 (by decide) (by unfold blk; rw [h']; rfl) (by unfold blk; rw [h']; rfl) (by unfold blk; rw [h']; rfl) (by unfold blk; rw [h']; rfl)

theorem halves {Φ : ℕ → ℕ → sProp 𝕄} (hadd : ∀ lo n k, Φ lo (n + k) = iprop(Φ lo n ∗ Φ (lo + n) k)) (c : Dev nD) :
    Φ 0 8192 = iprop(Φ (own c) 4096 ∗ Φ (opp c) 4096) := by
  rw [show Φ 0 8192 = iprop(Φ 0 4096 ∗ Φ 4096 4096) from (hadd 0 4096 4096).trans (by rw [Nat.zero_add])]
  rcases own_eq c with ⟨h, h'⟩ | ⟨h, h'⟩ <;> rw [h, h']
  exact bi_eq ⟨sep_comm.1, sep_comm.1⟩

theorem last_block {Φ : ℕ → ℕ → sProp 𝕄} (hadd : ∀ lo n k, Φ lo (n + k) = iprop(Φ lo n ∗ Φ (lo + n) k)) (lo : ℕ) :
    Φ lo 1024 = iprop(Φ lo 384 ∗ Φ (lo + 384) 384 ∗ Φ (lo + 768) 256) := by
  rw [show (1024 : ℕ) = 384 + (384 + 256) from rfl, hadd, hadd, Nat.add_assoc]

/-- The slices a ring passes on a second time, and the others. -/
theorem cut_lo (Φ : Fin 16 → sProp 𝕄) : bigSepL l16 Φ = iprop(bigSepL l6 (fun k => Φ (lo k)) ∗ bigSepL [6, 7, 8, 9, 10, 11, 12, 13, 14, 15] Φ) := by
  rw [← bigSepL_map lo l6 Φ, ← bigSepL_append]; rfl
theorem cut_mid (Φ : Fin 16 → sProp 𝕄) : bigSepL l16 Φ = iprop(bigSepL l6 (fun k => Φ (mid k)) ∗ bigSepL [0, 1, 2, 3, 4, 5, 12, 13, 14, 15] Φ) := by
  rw [← bigSepL_map mid l6 Φ, ← bigSepL_append]
  exact TalkSites.bigSepL_perm (by decide) (by decide) Φ

/-! ## The phases -/

theorem p_handshake (c : Dev nD) :
    iprop(Ctx m κ ∗ owesE c (O₀ c) ∗ at0 c ⟨.bar, 0⟩ ∗ cred (tallyAt (cell c ⟨.bar, 0⟩) () 3) ∗ tok (partner c) ⟨.bar, 0⟩ 0 ∗ tok (left c) ⟨.bar, 0⟩ 1 ∗ tok (right c) ⟨.bar, 0⟩ 2
        ∗ pa cc0_scratch1 c 0 1024 ∗ pa cc0_scratch2 c 0 1024 ∗ pa cc0_scratch3 c 0 1024
        ∗ pa main_v1 c (opp c + blk c 2) 384 ∗ pa main_v1 c (opp c + blk c 2 + 384) 384 ∗ pa main_v1 c (opp c + blk c 2 + 768) 256)
      ⊢ WP (F := F) c (handshake (dests c)) (fun _ => iprop(owesE c (Oq c) ∗ at1 c ⟨.bar, 0⟩ ∗ payBar c 0 ∗ payBar c 1 ∗ payBar c 2)) := by
  have e0 : payBar (F := F) (partner c) 0 = iprop(pa cc0_scratch1 c 0 1024 ∗ pa main_v1 c (opp c + blk c 2 + 768) 256) := by unfold payBar; rw [partner_partner]
  have e1 : payBar (F := F) (left c) 1 = iprop(pa cc0_scratch2 c 0 1024 ∗ pa main_v1 c (opp c + blk c 2) 384) := by unfold payBar; rw [right_left]
  have e2 : payBar (F := F) (right c) 2 = iprop(pa cc0_scratch3 c 0 1024 ∗ pa main_v1 c (opp c + blk c 2 + 384) 384) := by unfold payBar; rw [left_right]
  unfold handshake O₀ gb
  iintro ⟨#HC, HO, Hat, Hcr, Ht0, Ht1, Ht2, H1, H2, H3, HA, HB, HD⟩
  iapply (seq1 (signal_step (m := m) (κ := κ) c (partner c) 0 (partner_partner c) (O := Oq c + tallyAt (cell (right c) ⟨.bar, 0⟩) () 1 + tallyAt (cell (left c) ⟨.bar, 0⟩) () 1))) $$ [HO Ht0 H1 HD]
  · rw [e0]; iframe # ∗
  iintro HO
  iapply (seq1 (signal_step (m := m) (κ := κ) c (left c) 1 (right_left c) (O := Oq c + tallyAt (cell (right c) ⟨.bar, 0⟩) () 1))) $$ [HO Ht1 H2 HA]
  · rw [e1]; iframe # ∗
  iintro HO
  iapply (seq1 (signal_step (m := m) (κ := κ) c (right c) 2 (left_right c) (O := Oq c))) $$ [HO Ht2 H3 HB]
  · rw [e2]; iframe # ∗
  iintro HO
  iapply (last1 (wait_bar (m := m) (κ := κ) c (a_Oq c))) $$ [HO Hat Hcr]
  · iframe # ∗
  iintro H
  iexact H

theorem l_startQ (c : Dev nD) (O : CellTallies nD τ sig Unit) :
    iprop(Ctx m κ ∗ owesE c O ∗ (bigSepL l16 fun j : Fin 16 => pt main_arg0 c fullShare (blk c 0 + 64 * j.val) 64 (xv m c)) ∗ (bigSepL l16 fun j : Fin 16 => pa cc0_scratch4 c (64 * j.val) 64) ∗ (bigSepL l16 fun j : Fin 16 => tok c ⟨.inq, j⟩ 0))
      ⊢ WP c (runL (startQ c) l16) (fun _ => iprop(owesE c O ∗ bigSepL l16 fun j : Fin 16 => cr c ⟨.inq, j⟩)) := by
  have h := loop_plain (m := m) (κ := κ) c (startQ c) O _ _ (fun j => with_owes (t_startQ c j)) l16
  simp only [zip] at h
  exact h

theorem l_stepQ (c : Dev nD) (R : CellTallies nD τ sig Unit) (hR : Above 1 R) :
    iprop(Ctx m κ ∗ owesE c (oweL (gxq c) l16 R) ∗ (bigSepL l16 fun j : Fin 16 => at0 c ⟨.inq, j⟩) ∗ (bigSepL l16 fun j : Fin 16 => cr c ⟨.inq, j⟩)
        ∗ (bigSepL l16 fun j : Fin 16 => pa cc0_scratch0 c (blk c 0 + 64 * j.val) 64) ∗ (bigSepL l16 fun j : Fin 16 => pa cc0_scratch1 (partner c) (64 * j.val) 64)
        ∗ (bigSepL l16 fun j : Fin 16 => tok c ⟨.xqS, j⟩ 0) ∗ (bigSepL l16 fun j : Fin 16 => tok (partner c) ⟨.xqR, j⟩ 0))
      ⊢ WP c (runL (stepQ (dests c) c) l16) (fun _ => iprop(owesE c R ∗ (bigSepL l16 fun j : Fin 16 => at1 c ⟨.inq, j⟩) ∗ (bigSepL l16 fun j : Fin 16 => cr c ⟨.xqS, j⟩)
        ∗ (bigSepL l16 fun j : Fin 16 => pa cc0_scratch4 c (64 * j.val) 64) ∗ (bigSepL l16 fun j : Fin 16 => pt main_arg0 c fullShare (blk c 0 + 64 * j.val) 64 (xv m c))
        ∗ (bigSepL l16 fun j : Fin 16 => pt cc0_scratch0 c fullShare.right (blk c 0 + 64 * j.val) 64 (cv m c)))) := by
  have h := loop_owing (m := m) (κ := κ) c (stepQ (dests c) c) (gxq c) 1 (a_gxq c) _ _ (fun j O hO => t_stepQ c j O hO) l16 R hR
  simp only [zip] at h
  exact h

theorem l_sendXd (c : Dev nD) (R : CellTallies nD τ sig Unit) (hR : Above 1 R) :
    iprop(Ctx m κ ∗ owesE c (oweL (gxd c) l4 R) ∗ (bigSepL l4 fun i : Fin 4 => pt cc0_scratch0 c fullShare.left (blk c 2 + 768 + 64 * i.val) 64 (cv m c))
        ∗ (bigSepL l4 fun i : Fin 4 => pa main_v1 (partner c) (own c + blk c 2 + 768 + 64 * i.val) 64) ∗ (bigSepL l4 fun i : Fin 4 => tok c ⟨.xdS, i⟩ 0) ∗ (bigSepL l4 fun i : Fin 4 => tok (partner c) ⟨.xdR, i⟩ 0))
      ⊢ WP c (runL (sendXd (dests c) c) l4) (fun _ => iprop(owesE c R ∗ bigSepL l4 fun i : Fin 4 => cr c ⟨.xdS, i⟩)) := by
  have h := loop_owing (m := m) (κ := κ) c (sendXd (dests c) c) (gxd c) 1 (a_gxd c) _ _ (fun j O hO => t_sendXd c j O hO) l4 R hR
  simp only [zip] at h
  exact h

theorem p_convert (c : Dev nD) :
    iprop(Ctx m κ ∗ owesE c (Oq c)
        ∗ (bigSepL l16 fun j : Fin 16 => at0 c ⟨.inq, j⟩) ∗ at0 c ⟨.inb, (0 : Fin 3)⟩ ∗ at0 c ⟨.inb, (1 : Fin 3)⟩ ∗ at0 c ⟨.inb, (2 : Fin 3)⟩
        ∗ (bigSepL l16 fun j : Fin 16 => tok c ⟨.inq, j⟩ 0) ∗ tok c ⟨.inb, (0 : Fin 3)⟩ 0 ∗ tok c ⟨.inb, (1 : Fin 3)⟩ 0 ∗ tok c ⟨.inb, (2 : Fin 3)⟩ 0
        ∗ (bigSepL l16 fun j : Fin 16 => tok c ⟨.xqS, j⟩ 0) ∗ (bigSepL l16 fun j : Fin 16 => tok (partner c) ⟨.xqR, j⟩ 0)
        ∗ (bigSepL l4 fun i : Fin 4 => tok c ⟨.xdS, i⟩ 0) ∗ (bigSepL l4 fun i : Fin 4 => tok (partner c) ⟨.xdR, i⟩ 0) ∗ tok c ⟨.loc, (0 : Fin 4)⟩ 0
        ∗ pt main_arg0 c fullShare 0 4096 (xv m c) ∗ pa cc0_scratch4 c 0 2048 ∗ pa cc0_scratch0 c 0 4096 ∗ payBar c 0 ∗ pa main_v1 c (own c) 4096)
      ⊢ WP c (convert (dests c) c) (fun _ => iprop(owesE c (O2 c)
        ∗ (bigSepL l16 fun j : Fin 16 => at1 c ⟨.inq, j⟩) ∗ at1 c ⟨.inb, (0 : Fin 3)⟩ ∗ at1 c ⟨.inb, (1 : Fin 3)⟩ ∗ at1 c ⟨.inb, (2 : Fin 3)⟩
        ∗ (bigSepL l16 fun j : Fin 16 => cr c ⟨.xqS, j⟩) ∗ (bigSepL l4 fun i : Fin 4 => cr c ⟨.xdS, i⟩) ∗ cr c ⟨.loc, (0 : Fin 4)⟩
        ∗ pt main_arg0 c fullShare 0 4096 (xv m c) ∗ pa cc0_scratch4 c 0 2048
        ∗ pt cc0_scratch0 c fullShare.left (blk c 1) 1024 (cv m c) ∗ pt cc0_scratch0 c fullShare.left (blk c 2) 768 (cv m c) ∗ pt cc0_scratch0 c fullShare.left (blk c 3) 1024 (cv m c))) := by
  have eP : payBar (F := F) c 0 = iprop(pa cc0_scratch1 (partner c) 0 1024 ∗ pa main_v1 (partner c) (own c + blk c 2 + 768) 256) := by
    unfold payBar; rw [opp_partner, blk_partner]
  have eArg : ∀ q : PosShare TreeShare, pt main_arg0 c q 0 4096 (xv m c) = iprop(pt main_arg0 c q (blk c 0) 1024 (xv m c) ∗ pt main_arg0 c q (blk c 1) 1024 (xv m c) ∗ pt main_arg0 c q (blk c 2) 1024 (xv m c) ∗ pt main_arg0 c q (blk c 3) 1024 (xv m c)) := fun q => by
    have h := four (Φ := fun lo n => pt main_arg0 c q lo n (xv m c)) (fun lo n k => pt_add main_arg0 c q lo n k (xv m c)) 0 c
    simpa only [Nat.zero_add] using h
  have eScr : pa (F := F) cc0_scratch0 c 0 4096 = iprop(pa cc0_scratch0 c (blk c 0) 1024 ∗ pa cc0_scratch0 c (blk c 1) 1024 ∗ pa cc0_scratch0 c (blk c 2) 1024 ∗ pa cc0_scratch0 c (blk c 3) 1024) := by
    have h := four (Φ := fun lo n => pa (F := F) cc0_scratch0 c lo n) (fun lo n k => pa_add cc0_scratch0 c lo n k) 0 c
    simpa only [Nat.zero_add] using h
  have eR : pt cc0_scratch0 c fullShare.right 0 4096 (cv m c) = iprop(pt cc0_scratch0 c fullShare.right (blk c 0) 1024 (cv m c) ∗ pt cc0_scratch0 c fullShare.right (blk c 1) 1024 (cv m c) ∗ pt cc0_scratch0 c fullShare.right (blk c 2) 1024 (cv m c) ∗ pt cc0_scratch0 c fullShare.right (blk c 3) 1024 (cv m c)) := by
    have h := four (Φ := fun lo n => pt cc0_scratch0 c fullShare.right lo n (cv m c)) (fun lo n k => pt_add cc0_scratch0 c fullShare.right lo n k (cv m c)) 0 c
    simpa only [Nat.zero_add] using h
  have eX : pa (F := F) cc0_scratch4 c 0 2048 = iprop(pa cc0_scratch4 c 0 1024 ∗ pa cc0_scratch4 c 1024 1024) := by
    have h := pa_add (F := F) cc0_scratch4 c 0 1024 1024
    simpa only [Nat.zero_add] using h
  have e0 : pay m c ⟨.inb, (0 : Fin 3)⟩ 0 = iprop(pt cc0_scratch4 c fullShare 1024 1024 (vb m c 1 1) ∗ pt main_arg0 c fullShare (blk c 2) 1024 (xv m c)) := rfl
  have e1 : pay m c ⟨.inb, (1 : Fin 3)⟩ 0 = iprop(pt cc0_scratch4 c fullShare 0 1024 (vb m c 0 0) ∗ pt main_arg0 c fullShare (blk c 1) 1024 (xv m c)) := rfl
  have e2 : pay m c ⟨.inb, (2 : Fin 3)⟩ 0 = iprop(pt cc0_scratch4 c fullShare 1024 1024 (vb m c 2 1) ∗ pt main_arg0 c fullShare (blk c 3) 1024 (xv m c)) := rfl
  have hs : ∀ b, pt cc0_scratch0 c fullShare (blk c b) 1024 (cv m c) = iprop(pt cc0_scratch0 c fullShare.left (blk c b) 1024 (cv m c) ∗ pt cc0_scratch0 c fullShare.right (blk c b) 1024 (cv m c)) := fun b => shares _ _ _ _ _ _
  have h2 : pt cc0_scratch0 c fullShare.left (blk c 2) 1024 (cv m c) = iprop(pt cc0_scratch0 c fullShare.left (blk c 2) 768 (cv m c) ∗ pt cc0_scratch0 c fullShare.left (blk c 2 + 768) 256 (cv m c)) :=
    pt_add cc0_scratch0 c fullShare.left (blk c 2) 768 256 (cv m c)
  have a1 : Above 0 (O1 c) := (a_O1 c).mono (by decide)
  have a2 : Above 0 (O2 c) := (a_O2 c).mono (by decide)
  have cb1 : iprop(pt cc0_scratch4 c fullShare 1024 1024 (vb m c 1 1) ∗ pa cc0_scratch0 c (blk c 2) 1024)
      ⊢ WP c (convB c 1 1) (fun _ => iprop(pt cc0_scratch4 c fullShare 1024 1024 (vb m c 1 1) ∗ pt cc0_scratch0 c fullShare (blk c 2) 1024 (cv m c))) := t_convB c 1 1
  have cb0 : iprop(pt cc0_scratch4 c fullShare 0 1024 (vb m c 0 0) ∗ pa cc0_scratch0 c (blk c 1) 1024)
      ⊢ WP c (convB c 0 0) (fun _ => iprop(pt cc0_scratch4 c fullShare 0 1024 (vb m c 0 0) ∗ pt cc0_scratch0 c fullShare (blk c 1) 1024 (cv m c))) := t_convB c 0 0
  have cb2 : iprop(pt cc0_scratch4 c fullShare 1024 1024 (vb m c 2 1) ∗ pa cc0_scratch0 c (blk c 3) 1024)
      ⊢ WP c (convB c 2 1) (fun _ => iprop(pt cc0_scratch4 c fullShare 1024 1024 (vb m c 2 1) ∗ pt cc0_scratch0 c fullShare (blk c 3) 1024 (cv m c))) := t_convB c 2 1
  have sb0 : iprop(Ctx m κ ∗ pt main_arg0 c fullShare (blk c 2) 1024 (xv m c) ∗ pa cc0_scratch4 c 1024 1024 ∗ tok c ⟨.inb, (0 : Fin 3)⟩ 0)
      ⊢ WP c (startB c 1 1 0) (fun _ => cr c ⟨.inb, (0 : Fin 3)⟩) := t_startB c 0
  have sb1 : iprop(Ctx m κ ∗ pt main_arg0 c fullShare (blk c 1) 1024 (xv m c) ∗ pa cc0_scratch4 c 0 1024 ∗ tok c ⟨.inb, (1 : Fin 3)⟩ 0)
      ⊢ WP c (startB c 0 0 1) (fun _ => cr c ⟨.inb, (1 : Fin 3)⟩) := t_startB c 1
  have sb2 : iprop(Ctx m κ ∗ pt main_arg0 c fullShare (blk c 3) 1024 (xv m c) ∗ pa cc0_scratch4 c 1024 1024 ∗ tok c ⟨.inb, (2 : Fin 3)⟩ 0)
      ⊢ WP c (startB c 2 1 2) (fun _ => cr c ⟨.inb, (2 : Fin 3)⟩) := t_startB c 2
  unfold convert Oq
  iintro ⟨#HC, HO, Hinq, Hi0, Hi1, Hi2, Tinq, Ti0, Ti1, Ti2, TxqS, TxqR, TxdS, TxdR, Tl, Harg, Hxin, Hscr, HP, Hout⟩
  ihave HP := (ent eP) $$ HP
  icases HP with ⟨Hsq, Hdst⟩
  ihave Hsq := (ent (pa16z cc0_scratch1 (partner c))) $$ Hsq
  ihave Hdst := (ent (pa4 main_v1 (partner c) _)) $$ Hdst
  ihave Harg := (ent (eArg fullShare)) $$ Harg
  icases Harg with ⟨A0, A1, A2, A3⟩
  ihave A0 := (ent (pt16 main_arg0 c fullShare _ _)) $$ A0
  ihave Hscr := (ent eScr) $$ Hscr
  icases Hscr with ⟨S0, S1, S2, S3⟩
  ihave S0 := (ent (pa16 cc0_scratch0 c _)) $$ S0
  ihave Hxin := (ent eX) $$ Hxin
  icases Hxin with ⟨X0, X1⟩
  ihave X0 := (ent (pa16z cc0_scratch4 c)) $$ X0
  iapply (seq1 (l_startQ (m := m) (κ := κ) c (oweL (gxq c) l16 (O1 c)))) $$ [HO A0 X0 Tinq]
  · iframe # ∗
  iintro ⟨HO, Cinq⟩
  iapply (seq1 sb0) $$ [A2 X1 Ti0]
  · isplitr; · iexact HC
    isplitl [A2]; · iexact A2
    isplitl [X1] <;> iassumption
  iintro C0
  iapply (seq1 (l_stepQ (m := m) (κ := κ) c (O1 c) (a_O1 c))) $$ [HO Hinq Cinq S0 Hsq TxqS TxqR]
  · iframe # ∗
  iintro ⟨HO, Hinq, CxqS, X0, A0, R0⟩
  iapply (seq1 (t_waitB (m := m) (κ := κ) c 0 a1)) $$ [HO Hi0 C0]
  · iframe # ∗
  iintro ⟨HO, Hi0, HP⟩
  ihave HP := (ent e0) $$ HP
  icases HP with ⟨X1, A2⟩
  ihave X0 := (ent' (pa16z cc0_scratch4 c)) $$ X0
  iapply (seq1 sb1) $$ [A1 X0 Ti1]
  · isplitr; · iexact HC
    isplitl [A1]; · iexact A1
    isplitl [X0] <;> iassumption
  iintro C1
  iapply (seq1 cb1) $$ [X1 S2]
  · isplitl [X1] <;> iassumption
  iintro ⟨X1, S2⟩
  ihave S2 := (ent (hs 2)) $$ S2
  icases S2 with ⟨L2, R2⟩
  ihave L2 := (ent h2) $$ L2
  icases L2 with ⟨L2, L2'⟩
  ihave L2' := (ent (pt4 cc0_scratch0 c fullShare.left _ _)) $$ L2'
  unfold O1
  iapply (seq1 (l_sendXd (m := m) (κ := κ) c (O2 c) ((a_O2 c).mono (by decide)))) $$ [HO L2' Hdst TxdS TxdR]
  · iframe # ∗
  iintro ⟨HO, CxdS⟩
  iapply (seq1 (t_waitB (m := m) (κ := κ) c 1 a2)) $$ [HO Hi1 C1]
  · iframe # ∗
  iintro ⟨HO, Hi1, HP⟩
  ihave HP := (ent e1) $$ HP
  icases HP with ⟨X0, A1⟩
  ihave X1 := (pt_pa _ _ _ _ _) $$ X1
  iapply (seq1 sb2) $$ [A3 X1 Ti2]
  · isplitr; · iexact HC
    isplitl [A3]; · iexact A3
    isplitl [X1] <;> iassumption
  iintro C2
  iapply (seq1 cb0) $$ [X0 S1]
  · isplitl [X0] <;> iassumption
  iintro ⟨X0, S1⟩
  ihave S1 := (ent (hs 1)) $$ S1
  icases S1 with ⟨L1, R1⟩
  iapply (seq1 (t_waitB (m := m) (κ := κ) c 2 a2)) $$ [HO Hi2 C2]
  · iframe # ∗
  iintro ⟨HO, Hi2, HP⟩
  ihave HP := (ent e2) $$ HP
  icases HP with ⟨X1, A3⟩
  iapply (seq1 cb2) $$ [X1 S3]
  · isplitl [X1] <;> iassumption
  iintro ⟨X1, S3⟩
  ihave S3 := (ent (hs 3)) $$ S3
  icases S3 with ⟨L3, R3⟩
  ihave R0 := (ent' (pt16 cc0_scratch0 c fullShare.right _ _)) $$ R0
  iapply (last1 (t_flushMine (m := m) (κ := κ) c)) $$ [R0 R1 R2 R3 Hout Tl]
  · rw [eR]; iframe # ∗
  iintro Cl
  ihave A0 := (ent' (pt16 main_arg0 c fullShare _ _)) $$ A0
  ihave X0 := (pt_pa _ _ _ _ _) $$ X0
  ihave X1 := (pt_pa _ _ _ _ _) $$ X1
  rw [eArg fullShare, eX]
  iframe # ∗

end Cert.KernelIdealRun
end
-- ==== Proof.IdealHops.lean ====
module

public import proofs.«01_k».proof.Proof.IdealPhases

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The hops around the ring, and the end -/

local notation "𝕄" => MT nD τ sig Unit (Elt F) ℕ UU ℕ

variable {m : (ℓ : Loc nD τ sig) → Buf (Elt F) ℓ} {κ : Dev nD × Kx → ℕ}

/-- The slices of the first ring that go no further. -/
abbrev lHi : List (Fin 16) := [6, 7, 8, 9, 10, 11, 12, 13, 14, 15]
/-- The slices of the second ring that go no further. -/
abbrev lOut : List (Fin 16) := [0, 1, 2, 3, 4, 5, 12, 13, 14, 15]

theorem l_step1 (c : Dev nD) (R : CellTallies nD τ sig Unit) (hR : Above 2 R) :
    iprop(Ctx m κ ∗ owesE c (oweL (g1 c) l16 R) ∗ (bigSepL l16 fun j : Fin 16 => at0 c ⟨.xqR, j⟩) ∗ (bigSepL l16 fun j : Fin 16 => cr c ⟨.xqR, j⟩) ∗ (bigSepL l16 fun j : Fin 16 => pa cc0_scratch2 (right c) (64 * j.val) 64) ∗ (bigSepL l16 fun j : Fin 16 => pa cc0_scratch3 (left c) (64 * j.val) 64) ∗ (bigSepL l16 fun j : Fin 16 => tok c ⟨.cwS, j⟩ 0) ∗ (bigSepL l16 fun j : Fin 16 => tok (right c) ⟨.cwR, j⟩ 0) ∗ (bigSepL l16 fun j : Fin 16 => tok c ⟨.ccwS, j⟩ 0) ∗ (bigSepL l16 fun j : Fin 16 => tok (left c) ⟨.ccwR, j⟩ 0))
      ⊢ WP c (runL (step1 (dests c) c) l16) (fun _ => iprop(owesE c R ∗ (bigSepL l16 fun j : Fin 16 => at1 c ⟨.xqR, j⟩) ∗ (bigSepL l16 fun j : Fin 16 => cr c ⟨.cwS, j⟩) ∗ (bigSepL l16 fun j : Fin 16 => cr c ⟨.ccwS, j⟩) ∗ (bigSepL l16 fun j : Fin 16 => pt cc0_scratch1 c fullShare.right (64 * j.val) 64 (vq m c)))) := by
  have h := loop_owing (m := m) (κ := κ) c (step1 (dests c) c) (g1 c) 2 (a_g1 c) _ _ (fun j O hO => t_step1 c j O hO) l16 R hR
  simp only [zip] at h
  exact h

theorem l_step2cw (c : Dev nD) (R : CellTallies nD τ sig Unit) (hR : Above 3 R) :
    iprop(Ctx m κ ∗ owesE c (oweL (gc2 c) l6 R) ∗ (bigSepL l6 fun k : Fin 6 => at0 c ⟨.cwR, lo k⟩) ∗ (bigSepL l6 fun k : Fin 6 => cr c ⟨.cwR, lo k⟩) ∗ (bigSepL l6 fun k : Fin 6 => pa main_v1 (right c) (opp (right c) + blk (right c) 2 + 64 * k.val) 64) ∗ (bigSepL l6 fun k : Fin 6 => tok c ⟨.c2S, k⟩ 0) ∗ (bigSepL l6 fun k : Fin 6 => tok (right c) ⟨.c2R, k⟩ 0))
      ⊢ WP c (runL (step2cw (dests c) c) l6) (fun _ => iprop(owesE c R ∗ (bigSepL l6 fun k : Fin 6 => at1 c ⟨.cwR, lo k⟩) ∗ (bigSepL l6 fun k : Fin 6 => cr c ⟨.c2S, k⟩) ∗ (bigSepL l6 fun k : Fin 6 => pt cc0_scratch2 c fullShare.right (64 * (lo k).val) 64 (vw m c)))) := by
  have h := loop_owing (m := m) (κ := κ) c (step2cw (dests c) c) (gc2 c) 3 (a_gc2 c) _ _ (fun j O hO => t_step2cw c j O hO) l6 R hR
  simp only [zip] at h
  exact h

theorem l_step2ccw (c : Dev nD) (R : CellTallies nD τ sig Unit) (hR : Above 3 R) :
    iprop(Ctx m κ ∗ owesE c (oweL (gd2 c) l6 R) ∗ (bigSepL l6 fun k : Fin 6 => at0 c ⟨.ccwR, mid k⟩) ∗ (bigSepL l6 fun k : Fin 6 => cr c ⟨.ccwR, mid k⟩) ∗ (bigSepL l6 fun k : Fin 6 => pa main_v1 (left c) (opp (left c) + blk (left c) 2 + 384 + 64 * k.val) 64) ∗ (bigSepL l6 fun k : Fin 6 => tok c ⟨.d2S, k⟩ 0) ∗ (bigSepL l6 fun k : Fin 6 => tok (left c) ⟨.d2R, k⟩ 0))
      ⊢ WP c (runL (step2ccw (dests c) c) l6) (fun _ => iprop(owesE c R ∗ (bigSepL l6 fun k : Fin 6 => at1 c ⟨.ccwR, mid k⟩) ∗ (bigSepL l6 fun k : Fin 6 => cr c ⟨.d2S, k⟩) ∗ (bigSepL l6 fun k : Fin 6 => pt cc0_scratch3 c fullShare.right (64 * (mid k).val) 64 (vc m c)))) := by
  have h := loop_owing (m := m) (κ := κ) c (step2ccw (dests c) c) (gd2 c) 3 (a_gd2 c) _ _ (fun j O hO => t_step2ccw c j O hO) l6 R hR
  simp only [zip] at h
  exact h

theorem l_waitCw (c : Dev nD)  :
    iprop(Ctx m κ ∗ owesE c 0 ∗ (bigSepL lHi fun j : Fin 16 => at0 c ⟨.cwR, j⟩) ∗ (bigSepL lHi fun j : Fin 16 => cr c ⟨.cwR, j⟩))
      ⊢ WP c (runL (fun j => waitSt scwA (Memref.isWhole_whole _) (s16 cc0_scratch10 j) j) lHi) (fun _ => iprop(owesE c 0 ∗ (bigSepL lHi fun j : Fin 16 => at1 c ⟨.cwR, j⟩) ∗ (bigSepL lHi fun j : Fin 16 => pt cc0_scratch2 c fullShare (64 * j.val) 64 (vw m c)))) := by
  have h := loop_plain (m := m) (κ := κ) c (fun j => waitSt scwA (Memref.isWhole_whole _) (s16 cc0_scratch10 j) j) 0 _ _ (fun j => t_waitCw c j (above_zero _)) lHi
  simp only [zip] at h
  exact h

theorem l_waitCcw (c : Dev nD)  :
    iprop(Ctx m κ ∗ owesE c 0 ∗ (bigSepL lOut fun j : Fin 16 => at0 c ⟨.ccwR, j⟩) ∗ (bigSepL lOut fun j : Fin 16 => cr c ⟨.ccwR, j⟩))
      ⊢ WP c (runL (fun j => waitSt sccwA (Memref.isWhole_whole _) (s16 cc0_scratch12 j) j) lOut) (fun _ => iprop(owesE c 0 ∗ (bigSepL lOut fun j : Fin 16 => at1 c ⟨.ccwR, j⟩) ∗ (bigSepL lOut fun j : Fin 16 => pt cc0_scratch3 c fullShare (64 * j.val) 64 (vc m c)))) := by
  have h := loop_plain (m := m) (κ := κ) c (fun j => waitSt sccwA (Memref.isWhole_whole _) (s16 cc0_scratch12 j) j) 0 _ _ (fun j => t_waitCcw c j (above_zero _)) lOut
  simp only [zip] at h
  exact h

theorem l_waitXd (c : Dev nD)  :
    iprop(Ctx m κ ∗ owesE c 0 ∗ (bigSepL l4 fun i : Fin 4 => at0 c ⟨.xdR, i⟩) ∗ (bigSepL l4 fun i : Fin 4 => cr c ⟨.xdR, i⟩))
      ⊢ WP c (runL (fun i : Fin 4 => waitO (s4 cc0_scratch8 i) c ⟨12 + i.val, by omega⟩) l4) (fun _ => iprop(owesE c 0 ∗ (bigSepL l4 fun i : Fin 4 => at1 c ⟨.xdR, i⟩) ∗ (bigSepL l4 fun i : Fin 4 => pt main_v1 c fullShare (opp c + blk c 2 + 768 + 64 * i.val) 64 (G m c)))) := by
  have h := loop_plain (m := m) (κ := κ) c (fun i : Fin 4 => waitO (s4 cc0_scratch8 i) c ⟨12 + i.val, by omega⟩) 0 _ _ (fun i => t_waitXd c i (above_zero _)) l4
  simp only [zip] at h
  exact h

theorem l_wait2w (c : Dev nD)  :
    iprop(Ctx m κ ∗ owesE c 0 ∗ (bigSepL l6 fun k : Fin 6 => at0 c ⟨.c2R, k⟩) ∗ (bigSepL l6 fun k : Fin 6 => cr c ⟨.c2R, k⟩))
      ⊢ WP c (runL (fun k : Fin 6 => waitO (s6 cc0_scratch14 k) c ⟨16 + k.val, by omega⟩) l6) (fun _ => iprop(owesE c 0 ∗ (bigSepL l6 fun k : Fin 6 => at1 c ⟨.c2R, k⟩) ∗ (bigSepL l6 fun k : Fin 6 => pt main_v1 c fullShare (opp c + blk c 2 + 64 * k.val) 64 (G m c)))) := by
  have h := loop_plain (m := m) (κ := κ) c (fun k : Fin 6 => waitO (s6 cc0_scratch14 k) c ⟨16 + k.val, by omega⟩) 0 _ _ (fun k => t_wait2w c k (above_zero _)) l6
  simp only [zip] at h
  exact h

theorem l_wait2c (c : Dev nD)  :
    iprop(Ctx m κ ∗ owesE c 0 ∗ (bigSepL l6 fun k : Fin 6 => at0 c ⟨.d2R, k⟩) ∗ (bigSepL l6 fun k : Fin 6 => cr c ⟨.d2R, k⟩))
      ⊢ WP c (runL (fun k : Fin 6 => waitO (s6 cc0_scratch16 k) c ⟨22 + k.val, by omega⟩) l6) (fun _ => iprop(owesE c 0 ∗ (bigSepL l6 fun k : Fin 6 => at1 c ⟨.d2R, k⟩) ∗ (bigSepL l6 fun k : Fin 6 => pt main_v1 c fullShare (opp c + blk c 2 + 384 + 64 * k.val) 64 (G m c)))) := by
  have h := loop_plain (m := m) (κ := κ) c (fun k : Fin 6 => waitO (s6 cc0_scratch16 k) c ⟨22 + k.val, by omega⟩) 0 _ _ (fun k => t_wait2c c k (above_zero _)) l6
  simp only [zip] at h
  exact h

theorem l_sentXq (c : Dev nD)  :
    iprop(Ctx m κ ∗ owesE c 0 ∗ (bigSepL l16 fun j : Fin 16 => at0 c ⟨.xqS, j⟩) ∗ (bigSepL l16 fun j : Fin 16 => cr c ⟨.xqS, j⟩))
      ⊢ WP c (runL (sentXq c) l16) (fun _ => iprop(owesE c 0 ∗ (bigSepL l16 fun j : Fin 16 => at1 c ⟨.xqS, j⟩) ∗ (bigSepL l16 fun j : Fin 16 => pt cc0_scratch0 c fullShare.left (blk c 0 + 64 * j.val) 64 (cv m c)))) := by
  have h := loop_plain (m := m) (κ := κ) c (sentXq c) 0 _ _ (fun j => t_sentXq c j (above_zero _)) l16
  simp only [zip] at h
  exact h

theorem l_sentXd (c : Dev nD)  :
    iprop(Ctx m κ ∗ owesE c 0 ∗ (bigSepL l4 fun i : Fin 4 => at0 c ⟨.xdS, i⟩) ∗ (bigSepL l4 fun i : Fin 4 => cr c ⟨.xdS, i⟩))
      ⊢ WP c (runL (sentXd c) l4) (fun _ => iprop(owesE c 0 ∗ (bigSepL l4 fun i : Fin 4 => at1 c ⟨.xdS, i⟩) ∗ (bigSepL l4 fun i : Fin 4 => pt cc0_scratch0 c fullShare.left (blk c 2 + 768 + 64 * i.val) 64 (cv m c)))) := by
  have h := loop_plain (m := m) (κ := κ) c (sentXd c) 0 _ _ (fun i => t_sentXd c i (above_zero _)) l4
  simp only [zip] at h
  exact h

theorem l_sentBoth (c : Dev nD)  :
    iprop(Ctx m κ ∗ owesE c 0 ∗ (bigSepL l16 fun j : Fin 16 => at0 c ⟨.cwS, j⟩) ∗ (bigSepL l16 fun j : Fin 16 => cr c ⟨.cwS, j⟩) ∗ (bigSepL l16 fun j : Fin 16 => at0 c ⟨.ccwS, j⟩) ∗ (bigSepL l16 fun j : Fin 16 => cr c ⟨.ccwS, j⟩))
      ⊢ WP c (runL (sentBoth) l16) (fun _ => iprop(owesE c 0 ∗ (bigSepL l16 fun j : Fin 16 => at1 c ⟨.cwS, j⟩) ∗ (bigSepL l16 fun j : Fin 16 => pt cc0_scratch1 c fullShare.left.left (64 * j.val) 64 (vq m c)) ∗ (bigSepL l16 fun j : Fin 16 => at1 c ⟨.ccwS, j⟩) ∗ (bigSepL l16 fun j : Fin 16 => pt cc0_scratch1 c fullShare.left.right (64 * j.val) 64 (vq m c)))) := by
  have h := loop_plain (m := m) (κ := κ) c sentBoth 0 _ _ (fun j => t_sentBoth c j (above_zero _)) l16
  simp only [zip] at h
  exact h

theorem l_sent2w (c : Dev nD)  :
    iprop(Ctx m κ ∗ owesE c 0 ∗ (bigSepL l6 fun k : Fin 6 => at0 c ⟨.c2S, k⟩) ∗ (bigSepL l6 fun k : Fin 6 => cr c ⟨.c2S, k⟩))
      ⊢ WP c (runL (fun k : Fin 6 => sent2 scwA (Memref.isWhole_whole _) (s6 cc0_scratch13 k) c ⟨k.val, by omega⟩ (lo k)) l6) (fun _ => iprop(owesE c 0 ∗ (bigSepL l6 fun k : Fin 6 => at1 c ⟨.c2S, k⟩) ∗ (bigSepL l6 fun k : Fin 6 => pt cc0_scratch2 c fullShare.left (64 * (lo k).val) 64 (vw m c)))) := by
  have h := loop_plain (m := m) (κ := κ) c (fun k : Fin 6 => sent2 scwA (Memref.isWhole_whole _) (s6 cc0_scratch13 k) c ⟨k.val, by omega⟩ (lo k)) 0 _ _ (fun k => t_sent2w c k (above_zero _)) l6
  simp only [zip] at h
  exact h

theorem l_sent2c (c : Dev nD)  :
    iprop(Ctx m κ ∗ owesE c 0 ∗ (bigSepL l6 fun k : Fin 6 => at0 c ⟨.d2S, k⟩) ∗ (bigSepL l6 fun k : Fin 6 => cr c ⟨.d2S, k⟩))
      ⊢ WP c (runL (fun k : Fin 6 => sent2 sccwA (Memref.isWhole_whole _) (s6 cc0_scratch15 k) c ⟨6 + k.val, by omega⟩ (mid k)) l6) (fun _ => iprop(owesE c 0 ∗ (bigSepL l6 fun k : Fin 6 => at1 c ⟨.d2S, k⟩) ∗ (bigSepL l6 fun k : Fin 6 => pt cc0_scratch3 c fullShare.left (64 * (mid k).val) 64 (vc m c)))) := by
  have h := loop_plain (m := m) (κ := κ) c (fun k : Fin 6 => sent2 sccwA (Memref.isWhole_whole _) (s6 cc0_scratch15 k) c ⟨6 + k.val, by omega⟩ (mid k)) 0 _ _ (fun k => t_sent2c c k (above_zero _)) l6
  simp only [zip] at h
  exact h

theorem shares_list (b : Ref sig .tc) (c : Dev nD) (g : ℕ → Elt F b.ty.elt) (l : List (Fin 16)) :
    (bigSepL l fun j : Fin 16 => pt b c fullShare (64 * j.val) 64 g)
      = iprop((bigSepL l fun j : Fin 16 => pt b c fullShare.left (64 * j.val) 64 g) ∗ (bigSepL l fun j : Fin 16 => pt b c fullShare.right (64 * j.val) 64 g)) := by
  rw [← zip]; congr 1; funext j; exact shares _ _ _ _ _ _

theorem p_hops (c : Dev nD) :
    iprop(Ctx m κ ∗ owesE c (O2 c) ∗ (bigSepL l16 fun j : Fin 16 => at0 c ⟨.xqR, j⟩) ∗ (bigSepL l16 fun j : Fin 16 => cr c ⟨.xqR, j⟩) ∗ (bigSepL l16 fun j : Fin 16 => at0 c ⟨.cwR, j⟩) ∗ (bigSepL l16 fun j : Fin 16 => cr c ⟨.cwR, j⟩) ∗ (bigSepL l16 fun j : Fin 16 => at0 c ⟨.ccwR, j⟩) ∗ (bigSepL l16 fun j : Fin 16 => cr c ⟨.ccwR, j⟩)
        ∗ (bigSepL l16 fun j : Fin 16 => tok c ⟨.cwS, j⟩ 0) ∗ (bigSepL l16 fun j : Fin 16 => tok (right c) ⟨.cwR, j⟩ 0) ∗ (bigSepL l16 fun j : Fin 16 => tok c ⟨.ccwS, j⟩ 0) ∗ (bigSepL l16 fun j : Fin 16 => tok (left c) ⟨.ccwR, j⟩ 0)
        ∗ (bigSepL l6 fun j : Fin 6 => tok c ⟨.c2S, j⟩ 0) ∗ (bigSepL l6 fun j : Fin 6 => tok (right c) ⟨.c2R, j⟩ 0) ∗ (bigSepL l6 fun j : Fin 6 => tok c ⟨.d2S, j⟩ 0) ∗ (bigSepL l6 fun j : Fin 6 => tok (left c) ⟨.d2R, j⟩ 0)
        ∗ tok c ⟨.loc, (1 : Fin 4)⟩ 0 ∗ tok c ⟨.loc, (2 : Fin 4)⟩ 0 ∗ tok c ⟨.loc, (3 : Fin 4)⟩ 0
        ∗ payBar c 1 ∗ payBar c 2 ∗ pa main_v1 c (opp c + blk c 0) 1024 ∗ pa main_v1 c (opp c + blk c 3) 1024 ∗ pa main_v1 c (opp c + blk c 1) 1024)
      ⊢ WP c (hops (dests c) c) (fun _ => iprop(owesE c 0 ∗ (bigSepL l16 fun j : Fin 16 => at1 c ⟨.xqR, j⟩) ∗ (bigSepL l16 fun j : Fin 16 => at1 c ⟨.cwR, j⟩) ∗ (bigSepL l16 fun j : Fin 16 => at1 c ⟨.ccwR, j⟩)
        ∗ (bigSepL l16 fun j : Fin 16 => cr c ⟨.cwS, j⟩) ∗ (bigSepL l16 fun j : Fin 16 => cr c ⟨.ccwS, j⟩) ∗ (bigSepL l6 fun j : Fin 6 => cr c ⟨.c2S, j⟩) ∗ (bigSepL l6 fun j : Fin 6 => cr c ⟨.d2S, j⟩) ∗ cr c ⟨.loc, (1 : Fin 4)⟩ ∗ cr c ⟨.loc, (2 : Fin 4)⟩ ∗ cr c ⟨.loc, (3 : Fin 4)⟩
        ∗ (bigSepL lHi fun j : Fin 16 => pt cc0_scratch2 c fullShare.left (64 * j.val) 64 (vw m c)) ∗ (bigSepL lOut fun j : Fin 16 => pt cc0_scratch3 c fullShare.left (64 * j.val) 64 (vc m c)))) := by
  have eP1 : payBar (F := F) c 1 = iprop(pa cc0_scratch2 (right c) 0 1024 ∗ pa main_v1 (right c) (opp (right c) + blk (right c) 2) 384) := rfl
  have eP2 : payBar (F := F) c 2 = iprop(pa cc0_scratch3 (left c) 0 1024 ∗ pa main_v1 (left c) (opp (left c) + blk (left c) 2 + 384) 384) := rfl
  unfold hops O2 O3 O4
  iintro ⟨#HC, HO, Aq, Cq, Aw, Cw, Ac, Cc, TwS, TwR, TcS, TcR, T2S, T2R, D2S, D2R, T1, T2, T3, HP1, HP2, O0, O3, O1⟩
  ihave HP1 := (ent eP1) $$ HP1
  icases HP1 with ⟨Hw, Hwo⟩
  ihave HP2 := (ent eP2) $$ HP2
  icases HP2 with ⟨Hc, Hco⟩
  ihave Hw := (ent (pa16z cc0_scratch2 (right c))) $$ Hw
  ihave Hc := (ent (pa16z cc0_scratch3 (left c))) $$ Hc
  ihave Hwo := (ent (pa6 main_v1 (right c) _)) $$ Hwo
  ihave Hco := (ent (pa6 main_v1 (left c) _)) $$ Hco
  ihave Aw := (ent (cut_lo _)) $$ Aw
  icases Aw with ⟨Aw, Aw'⟩
  ihave Cw := (ent (cut_lo _)) $$ Cw
  icases Cw with ⟨Cw, Cw'⟩
  ihave Ac := (ent (cut_mid _)) $$ Ac
  icases Ac with ⟨Ac, Ac'⟩
  ihave Cc := (ent (cut_mid _)) $$ Cc
  icases Cc with ⟨Cc, Cc'⟩
  iapply (seq1 (l_step1 (m := m) (κ := κ) c (oweL (gc2 c) l6 (oweL (gd2 c) l6 0)) ((a_O3 c).mono (by decide)))) $$ [HO Aq Cq Hw Hc TwS TwR TcS TcR]
  · iframe # ∗
  iintro ⟨HO, Aq, CwS, CcS, Rq⟩
  ihave Rq := (ent' (pt16z cc0_scratch1 c fullShare.right _)) $$ Rq
  iapply (seq1 (t_flushQ (m := m) (κ := κ) c)) $$ [Rq O0 T1]
  · iframe # ∗
  iintro C1
  iapply (seq1 (l_step2cw (m := m) (κ := κ) c (oweL (gd2 c) l6 0) (a_O4 c))) $$ [HO Aw Cw Hwo T2S T2R]
  · iframe # ∗
  iintro ⟨HO, Aw, C2S, Rw⟩
  iapply (seq1 (l_step2ccw (m := m) (κ := κ) c 0 (above_zero _))) $$ [HO Ac Cc Hco D2S D2R]
  · iframe # ∗
  iintro ⟨HO, Ac, CD2S, Rc⟩
  iapply (seq1 (l_waitCw (m := m) (κ := κ) c)) $$ [HO Aw' Cw']
  · iframe # ∗
  iintro ⟨HO, Aw', Hw⟩
  ihave Hw := (ent (shares_list cc0_scratch2 c _ _)) $$ Hw
  icases Hw with ⟨Lw, Rw'⟩
  iapply (seq1 (t_flushW (m := m) (κ := κ) c)) $$ [Rw Rw' O3 T2]
  · rw [pt16z, cut_lo]; iframe # ∗
  iintro C2
  iapply (seq1 (l_waitCcw (m := m) (κ := κ) c)) $$ [HO Ac' Cc']
  · iframe # ∗
  iintro ⟨HO, Ac', Hc⟩
  ihave Hc := (ent (shares_list cc0_scratch3 c _ _)) $$ Hc
  icases Hc with ⟨Lc, Rc'⟩
  iapply (last1 (t_flushC (m := m) (κ := κ) c)) $$ [Rc Rc' O1 T3]
  · rw [pt16z, cut_mid]; iframe # ∗
  iintro C3
  rw [cut_lo (fun j : Fin 16 => at1 (F := F) c ⟨.cwR, j⟩), cut_mid (fun j : Fin 16 => at1 (F := F) c ⟨.ccwR, j⟩)]
  iframe # ∗

theorem p_arrivals (c : Dev nD) :
    iprop(Ctx m κ ∗ owesE c 0 ∗ (bigSepL l4 fun j : Fin 4 => at0 c ⟨.xdR, j⟩) ∗ (bigSepL l4 fun j : Fin 4 => cr c ⟨.xdR, j⟩) ∗ (bigSepL l6 fun j : Fin 6 => at0 c ⟨.c2R, j⟩) ∗ (bigSepL l6 fun j : Fin 6 => cr c ⟨.c2R, j⟩) ∗ (bigSepL l6 fun j : Fin 6 => at0 c ⟨.d2R, j⟩) ∗ (bigSepL l6 fun j : Fin 6 => cr c ⟨.d2R, j⟩))
      ⊢ WP c (arrivals c) (fun _ => iprop(owesE c 0 ∗ (bigSepL l4 fun j : Fin 4 => at1 c ⟨.xdR, j⟩) ∗ (bigSepL l6 fun j : Fin 6 => at1 c ⟨.c2R, j⟩) ∗ (bigSepL l6 fun j : Fin 6 => at1 c ⟨.d2R, j⟩) ∗ pt main_v1 c fullShare (opp c + blk c 2) 1024 (G m c))) := by
  unfold arrivals
  iintro ⟨#HC, HO, A1, C1, A2, C2, A3, C3⟩
  iapply (seq1 (l_waitXd (m := m) (κ := κ) c)) $$ [HO A1 C1]
  · iframe # ∗
  iintro ⟨HO, A1, P1⟩
  iapply (seq1 (l_wait2w (m := m) (κ := κ) c)) $$ [HO A2 C2]
  · iframe # ∗
  iintro ⟨HO, A2, P2⟩
  iapply (last1 (l_wait2c (m := m) (κ := κ) c)) $$ [HO A3 C3]
  · iframe # ∗
  iintro ⟨HO, A3, P3⟩
  rw [last_block (Φ := fun lo n => pt main_v1 c fullShare lo n (G m c)) (fun lo n k => pt_add main_v1 c fullShare lo n k (G m c)), pt4, pt6, pt6]
  iframe # ∗

theorem p_drain (c : Dev nD) :
    iprop(Ctx m κ ∗ owesE c 0 ∗ (bigSepL l16 fun j : Fin 16 => at0 c ⟨.xqS, j⟩) ∗ (bigSepL l16 fun j : Fin 16 => cr c ⟨.xqS, j⟩) ∗ (bigSepL l4 fun j : Fin 4 => at0 c ⟨.xdS, j⟩) ∗ (bigSepL l4 fun j : Fin 4 => cr c ⟨.xdS, j⟩) ∗ (bigSepL l16 fun j : Fin 16 => at0 c ⟨.cwS, j⟩) ∗ (bigSepL l16 fun j : Fin 16 => cr c ⟨.cwS, j⟩) ∗ (bigSepL l16 fun j : Fin 16 => at0 c ⟨.ccwS, j⟩) ∗ (bigSepL l16 fun j : Fin 16 => cr c ⟨.ccwS, j⟩)
        ∗ (bigSepL l6 fun j : Fin 6 => at0 c ⟨.c2S, j⟩) ∗ (bigSepL l6 fun j : Fin 6 => cr c ⟨.c2S, j⟩) ∗ (bigSepL l6 fun j : Fin 6 => at0 c ⟨.d2S, j⟩) ∗ (bigSepL l6 fun j : Fin 6 => cr c ⟨.d2S, j⟩)
        ∗ at0 c ⟨.loc, (0 : Fin 4)⟩ ∗ cr c ⟨.loc, (0 : Fin 4)⟩ ∗ at0 c ⟨.loc, (1 : Fin 4)⟩ ∗ cr c ⟨.loc, (1 : Fin 4)⟩ ∗ at0 c ⟨.loc, (2 : Fin 4)⟩ ∗ cr c ⟨.loc, (2 : Fin 4)⟩ ∗ at0 c ⟨.loc, (3 : Fin 4)⟩ ∗ cr c ⟨.loc, (3 : Fin 4)⟩
        ∗ pt cc0_scratch0 c fullShare.left (blk c 1) 1024 (cv m c) ∗ pt cc0_scratch0 c fullShare.left (blk c 2) 768 (cv m c) ∗ pt cc0_scratch0 c fullShare.left (blk c 3) 1024 (cv m c)
        ∗ (bigSepL lHi fun j : Fin 16 => pt cc0_scratch2 c fullShare.left (64 * j.val) 64 (vw m c)) ∗ (bigSepL lOut fun j : Fin 16 => pt cc0_scratch3 c fullShare.left (64 * j.val) 64 (vc m c)))
      ⊢ WP c (drain c) (fun _ => iprop(owesE c 0 ∗ (bigSepL l16 fun j : Fin 16 => at1 c ⟨.xqS, j⟩) ∗ (bigSepL l4 fun j : Fin 4 => at1 c ⟨.xdS, j⟩) ∗ (bigSepL l16 fun j : Fin 16 => at1 c ⟨.cwS, j⟩) ∗ (bigSepL l16 fun j : Fin 16 => at1 c ⟨.ccwS, j⟩) ∗ (bigSepL l6 fun j : Fin 6 => at1 c ⟨.c2S, j⟩) ∗ (bigSepL l6 fun j : Fin 6 => at1 c ⟨.d2S, j⟩)
        ∗ at1 c ⟨.loc, (0 : Fin 4)⟩ ∗ at1 c ⟨.loc, (1 : Fin 4)⟩ ∗ at1 c ⟨.loc, (2 : Fin 4)⟩ ∗ at1 c ⟨.loc, (3 : Fin 4)⟩
        ∗ pa cc0_scratch0 c 0 4096 ∗ pa cc0_scratch1 c 0 1024 ∗ pa cc0_scratch2 c 0 1024 ∗ pa cc0_scratch3 c 0 1024
        ∗ pt main_v1 c fullShare (own c) 4096 (G m c) ∗ pt main_v1 c fullShare (opp c + blk c 0) 1024 (G m c) ∗ pt main_v1 c fullShare (opp c + blk c 1) 1024 (G m c) ∗ pt main_v1 c fullShare (opp c + blk c 3) 1024 (G m c))) := by
  have eL : pt cc0_scratch0 c fullShare.left 0 4096 (cv m c) = iprop(pt cc0_scratch0 c fullShare.left (blk c 0) 1024 (cv m c) ∗ pt cc0_scratch0 c fullShare.left (blk c 1) 1024 (cv m c) ∗ pt cc0_scratch0 c fullShare.left (blk c 2) 1024 (cv m c) ∗ pt cc0_scratch0 c fullShare.left (blk c 3) 1024 (cv m c)) := by
    have h := four (Φ := fun lo n => pt cc0_scratch0 c fullShare.left lo n (cv m c)) (fun lo n k => pt_add cc0_scratch0 c fullShare.left lo n k (cv m c)) 0 c
    simpa only [Nat.zero_add] using h
  have h2 : pt cc0_scratch0 c fullShare.left (blk c 2) 1024 (cv m c) = iprop(pt cc0_scratch0 c fullShare.left (blk c 2) 768 (cv m c) ∗ pt cc0_scratch0 c fullShare.left (blk c 2 + 768) 256 (cv m c)) :=
    pt_add cc0_scratch0 c fullShare.left (blk c 2) 768 256 (cv m c)
  have e0 : payLoc m c 0 = iprop(pt main_v1 c fullShare (own c) 4096 (G m c) ∗ pt cc0_scratch0 c fullShare.right 0 4096 (cv m c)) := rfl
  have e1 : payLoc m c 1 = iprop(pt main_v1 c fullShare (opp c + blk c 0) 1024 (G m c) ∗ pt cc0_scratch1 c fullShare.right 0 1024 (vq m c)) := rfl
  have e2 : payLoc m c 2 = iprop(pt main_v1 c fullShare (opp c + blk c 3) 1024 (G m c) ∗ pt cc0_scratch2 c fullShare.right 0 1024 (vw m c)) := rfl
  have e3 : payLoc m c 3 = iprop(pt main_v1 c fullShare (opp c + blk c 1) 1024 (G m c) ∗ pt cc0_scratch3 c fullShare.right 0 1024 (vc m c)) := rfl
  unfold drain
  iintro ⟨#HC, HO, A1, C1, A2, C2, A3, C3, A4, C4, A5, C5, A6, C6, B0, D0, B1, D1, B2, D2, B3, D3, L1, L2, L3, Kw, Kc⟩
  iapply (seq1 (l_sentXq (m := m) (κ := κ) c)) $$ [HO A1 C1]
  · iframe # ∗
  iintro ⟨HO, A1, P1⟩
  iapply (seq1 (l_sentXd (m := m) (κ := κ) c)) $$ [HO A2 C2]
  · iframe # ∗
  iintro ⟨HO, A2, P2⟩
  iapply (seq1 (l_sentBoth (m := m) (κ := κ) c)) $$ [HO A3 C3 A4 C4]
  · iframe # ∗
  iintro ⟨HO, A3, P3, A4, P4⟩
  iapply (seq1 (l_sent2w (m := m) (κ := κ) c)) $$ [HO A5 C5]
  · iframe # ∗
  iintro ⟨HO, A5, P5⟩
  iapply (seq1 (l_sent2c (m := m) (κ := κ) c)) $$ [HO A6 C6]
  · iframe # ∗
  iintro ⟨HO, A6, P6⟩
  iapply (seq1 (t_waitMine (m := m) (κ := κ) c (above_zero _))) $$ [HO B0 D0]
  · iframe # ∗
  iintro ⟨HO, B0, Q0⟩
  ihave Q0 := (ent e0) $$ Q0
  icases Q0 with ⟨O0, R0⟩
  iapply (seq1 (t_waitQ (m := m) (κ := κ) c (above_zero _))) $$ [HO B1 D1]
  · iframe # ∗
  iintro ⟨HO, B1, Q1⟩
  ihave Q1 := (ent e1) $$ Q1
  icases Q1 with ⟨O1, R1⟩
  iapply (seq1 (t_waitW (m := m) (κ := κ) c (above_zero _))) $$ [HO B2 D2]
  · iframe # ∗
  iintro ⟨HO, B2, Q2⟩
  ihave Q2 := (ent e2) $$ Q2
  icases Q2 with ⟨O2, R2⟩
  iapply (last1 (t_waitC (m := m) (κ := κ) c (above_zero _))) $$ [HO B3 D3]
  · iframe # ∗
  iintro ⟨HO, B3, Q3⟩
  ihave Q3 := (ent e3) $$ Q3
  icases Q3 with ⟨O3, R3⟩
  ihave P1 := (ent' (pt16 cc0_scratch0 c fullShare.left _ _)) $$ P1
  ihave P2 := (ent' (pt4 cc0_scratch0 c fullShare.left _ _)) $$ P2
  ihave P3 := (ent' (pt16z cc0_scratch1 c fullShare.left.left _)) $$ P3
  ihave P4 := (ent' (pt16z cc0_scratch1 c fullShare.left.right _)) $$ P4
  ihave S0 := (ent' (shares cc0_scratch0 c fullShare 0 4096 (cv m c))) $$ [R0 P1 L1 L2 P2 L3]
  · rw [eL, h2]; iframe # ∗
  ihave S1 := (ent' (shares cc0_scratch1 c fullShare 0 1024 (vq m c))) $$ [R1 P3 P4]
  · rw [shares cc0_scratch1 c fullShare.left]; iframe # ∗
  ihave S2 := (ent' (shares cc0_scratch2 c fullShare 0 1024 (vw m c))) $$ [R2 P5 Kw]
  · rw [pt16z cc0_scratch2 c fullShare.left, cut_lo]; iframe # ∗
  ihave S3 := (ent' (shares cc0_scratch3 c fullShare 0 1024 (vc m c))) $$ [R3 P6 Kc]
  · rw [pt16z cc0_scratch3 c fullShare.left, cut_mid]; iframe # ∗
  ihave S0 := (pt_pa _ _ _ _ _) $$ S0
  ihave S1 := (pt_pa _ _ _ _ _) $$ S1
  ihave S2 := (pt_pa _ _ _ _ _) $$ S2
  ihave S3 := (pt_pa _ _ _ _ _) $$ S3
  iframe # ∗

end Cert.KernelIdealRun
end
-- ==== Proof.IdealBody.lean ====
module

public import proofs.«01_k».proof.Proof.IdealHops
public import Idealize.ShloMosaic.Lib.Pipeline.Cells

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # A device's whole run -/

local notation "𝕄" => MT nD τ sig Unit (Elt F) ℕ UU ℕ

variable {m : (ℓ : Loc nD τ sig) → Buf (Elt F) ℓ} {κ : Dev nD × Kx → ℕ}

/-- Something for every semaphore, kind by kind. -/
theorem kinds (Ψ : Kx → sProp 𝕄) : bigSep Finset.univ Ψ = iprop(
    Ψ ⟨.bar, (0 : Fin 1)⟩
    ∗ (bigSepL l16 fun j : Fin 16 => Ψ ⟨.xqS, j⟩)
    ∗ (bigSepL l16 fun j : Fin 16 => Ψ ⟨.xqR, j⟩)
    ∗ (bigSepL l4 fun j : Fin 4 => Ψ ⟨.xdS, j⟩)
    ∗ (bigSepL l4 fun j : Fin 4 => Ψ ⟨.xdR, j⟩)
    ∗ (bigSepL l16 fun j : Fin 16 => Ψ ⟨.cwS, j⟩)
    ∗ (bigSepL l16 fun j : Fin 16 => Ψ ⟨.cwR, j⟩)
    ∗ (bigSepL l16 fun j : Fin 16 => Ψ ⟨.ccwS, j⟩)
    ∗ (bigSepL l16 fun j : Fin 16 => Ψ ⟨.ccwR, j⟩)
    ∗ (bigSepL l6 fun j : Fin 6 => Ψ ⟨.c2S, j⟩)
    ∗ (bigSepL l6 fun j : Fin 6 => Ψ ⟨.c2R, j⟩)
    ∗ (bigSepL l6 fun j : Fin 6 => Ψ ⟨.d2S, j⟩)
    ∗ (bigSepL l6 fun j : Fin 6 => Ψ ⟨.d2R, j⟩)
    ∗ (bigSepL l16 fun j : Fin 16 => Ψ ⟨.inq, j⟩)
    ∗ Ψ ⟨.loc, (0 : Fin 4)⟩
    ∗ Ψ ⟨.loc, (1 : Fin 4)⟩
    ∗ Ψ ⟨.loc, (2 : Fin 4)⟩
    ∗ Ψ ⟨.loc, (3 : Fin 4)⟩
    ∗ Ψ ⟨.inb, (0 : Fin 3)⟩
    ∗ Ψ ⟨.inb, (1 : Fin 3)⟩
    ∗ Ψ ⟨.inb, (2 : Fin 3)⟩) := by
  have h16 : ∀ Φ : Fin 16 → sProp 𝕄, bigSep Finset.univ Φ = bigSepL l16 Φ := bigSep_univ_eq_bigSepL l16 (by decide) (by decide)
  have h6 : ∀ Φ : Fin 6 → sProp 𝕄, bigSep Finset.univ Φ = bigSepL l6 Φ := bigSep_univ_eq_bigSepL l6 (by decide) (by decide)
  have h4 : ∀ Φ : Fin 4 → sProp 𝕄, bigSep Finset.univ Φ = bigSepL l4 Φ := bigSep_univ_eq_bigSepL l4 (by decide) (by decide)
  have h3 : ∀ Φ : Fin 3 → sProp 𝕄, bigSep Finset.univ Φ = iprop(Φ 0 ∗ Φ 1 ∗ Φ 2) := bigSep_univ_eq_bigSepL [0, 1, 2] (by decide) (by decide)
  have h4' : ∀ Φ : Fin 4 → sProp 𝕄, bigSep Finset.univ Φ = iprop(Φ 0 ∗ Φ 1 ∗ Φ 2 ∗ Φ 3) := bigSep_univ_eq_bigSepL [0, 1, 2, 3] (by decide) (by decide)
  have h1 : ∀ Φ : Fin 1 → sProp 𝕄, bigSep Finset.univ Φ = Φ 0 := bigSep_univ_eq_bigSepL [0] (by decide) (by decide)
  rw [Pipeline.bigSep_univ_sigma, bigSep_univ_eq_bigSepL [Kd.bar, .xqS, .xqR, .xdS, .xdR, .cwS, .cwR, .ccwS, .ccwR, .c2S, .c2R, .d2S, .d2R, .inq, .loc, .inb] (by decide) (by decide)]
  show iprop((bigSep Finset.univ fun j : Fin 1 => Ψ ⟨.bar, j⟩)
    ∗ (bigSep Finset.univ fun j : Fin 16 => Ψ ⟨.xqS, j⟩)
    ∗ (bigSep Finset.univ fun j : Fin 16 => Ψ ⟨.xqR, j⟩)
    ∗ (bigSep Finset.univ fun j : Fin 4 => Ψ ⟨.xdS, j⟩)
    ∗ (bigSep Finset.univ fun j : Fin 4 => Ψ ⟨.xdR, j⟩)
    ∗ (bigSep Finset.univ fun j : Fin 16 => Ψ ⟨.cwS, j⟩)
    ∗ (bigSep Finset.univ fun j : Fin 16 => Ψ ⟨.cwR, j⟩)
    ∗ (bigSep Finset.univ fun j : Fin 16 => Ψ ⟨.ccwS, j⟩)
    ∗ (bigSep Finset.univ fun j : Fin 16 => Ψ ⟨.ccwR, j⟩)
    ∗ (bigSep Finset.univ fun j : Fin 6 => Ψ ⟨.c2S, j⟩)
    ∗ (bigSep Finset.univ fun j : Fin 6 => Ψ ⟨.c2R, j⟩)
    ∗ (bigSep Finset.univ fun j : Fin 6 => Ψ ⟨.d2S, j⟩)
    ∗ (bigSep Finset.univ fun j : Fin 6 => Ψ ⟨.d2R, j⟩)
    ∗ (bigSep Finset.univ fun j : Fin 16 => Ψ ⟨.inq, j⟩)
    ∗ (bigSep Finset.univ fun j : Fin 4 => Ψ ⟨.loc, j⟩) ∗ (bigSep Finset.univ fun j : Fin 3 => Ψ ⟨.inb, j⟩)) = _
  rw [h1, h16 fun j => Ψ ⟨.xqS, j⟩, h16 fun j => Ψ ⟨.xqR, j⟩, h16 fun j => Ψ ⟨.cwS, j⟩, h16 fun j => Ψ ⟨.cwR, j⟩, h16 fun j => Ψ ⟨.ccwS, j⟩, h16 fun j => Ψ ⟨.ccwR, j⟩, h16 fun j => Ψ ⟨.inq, j⟩,
    h4 fun j => Ψ ⟨.xdS, j⟩, h4 fun j => Ψ ⟨.xdR, j⟩, h6 fun j => Ψ ⟨.c2S, j⟩, h6 fun j => Ψ ⟨.c2R, j⟩, h6 fun j => Ψ ⟨.d2S, j⟩, h6 fun j => Ψ ⟨.d2R, j⟩, h3, h4']
  refine bi_eq ⟨show _ ⊢ _ from ?_, show _ ⊢ _ from ?_⟩
  · iintro H; icases H with ⟨A0, A1, A2, A3, A4, A5, A6, A7, A8, A9, B0, B1, B2, B3, ⟨B4, B5, B6, B7⟩, B8, B9, C0⟩
    iframe # ∗
  · iintro H; icases H with ⟨A0, A1, A2, A3, A4, A5, A6, A7, A8, A9, B0, B1, B2, B3, B4, B5, B6, B7, B8, B9, C0⟩
    iframe # ∗

/-! ## What a device starts from -/

def pP : Equiv.Perm (Dev nD) := ⟨partner, partner, partner_partner, partner_partner⟩
def pL : Equiv.Perm (Dev nD) := ⟨left, right, right_left, left_right⟩
def pR : Equiv.Perm (Dev nD) := ⟨right, left, left_right, right_left⟩

/-- The device whose semaphore of the kind a device pays. -/
def dst : Kd → Equiv.Perm (Dev nD)
  | .bar => pP | .xqR => pP | .xdR => pP | .cwR => pR | .c2R => pR | .ccwR => pL | .d2R => pL | _ => Equiv.refl _

/-- The rights to pay that a device starts with. -/
def tokd (c : Dev nD) (x : Kx) : sProp 𝕄 := iprop(tok (dst x.1 c) x 0 ∗ tok (left c) x 1 ∗ tok (right c) x 2)

theorem tokd_drop (c : Dev nD) (x : Kx) : tokd (F := F) c x ⊢ tok (dst x.1 c) x 0 := by
  unfold tokd; iintro ⟨H, -⟩; iexact H

/-- The credits a device starts with. -/
def creds (c : Dev nD) : sProp 𝕄 :=
  iprop(cred (tallyAt (cell c ⟨.bar, 0⟩) () 3) ∗ (bigSepL l16 fun j : Fin 16 => cr c ⟨.xqR, j⟩) ∗ (bigSepL l4 fun j : Fin 4 => cr c ⟨.xdR, j⟩) ∗ (bigSepL l16 fun j : Fin 16 => cr c ⟨.cwR, j⟩) ∗ (bigSepL l16 fun j : Fin 16 => cr c ⟨.ccwR, j⟩) ∗ (bigSepL l6 fun j : Fin 6 => cr c ⟨.c2R, j⟩) ∗ (bigSepL l6 fun j : Fin 6 => cr c ⟨.d2R, j⟩))

/-- A device's memory when it starts and when it ends. -/
def mem0 (m : (ℓ : Loc nD τ sig) → Buf (Elt F) ℓ) (c : Dev nD) : sProp 𝕄 :=
  iprop(pt main_arg0 c fullShare 0 4096 (xv m c) ∗ pa main_v1 c 0 8192 ∗ pa cc0_scratch0 c 0 4096 ∗ pa cc0_scratch1 c 0 1024 ∗ pa cc0_scratch2 c 0 1024 ∗ pa cc0_scratch3 c 0 1024 ∗ pa cc0_scratch4 c 0 2048)
@[inherit_doc mem0] def mem1 (m : (ℓ : Loc nD τ sig) → Buf (Elt F) ℓ) (c : Dev nD) : sProp 𝕄 :=
  iprop(pt main_arg0 c fullShare 0 4096 (xv m c) ∗ pt main_v1 c fullShare 0 8192 (G m c) ∗ pa cc0_scratch0 c 0 4096 ∗ pa cc0_scratch1 c 0 1024 ∗ pa cc0_scratch2 c 0 1024 ∗ pa cc0_scratch3 c 0 1024 ∗ pa cc0_scratch4 c 0 2048)

theorem out_split (c : Dev nD) : pa (F := F) main_v1 c 0 8192 = iprop(pa main_v1 c (own c) 4096
    ∗ pa main_v1 c (opp c + blk c 0) 1024 ∗ pa main_v1 c (opp c + blk c 1) 1024
    ∗ (pa main_v1 c (opp c + blk c 2) 384 ∗ pa main_v1 c (opp c + blk c 2 + 384) 384 ∗ pa main_v1 c (opp c + blk c 2 + 768) 256)
    ∗ pa main_v1 c (opp c + blk c 3) 1024) := by
  rw [halves (Φ := fun lo n => pa (F := F) main_v1 c lo n) (fun lo n k => pa_add main_v1 c lo n k) c,
    four (Φ := fun lo n => pa (F := F) main_v1 c lo n) (fun lo n k => pa_add main_v1 c lo n k) (opp c) c,
    last_block (Φ := fun lo n => pa (F := F) main_v1 c lo n) (fun lo n k => pa_add main_v1 c lo n k) (opp c + blk c 2)]

theorem out_join (c : Dev nD) : pt main_v1 c fullShare 0 8192 (G m c) = iprop(pt main_v1 c fullShare (own c) 4096 (G m c)
    ∗ pt main_v1 c fullShare (opp c + blk c 0) 1024 (G m c) ∗ pt main_v1 c fullShare (opp c + blk c 1) 1024 (G m c)
    ∗ pt main_v1 c fullShare (opp c + blk c 2) 1024 (G m c) ∗ pt main_v1 c fullShare (opp c + blk c 3) 1024 (G m c)) := by
  rw [halves (Φ := fun lo n => pt main_v1 c fullShare lo n (G m c)) (fun lo n k => pt_add main_v1 c fullShare lo n k (G m c)) c,
    four (Φ := fun lo n => pt main_v1 c fullShare lo n (G m c)) (fun lo n k => pt_add main_v1 c fullShare lo n k (G m c)) (opp c) c]

/-- The rights to pay, kind by kind. -/
theorem toks_kinds (c : Dev nD) : bigSep Finset.univ (tokd (F := F) c) ⊢ iprop((tok (partner c) ⟨.bar, 0⟩ 0 ∗ tok (left c) ⟨.bar, 0⟩ 1 ∗ tok (right c) ⟨.bar, 0⟩ 2)
    ∗ (bigSepL l16 fun j : Fin 16 => tok c ⟨.xqS, j⟩ 0)
    ∗ (bigSepL l16 fun j : Fin 16 => tok (partner c) ⟨.xqR, j⟩ 0)
    ∗ (bigSepL l4 fun j : Fin 4 => tok c ⟨.xdS, j⟩ 0)
    ∗ (bigSepL l4 fun j : Fin 4 => tok (partner c) ⟨.xdR, j⟩ 0)
    ∗ (bigSepL l16 fun j : Fin 16 => tok c ⟨.cwS, j⟩ 0)
    ∗ (bigSepL l16 fun j : Fin 16 => tok (right c) ⟨.cwR, j⟩ 0)
    ∗ (bigSepL l16 fun j : Fin 16 => tok c ⟨.ccwS, j⟩ 0)
    ∗ (bigSepL l16 fun j : Fin 16 => tok (left c) ⟨.ccwR, j⟩ 0)
    ∗ (bigSepL l6 fun j : Fin 6 => tok c ⟨.c2S, j⟩ 0)
    ∗ (bigSepL l6 fun j : Fin 6 => tok (right c) ⟨.c2R, j⟩ 0)
    ∗ (bigSepL l6 fun j : Fin 6 => tok c ⟨.d2S, j⟩ 0)
    ∗ (bigSepL l6 fun j : Fin 6 => tok (left c) ⟨.d2R, j⟩ 0)
    ∗ (bigSepL l16 fun j : Fin 16 => tok c ⟨.inq, j⟩ 0)
    ∗ tok c ⟨.loc, (0 : Fin 4)⟩ 0 ∗ tok c ⟨.loc, (1 : Fin 4)⟩ 0 ∗ tok c ⟨.loc, (2 : Fin 4)⟩ 0 ∗ tok c ⟨.loc, (3 : Fin 4)⟩ 0 ∗ tok c ⟨.inb, (0 : Fin 3)⟩ 0 ∗ tok c ⟨.inb, (1 : Fin 3)⟩ 0 ∗ tok c ⟨.inb, (2 : Fin 3)⟩ 0) := by
  rw [kinds (tokd c)]
  refine BI.sep_mono (ent rfl) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (bigSepL_mono fun j _ => tokd_drop c _) ?_
  refine BI.sep_mono (tokd_drop c _) ?_
  refine BI.sep_mono (tokd_drop c _) ?_
  refine BI.sep_mono (tokd_drop c _) ?_
  refine BI.sep_mono (tokd_drop c _) ?_
  refine BI.sep_mono (tokd_drop c _) ?_
  refine BI.sep_mono (tokd_drop c _) ?_
  exact tokd_drop c _

/-! ## The run -/

theorem whole (c : Dev nD) :
    iprop(Ctx m κ ∗ owesE c (O₀ c) ∗ bigSep Finset.univ (at0 (F := F) c) ∗ bigSep Finset.univ (tokd (F := F) c) ∗ creds c ∗ mem0 m c)
      ⊢ WP c (loops (dests c) c) (fun _ => iprop(owesE c 0 ∗ bigSep Finset.univ (at1 (F := F) c) ∗ mem1 m c)) := by
  unfold loops creds mem0 mem1
  iintro ⟨#HC, HO, HA, HT, ⟨Cbar, CxqR, CxdR, CcwR, CccwR, Cc2R, Cd2R⟩, ⟨Harg, Hout, S0, S1, S2, S3, S4⟩⟩
  ihave HA := (ent (kinds (at0 (F := F) c))) $$ HA
  ihave HT := (toks_kinds (F := F) c) $$ HT
  icases HA with ⟨Abar, AxqS, AxqR, AxdS, AxdR, AcwS, AcwR, AccwS, AccwR, Ac2S, Ac2R, Ad2S, Ad2R, Ainq, Aloc0, Aloc1, Aloc2, Aloc3, Ainb0, Ainb1, Ainb2⟩
  icases HT with ⟨⟨Tb0, Tb1, Tb2⟩, TxqS, TxqR, TxdS, TxdR, TcwS, TcwR, TccwS, TccwR, Tc2S, Tc2R, Td2S, Td2R, Tinq, Tloc0, Tloc1, Tloc2, Tloc3, Tinb0, Tinb1, Tinb2⟩
  ihave Hout := (ent (out_split (F := F) c)) $$ Hout
  icases Hout with ⟨Oown, O0, O1, ⟨O2a, O2b, O2c⟩, O3⟩
  iapply (seq1 (p_handshake (m := m) (κ := κ) c)) $$ [HO Abar Cbar Tb0 Tb1 Tb2 S1 S2 S3 O2a O2b O2c]
  · iframe # ∗
  iintro ⟨HO, Abar, P0, P1, P2⟩
  iapply (seq1 (p_convert (m := m) (κ := κ) c)) $$ [HO Ainq Ainb0 Ainb1 Ainb2 Tinq Tinb0 Tinb1 Tinb2 TxqS TxqR TxdS TxdR Tloc0 Harg S4 S0 P0 Oown]
  · iframe # ∗
  iintro ⟨HO, Ainq, Ainb0, Ainb1, Ainb2, CxqS, CxdS, Cloc0, Harg, S4, L1, L2, L3⟩
  iapply (seq1 (p_hops (m := m) (κ := κ) c)) $$ [HO AxqR CxqR AcwR CcwR AccwR CccwR TcwS TcwR TccwS TccwR Tc2S Tc2R Td2S Td2R Tloc1 Tloc2 Tloc3 P1 P2 O0 O3 O1]
  · iframe # ∗
  iintro ⟨HO, AxqR, AcwR, AccwR, CcwS, CccwS, Cc2S, Cd2S, Cloc1, Cloc2, Cloc3, Kw, Kc⟩
  iapply (seq1 (p_arrivals (m := m) (κ := κ) c)) $$ [HO AxdR CxdR Ac2R Cc2R Ad2R Cd2R]
  · iframe # ∗
  iintro ⟨HO, AxdR, Ac2R, Ad2R, O2⟩
  iapply (last1 (p_drain (m := m) (κ := κ) c)) $$ [HO AxqS CxqS AxdS CxdS AcwS CcwS AccwS CccwS Ac2S Cc2S Ad2S Cd2S Aloc0 Cloc0 Aloc1 Cloc1 Aloc2 Cloc2 Aloc3 Cloc3 L1 L2 L3 Kw Kc]
  · iframe # ∗
  iintro ⟨HO, AxqS, AxdS, AcwS, AccwS, Ac2S, Ad2S, Aloc0, Aloc1, Aloc2, Aloc3, S0, S1, S2, S3, Oown, O0, O1, O3⟩
  rw [kinds (at1 (F := F) c), out_join]
  iframe # ∗

/-- Every semaphore of a device has finished its one round, so its counter is zero again. -/
theorem close_all (c : Dev nD) : iprop(Ctx m κ ∗ bigSep Finset.univ (at1 (F := F) c)) ⊢ |={Set.univ}=> bigSep Finset.univ fun x => (semVal (cell c x) 0 : sProp 𝕄) := by
  have h : ∀ x : Kx, iprop(Ctx m κ ∗ at1 (F := F) c x) ⊢ |={Set.univ}=> (semVal (cell c x) 0 : sProp 𝕄) := fun x => by
    unfold at1
    iintro ⟨#HC, Hat⟩
    ihave HI := (ctx_cell m κ c x) $$ HC
    icases HI with ⟨#HI, -⟩
    iapply (Rounds.cell_close ER (rd m) (Set.mem_univ (κ (c, x))) (fun h => h) (R := 0 + 1) (duties_later m (cell c x)))
    isplitr
    · iexact HI
    iexact Hat
  refine ((sep_mono_left (BI.bigSep_of_persistent (Finset.univ : Finset Kx) (Ctx m κ))).trans ?_).trans (bigSep_fupd _ _)
  rw [← bigSep_sep']
  exact bigSep_mono fun x _ => h x

end Cert.KernelIdealRun

end
-- ==== Proof.IdealRun.lean ====
module

public import proofs.«01_k».proof.Proof.IdealBody
public import proofs.«01_k».proof.Proof.Gen.KernelIdeal.Launch
public import Idealize.ShloMosaic.Lib.Pipeline.Launch
public import Idealize.ShloMosaic.Lib.Pipeline.CollectiveSegs
public import Idealize.ShloMosaic.Lib.Pipeline.Kit

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The launch of every device -/

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## Whole buffers -/

theorem pt_whole (b : Ref sig .tc) (c : Dev nD) (q : PosShare TreeShare) {n : ℕ} (h : b.ty.shape.numel = 1024 * n) (g : ℕ → Elt F b.ty.elt) :
    pt b c q 0 n g = iprop((c : Thread nD τ).loc b ↦{q} fill b g) := by
  unfold pt; rw [band_whole b h]
theorem pa_whole (b : Ref sig .tc) (c : Dev nD) {n : ℕ} (h : b.ty.shape.numel = 1024 * n) :
    pa (F := F) b c 0 n = iprop(∃ f, (c : Thread nD τ).loc b ↦{fullShare} f) := by
  unfold pa; rw [band_whole b h]

/-! ## The semaphores -/

/-- The kinds that live as long as the kernel, and how many of each. -/
abbrev lenD : Kd → ℕ
  | .bar => 0 | k => len k
abbrev Kown := (k : Kd) × Fin (lenD k)
theorem lenD_le (k : Kd) : lenD k ≤ len k := by cases k <;> decide
def osem (x : Kown) : SemLoc sig := sem ⟨x.1, Fin.castLE (lenD_le x.1) x.2⟩

set_option maxRecDepth 10000 in
theorem ownSemFacts : Pipeline.OwnSemFacts cfg0.spec osem :=
  ⟨by decide +kernel, by decide +kernel, fun _ w => w.elim0⟩

theorem unscoped_eq (c : Dev nD) : (unscopedSems0 c : sProp 𝕄) = semVal (cell c ⟨.bar, 0⟩) 0 := by
  unfold unscopedSems0; rw [bigSep_eq_bigSepL_of_eq [SemLoc.reg barS] (by decide +kernel) (by decide)]; rfl

/-- The kernel's own semaphores and the runtime's one are all of them. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun x : Kx => semVal (cell c x) 0 : sProp 𝕄) := by
  rw [unscoped_eq]
  unfold Pipeline.ownSems0
  rw [Pipeline.bigSep_univ_sigma, Pipeline.bigSep_univ_sigma, BI.bigSep_univ_at _ Kd.bar, BI.bigSep_univ_at (fun k : Kd => bigSep Finset.univ fun b : Fin (len k) => semVal (cell c ⟨k, b⟩) 0) Kd.bar]
  rw [BI.bigSep_congr (Ψ := fun k : Kd => (bigSep Finset.univ fun b : Fin (len k) => semVal (cell c ⟨k, b⟩) 0 : sProp 𝕄)) (s := Finset.univ.erase Kd.bar) fun k hk => by
    cases k
    case bar => exact absurd rfl (Finset.mem_erase.mp hk).1
    all_goals rfl]
  have h1 : (bigSep Finset.univ fun b : Fin (len .bar) => (semVal (cell c ⟨.bar, b⟩) 0 : sProp 𝕄)) = semVal (cell c ⟨.bar, 0⟩) 0 :=
    bigSep_univ_eq_bigSepL [(0 : Fin 1)] (by decide) (by decide) _
  rw [h1]
  refine bi_eq ⟨show _ ⊢ _ from ?_, show _ ⊢ _ from ?_⟩
  · iintro H; icases H with ⟨⟨-, H1⟩, H2⟩
    iframe # ∗
  · iintro H; icases H with ⟨H1, H2⟩
    iframe # ∗
    rw [bigSep_univ_eq_bigSepL (I := Fin (lenD .bar)) [] (by decide) (by decide), bigSepL_nil]
    iempintro

/-! ## The counts dealt at launch -/

def kcell (p : Dev nD × Kx) : GSem nD τ sig := cell p.1 p.2
theorem kcell_inj : Function.Injective kcell := fun ⟨c, x⟩ ⟨c', x'⟩ h =>
  Prod.ext (congrArg (fun g : GSem nD τ sig => g.1.1) h) (sem_inj (congrArg Prod.snd h))
def tokOf (p : (Dev nD × Kx) × D) : GSem nD τ sig × ℕ × D := (kcell p.1, 0, p.2)
theorem tokOf_inj : Function.Injective tokOf := fun ⟨p, d⟩ ⟨p', d'⟩ h =>
  Prod.ext (kcell_inj (congrArg Prod.fst h)) (congrArg (fun y : GSem nD τ sig × ℕ × D => y.2.2) h)
def allCells : Finset (GSem nD τ sig) := Finset.univ.map ⟨kcell, kcell_inj⟩
def allToks : Finset (GSem nD τ sig × ℕ × D) := Finset.univ.map ⟨tokOf, tokOf_inj⟩

def u₀ : UU :=
  (initOf (Pipeline.cells cfgs cellOf_inj) (Pipeline.launchToks cfgs cellOf_inj), initOf allCells allToks)

def toks (c : Dev nD) (x : Kx) : sProp 𝕄 := iprop(tok c x 0 ∗ tok c x 1 ∗ tok c x 2)

/-- What the launch deals a device. -/
def dealt (c : Dev nD) : sProp 𝕄 :=
  iprop((bigSep Finset.univ fun x : Kx => roundState ER (rd m) (cell c x) 0)
    ∗ (bigSep Finset.univ fun x : Kx => reached ER (cell c x) 0) ∗ bigSep Finset.univ (at0 (F := F) c) ∗ bigSep Finset.univ (toks (F := F) c))

theorem fund_all : BI.own (ER (F := F) (initOf allCells allToks)) ⊢ (|==> bigSep Finset.univ (dealt m) : sProp 𝕄) := by
  have hX (Φ : GSem nD τ sig → sProp 𝕄) : bigSep allCells Φ = bigSep Finset.univ fun c : Dev nD => bigSep Finset.univ fun x : Kx => Φ (cell c x) := by
    unfold allCells; rw [bigSep_map, bigSep_univ_prod]; rfl
  have h3 : ∀ Φ : D → sProp 𝕄, bigSep Finset.univ Φ = iprop(Φ 0 ∗ Φ 1 ∗ Φ 2) := bigSep_univ_eq_bigSepL [(0 : Fin 3), 1, 2] (by decide) (by decide)
  have hT : bigSep allToks (fun y => (dutyTok ER y.1 y.2.1 y.2.2 : sProp 𝕄)) = bigSep Finset.univ fun c : Dev nD => bigSep Finset.univ (toks (F := F) c) := by
    unfold allToks; rw [bigSep_map, bigSep_univ_prod, bigSep_univ_prod]
    exact bigSep_congr fun c _ => bigSep_congr fun x _ => by rw [h3]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hr']; · iexact Hr'
  isplitl [Hat']; · unfold at0; iexact Hat'
  iexact Htok'

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : Kx => iprop(∃ κ : ℕ, cellInv ER (rd m) κ (cell c x)))
          ∗ (bigSep Finset.univ fun x : Kx => reached ER (cell c x) 0) ∗ bigSep Finset.univ (at0 (F := F) c) ∗ bigSep Finset.univ (toks (F := F) c)) := by
  unfold dealt
  iintro ⟨Hos, Hus, Hst, Hr, Hat, Htok⟩
  ihave Hv := (ent (sems0_eq (F := F) c)) $$ [Hos Hus]
  · isplitl [Hos] <;> iassumption
  imod (show iprop((bigSep Finset.univ fun x : Kx => semVal (cell c x) 0) ∗ bigSep Finset.univ fun x : Kx => roundState ER (rd m) (cell c x) 0)
      ⊢ (|={Set.univ}=> bigSep Finset.univ fun x : Kx => iprop(∃ κ : ℕ, cellInv ER (rd m) κ (cell c x)) : sProp 𝕄) from by
        rw [← bigSep_sep']
        exact (bigSep_mono fun x _ => (Rounds.body_intro ER (rd m) (cell c x)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- What everyone knows of the semaphores. -/
def known (κ : Dev nD × Kx → ℕ) : sProp 𝕄 :=
  bigSep Finset.univ fun p : Dev nD × Kx => iprop(cellInv ER (rd m) (κ p) (cell p.1 p.2) ∗ reached ER (cell p.1 p.2) 0)
instance (κ : Dev nD × Kx → ℕ) : BI.Persistent (known m κ) := by unfold known; infer_instance

/-- What a device then starts from. -/
def ready (c : Dev nD) : sProp 𝕄 := iprop(∃ κ, known m κ ∗ bigSep Finset.univ (at0 (F := F) c) ∗ bigSep Finset.univ (tokd (F := F) c))

theorem swap (Φ : Dev nD → Kx → sProp 𝕄) : (bigSep Finset.univ fun c => bigSep Finset.univ fun x => Φ c x) = bigSep Finset.univ fun x => bigSep Finset.univ fun c => Φ c x := by
  rw [← bigSep_univ_prod (fun p : Dev nD × Kx => Φ p.1 p.2), bigSep_univ_equiv (Equiv.prodComm Kx (Dev nD)) (fun p : Dev nD × Kx => Φ p.1 p.2)]
  exact bigSep_univ_prod (fun q : Kx × Dev nD => Φ q.2 q.1)

/-- The rights to pay, sent to the devices that pay. -/
theorem toks_around : (bigSep Finset.univ fun c : Dev nD => bigSep Finset.univ (toks (F := F) c) : sProp 𝕄) ⊢ bigSep Finset.univ fun c : Dev nD => bigSep Finset.univ (tokd (F := F) c) := by
  refine ((ent (swap (fun c x => toks (F := F) c x))).trans ?_).trans (ent' (swap (fun c x => tokd (F := F) c x)))
  refine bigSep_mono fun x _ => ?_
  unfold toks tokd
  rw [bigSep_sep', bigSep_sep', bigSep_sep', bigSep_sep', bigSep_univ_equiv (dst x.1) (fun c : Dev nD => (tok c x 0 : sProp 𝕄)),
    bigSep_univ_equiv pL (fun c : Dev nD => (tok c x 1 : sProp 𝕄)), bigSep_univ_equiv pR (fun c : Dev nD => (tok c x 2 : sProp 𝕄))]
  exact ent rfl

theorem regroup :
    (bigSep Finset.univ fun c : Dev nD => iprop((bigSep Finset.univ fun x : Kx => iprop(∃ κ : ℕ, cellInv ER (rd m) κ (cell c x)))
          ∗ (bigSep Finset.univ fun x : Kx => reached ER (cell c x) 0) ∗ bigSep Finset.univ (at0 (F := F) c) ∗ bigSep Finset.univ (toks (F := F) c)) : sProp 𝕄)
      ⊢ bigSep Finset.univ (ready m) := by
  rw [bigSep_sep', bigSep_sep', bigSep_sep', ← bigSep_univ_prod (fun p : Dev nD × Kx => iprop(∃ κ : ℕ, cellInv ER (rd m) κ (cell p.1 p.2))),
    ← bigSep_univ_prod (fun p : Dev nD × Kx => (reached ER (cell p.1 p.2) 0 : sProp 𝕄))]
  iintro ⟨HI, Hr, Hat, Htok⟩
  ihave HK := (BI.bigSep_exists_pi Finset.univ (fun (p : Dev nD × Kx) (κ : ℕ) => (cellInv ER (rd m) κ (cell p.1 p.2) : sProp 𝕄))) $$ HI
  icases HK with ⟨%κ, HI⟩
  ihave Htk := (toks_around (F := F)) $$ Htok
  ihave HC := (show iprop((bigSep Finset.univ fun p : Dev nD × Kx => (cellInv ER (rd m) (κ p) (cell p.1 p.2) : sProp 𝕄)) ∗ (bigSep Finset.univ fun p : Dev nD × Kx => (reached ER (cell p.1 p.2) 0 : sProp 𝕄))) ⊢ known m κ from
    ent (by unfold known; rw [bigSep_sep'])) $$ [HI Hr]
  · isplitl [HI] <;> iassumption
  have h : ∀ c : Dev nD, iprop(known m κ ∗ bigSep Finset.univ (at0 (F := F) c) ∗ bigSep Finset.univ (tokd (F := F) c)) ⊢ ready m c := fun c => by
    unfold ready; iintro H; iexists κ; iexact H
  have h' : iprop(known m κ ∗ bigSep Finset.univ fun c : Dev nD => iprop(bigSep Finset.univ (at0 (F := F) c) ∗ bigSep Finset.univ (tokd (F := F) c))) ⊢ bigSep Finset.univ (ready m) :=
    (sep_mono_left (BI.bigSep_of_persistent (Finset.univ : Finset (Dev nD)) (known m κ))).trans (by rw [← bigSep_sep']; exact bigSep_mono fun c _ => h c)
  iapply h'
  isplitl [HC]; · iexact HC
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

/-! ## The credits dealt at launch -/

theorem credit_add (A B : Dev nD → CellTallies nD τ sig Unit) (c : Dev nD) :
    (Pipeline.launchCred (fun d => A d + B d) c : sProp 𝕄) = iprop(Pipeline.launchCred A c ∗ Pipeline.launchCred B c) :=
  Pipeline.launchCred_add A B c

theorem credit_one (f : Equiv.Perm (Dev nD)) (x : Kx) (n : ℕ) (c : Dev nD) :
    (Pipeline.launchCred (fun d => tallyAt (cell (f d) x) () n) c : sProp 𝕄) ⊢ cred (tallyAt (cell c x) () n) :=
  Pipeline.launchCred_tallyAt (sem x) f f.symm f.apply_symm_apply f.symm_apply_apply () n c

/-- The credits of a loop's dues. -/
theorem credit_loop {I : Type} (g : Dev nD → I → CellTallies nD τ sig Unit) (R : Dev nD → CellTallies nD τ sig Unit) (c : Dev nD) (A : I → sProp 𝕄)
    (h : ∀ i, (Pipeline.launchCred (fun d => g d i) c : sProp 𝕄) ⊢ A i) : ∀ l : List I,
    (Pipeline.launchCred (fun d => oweL (g d) l (R d)) c : sProp 𝕄) ⊢ iprop(bigSepL l A ∗ Pipeline.launchCred R c)
  | [] => by
    rw [bigSepL_nil]; iintro H
    isplitr; · iempintro
    iexact H
  | i :: l => by
    rw [bigSepL_cons']
    show (Pipeline.launchCred (fun d => oweL (g d) l (R d) + g d i) c : sProp 𝕄) ⊢ _
    rw [credit_add]
    iintro ⟨H1, H2⟩
    ihave H1 := (credit_loop g R c A h l) $$ H1
    icases H1 with ⟨H1, H3⟩
    ihave H2 := (h i) $$ H2
    iframe # ∗

theorem credit_all (c : Dev nD) : (Pipeline.launchCred O₀ c : sProp 𝕄) ⊢ creds c := by
  unfold O₀ Oq O1 O2 O3 O4 creds
  rw [credit_add, credit_add, credit_add]
  iintro ⟨⟨⟨H, Br⟩, Bl⟩, Bp⟩
  ihave H := (credit_loop gxq _ c (fun j => cr c ⟨.xqR, j⟩) (fun j => credit_one pP ⟨.xqR, j⟩ _ c) l16) $$ H
  icases H with ⟨C1, H⟩
  ihave H := (credit_loop gxd _ c (fun j => cr c ⟨.xdR, j⟩) (fun j => credit_one pP ⟨.xdR, j⟩ _ c) l4) $$ H
  icases H with ⟨C2, H⟩
  ihave H := (credit_loop g1 _ c (fun j => iprop(cr c ⟨.ccwR, j⟩ ∗ cr c ⟨.cwR, j⟩)) (fun j => by
    unfold g1; rw [credit_add]; exact BI.sep_mono (credit_one pL ⟨.ccwR, j⟩ _ c) (credit_one pR ⟨.cwR, j⟩ _ c)) l16) $$ H
  icases H with ⟨C3, H⟩
  ihave C3 := (ent (zip _ _ l16)) $$ C3
  icases C3 with ⟨C3, C4⟩
  ihave H := (credit_loop gc2 _ c (fun j => cr c ⟨.c2R, j⟩) (fun j => credit_one pR ⟨.c2R, j⟩ _ c) l6) $$ H
  icases H with ⟨C5, H⟩
  ihave H := (credit_loop gd2 (fun _ => 0) c (fun j => cr c ⟨.d2R, j⟩) (fun j => credit_one pL ⟨.d2R, j⟩ _ c) l6) $$ H
  icases H with ⟨C6, -⟩
  unfold gb
  have hr : (Pipeline.launchCred (fun d => tallyAt (cell (right d) ⟨.bar, 0⟩) () 1) c : sProp 𝕄) ⊢ cred (tallyAt (cell c ⟨.bar, 0⟩) () 1) := credit_one pR ⟨.bar, 0⟩ 1 c
  have hl : (Pipeline.launchCred (fun d => tallyAt (cell (left d) ⟨.bar, 0⟩) () 1) c : sProp 𝕄) ⊢ cred (tallyAt (cell c ⟨.bar, 0⟩) () 1) := credit_one pL ⟨.bar, 0⟩ 1 c
  have hp : (Pipeline.launchCred (fun d => tallyAt (cell (partner d) ⟨.bar, 0⟩) () 1) c : sProp 𝕄) ⊢ cred (tallyAt (cell c ⟨.bar, 0⟩) () 1) := credit_one pP ⟨.bar, 0⟩ 1 c
  ihave Br := hr $$ Br
  ihave Bl := hl $$ Bl
  ihave Bp := hp $$ Bp
  have e : (cred (tallyAt (cell c ⟨.bar, 0⟩) () 3) : sProp 𝕄) = iprop(cred (tallyAt (cell c ⟨.bar, 0⟩) () 1) ∗ cred (tallyAt (cell c ⟨.bar, 0⟩) () 1) ∗ cred (tallyAt (cell c ⟨.bar, 0⟩) () 1)) := by
    have et : (tallyAt (cell c ⟨.bar, 0⟩) () 3 : CellTallies nD τ sig Unit) = tallyAt (cell c ⟨.bar, 0⟩) () 1 + (tallyAt (cell c ⟨.bar, 0⟩) () 1 + tallyAt (cell c ⟨.bar, 0⟩) () 1) := by
      rw [tallyAt_add, tallyAt_add]
    rw [et, bi_eq (cred_add _ _), bi_eq (cred_add _ _)]
  rw [e]
  iframe # ∗

/-! ## The kernel's one point -/

/-- What the kernel starts from and what it leaves. -/
def Φ₀ (c : Dev nD) : sProp 𝕄 := iprop((∃ κ, Ctx m κ) ∗ bigSep Finset.univ (at0 (F := F) c) ∗ bigSep Finset.univ (tokd (F := F) c) ∗ creds c ∗ mem0 m c)
@[inherit_doc Φ₀] def Φ₁ (c : Dev nD) : sProp 𝕄 := iprop((bigSep Finset.univ fun x : Kx => semVal (cell c x) 0) ∗ mem1 m c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := w.elim0

theorem no_windows (Φ : Fin cfg0.W → sProp 𝕄) : bigSep Finset.univ Φ = iprop(emp) := bigSep_univ_eq_bigSepL (I := Fin 0) [] (by decide) (by decide) Φ

theorem after_update {c : Dev nD} {p : Pg F} {Q : PUnit → sProp 𝕄} : WP c p (fun a => iprop(|={Set.univ}=> Q a)) ⊢ WP c p Q := wp_fupd _ _ _ p Q

theorem point (c : Dev nD) : iprop(Φ₀ m c ∗ owesE c (O₀ c)) ⊢ WP c (bodyAt0 (F := F) t0_0) (fun _ => iprop(Φ₁ m c ∗ owesE c 0)) := by
  rw [body_eq_loops]
  refine (show iprop(Φ₀ m c ∗ owesE c (O₀ c)) ⊢ WP c (Prog.lift .deviceId >>= fun c => loops (printedDests c) c) (fun _ => iprop(|={Set.univ}=> (Φ₁ m c ∗ owesE c 0))) from ?_).trans after_update
  unfold Φ₀ Φ₁
  iintro ⟨⟨⟨%κ, #HC⟩, HA, HT, Hcr, Hm⟩, HO⟩
  unfold WP
  simp only [Prog.lift, Prog.bind_op, Prog.bind_ret, wp_deviceId]
  rw [printedDests_eq]
  iapply (wand c (loops (dests c) c) (fun _ => iprop(owesE c 0 ∗ bigSep Finset.univ (at1 (F := F) c) ∗ mem1 m c)) _)
  isplitl [HA HT Hcr Hm HO]
  · iapply (whole (m := m) (κ := κ) c)
    iframe # ∗
  iintro %u ⟨HO, HA, Hm⟩
  imod (close_all (m := m) (κ := κ) c) $$ [HA] with HS
  · isplitr; · iexact HC
    iexact HA
  imodintro
  iframe # ∗

theorem body_obligation (c : Dev nD) : BodyObligation (dats (F := F) m 0 c) (defs₀ (F := F)) 𝒱₀ () Set.univ := fun t => by
  rw [show t = t0_0 from fin_N0 t]
  rw [no_windows, no_windows]
  have hb : defs₀ (F := F) .tc cfg0.body (cfg0.bodyArgs t0_0 (cfg0.slots t0_0)) = bodyAt0 (F := F) t0_0 := rfl
  rw [hb]
  have h := point m c
  unfold owesE at h
  unfold Dat.owesAt Pipeline.owesWithin
  rw [show (dats m 0 c).Φ (t0_0 : Fin cfg0.N).castSucc = Φ₀ m c from rfl, show (dats m 0 c).Φ (t0_0 : Fin cfg0.N).succ = Φ₁ m c from rfl,
    show (dats m 0 c).owed (t0_0 : Fin cfg0.N).castSucc = O₀ c from rfl, show (dats m 0 c).owed (t0_0 : Fin cfg0.N).succ = 0 from rfl]
  iintro ⟨HΦ, ⟨%W, -, HO⟩, -⟩
  iapply (wand c (bodyAt0 (F := F) t0_0) (fun _ => iprop(Φ₁ m c ∗ ∃ W, owes (c : Thread nD τ) 0 W)) _)
  isplitl [HΦ HO]
  · iapply h
    isplitl [HΦ]; · iexact HΦ
    iexists W; iexact HO
  iintro %u ⟨HΦ, ⟨%W', HO⟩⟩
  isplitl [HΦ]; · iexact HΦ
  isplitl [HO]
  · iexists W'
    isplitr; · ipureintro; exact fun _ _ => Or.inl trivial
    iexact HO
  iempintro

/-! ## The run -/

def start (c : Dev nD) : sProp 𝕄 :=
  iprop((∃ κ, Ctx m κ) ∗ bigSep Finset.univ (at0 (F := F) c) ∗ bigSep Finset.univ (tokd (F := F) c) ∗ creds c ∗ pt main_arg0 c fullShare 0 4096 (xv m c) ∗ pa main_v1 c 0 8192)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  rw [Pipeline.unscopedRestP_none, unscopedRest0_eq]
  unfold ready start
  rw [pt_whole main_arg0 c fullShare (n := 4096) (by decide), fill_xv, pa_whole main_v1 c (n := 8192) (by decide)]
  iintro ⟨⟨Harg, Hout⟩, Hlev, Hcr, -, ⟨%κ, HK, HA, HT⟩⟩
  ihave Hcr := (credit_all (F := F) c) $$ Hcr
  imodintro
  isplitl
  · isplitl [HK Hlev]
    · iexists κ
      unfold Ctx known
      isplitl [HK] <;> iassumption
    isplitl [HA]; · iexact HA
    isplitl [HT]; · iexact HT
    isplitl [Hcr]; · iexact Hcr
    isplitl [Harg]; · iexact Harg
    iexists _; iexact Hout
  · iempintro

theorem scratch_eq (c : Dev nD) : (Pipeline.scopedRest (Ix := Unit) (Name := ℕ) (U := UU) (Lvl := ℕ) (Val := Elt F) (cfg0.spec) c : sProp 𝕄)
    = iprop(pa cc0_scratch0 c 0 4096 ∗ pa cc0_scratch1 c 0 1024 ∗ pa cc0_scratch2 c 0 1024 ∗ pa cc0_scratch3 c 0 1024 ∗ pa cc0_scratch4 c 0 2048) := by
  rw [scopedRest0_eq, pa_whole cc0_scratch0 c (n := 4096) (by decide), pa_whole cc0_scratch1 c (n := 1024) (by decide), pa_whole cc0_scratch2 c (n := 1024) (by decide), pa_whole cc0_scratch3 c (n := 1024) (by decide), pa_whole cc0_scratch4 c (n := 2048) (by decide)]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀ start mem0
  iintro ⟨⟨HC, HA, HT, Hcr, Ha, Ho⟩, -, H0, H1, H2, H3, H4⟩
  iframe # ∗

/-- What a device's memory is read from at the end. -/
def endOf (c : Dev nD) : sProp 𝕄 := iprop(unscopedSems0 c ∗ pt main_arg0 c fullShare 0 4096 (xv m c) ∗ pt main_v1 c fullShare 0 8192 (G m c))

theorem phi1_exit (c : Dev nD) :
    (dats m 0 c).Φ (Fin.last cfg0.N) ⊢ iprop(endOf m c ∗ Pipeline.ownSems0 osem c ∗ Pipeline.scopedRest cfg0.spec c) := by
  rw [show (dats m 0 c).Φ (Fin.last cfg0.N) = Φ₁ m c from rfl, scratch_eq]
  unfold Φ₁ mem1 endOf
  rw [← sems0_eq]
  iintro ⟨⟨Hs, Hu⟩, Ha, Ho, H0, H1, H2, H3, H4⟩
  iframe # ∗

theorem waits (c : Dev nD) : (levAts L lv : sProp 𝕄) ⊢ Pipeline.cellsWaits cfgs (dats m) () 0 c :=
  Pipeline.cellsWaits_intro cfgs (dats m) () 0 c fun w s t => w.elim0

/-- What the run leaves on a device. -/
def QY (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0) ∧ s.mem ((c : Thread nD τ).loc main_v1) = fill main_v1 (G m c)

theorem end_read (c : Dev nD) (s' : Phys nD τ sig (Elt F)) : iprop(endOf m c ∗ emp ∗ SI s') ⊢ |={Set.univ}=> iprop(⌜QY m c s'.mem⌝ ∗ SI s') := by
  unfold endOf
  rw [pt_whole main_arg0 c fullShare (n := 4096) (by decide), fill_xv, pt_whole main_v1 c fullShare (n := 8192) (by decide)]
  iintro ⟨⟨Hu, Ha, Ho⟩, -, HSI⟩
  icombine HSI Ha gives %ha
  icombine HSI Ho gives %ho
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ ha, Buf.eq_of_forall_mem_univ ho⟩
  iexact HSI

set_option maxRecDepth 8000 in
/-- From any memory with zero counters every weakly fair execution of the 32 devices ends, with every device's result at `G`, its argument as it was, and every counter zero. -/
theorem run_main : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_v1) = fill main_v1 (G m c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := endOf m) (Z := fun _ => iprop(emp))
    (hX := start_intro m ρ) (hin := phi0_intro m) (hout := phi1_exit m)
    (QY := QY m) (hY := end_read m)
    (hQ := fun _ h hs => ⟨fun c => (h c).2.2.2, sem_eq_zero hs fun c => (h c).2.2.1⟩)

end Cert.KernelIdealRun

end
-- ==== Proof.Equation.lean ====
module

public import proofs.«01_k».proof.Proof.IdealRun
public import proofs.«01_k».proof.Proof.Gen.ReferenceIdeal.Run
public import Idealize.ShloMosaic.Lib.Layout

@[expose] public section

noncomputable section

namespace Cert.KernelIdealRun

open Cert.KernelIdeal Cert.KernelIdeal.Gen
open Idealize.ShloMosaic
open Idealize.ShloMosaic.TcCoe
open Idealize.SL Idealize.SL.Sem

variable {F : FTy → Type} [FloatOps F]

/-! # The result is the reference's

Row `r` of every device's result comes from a device whose part of the argument is block `r / 4096` of the whole array,
at row `r % 4096` of that part: it is row `r` of the whole array, converted. -/

/-- The device a row of the result comes from holds the block of the argument that row lies in. -/
theorem hx_src (c : Dev nD) {r : ℕ} (hr : r < 8192) : hx (src c r) = r / 4096 := by
  have h1 := hx_lt c
  unfold src
  split_ifs with h
  · exact h.symm
  all_goals simp only [hx_partner, hx_left, hx_right]; omega

/-- The block of the argument device `c` holds is the one its first coordinate names. -/
theorem meshBlock_rows (c : Dev nD) : ((Layout.meshBlock [2, 4, 4] ![[0], []] c) 0).val = hx c := by
  revert c; decide +kernel

/-- And it holds all the columns. -/
theorem meshBlock_cols (c : Dev nD) : ((Layout.meshBlock [2, 4, 4] ![[0], []] c) 1).val = 0 := by
  revert c; decide +kernel

/-- The position `t` of an element of the whole array, at row `a` and column `b`, against its place `(x, y)` in the block
`h` its row lies in. -/
theorem place {a b x y h t : ℕ} (ht : t = a * 1024 + b) (ha : a < 8192) (hb : b < 1024) (hy : y < 1024)
    (hh : h = t / 1024 / 4096) (hx : x * 1024 + y = t % 4194304) : h * 4096 + x = a ∧ 0 * 1024 + y = b := by
  omega

/-- The row of a position lies in the array. -/
theorem row_lt {a b t : ℕ} (ht : t = a * 1024 + b) (ha : a < 8192) (hb : b < 1024) : t / 1024 < 8192 := by omega

variable (m : (ℓ : Loc nD τ sig) → Buf (Elt F) ℓ)

/-- When every device holds its block of `v`, every device's result is `v`, converted. -/
theorem result_eq (v : (⟨S8192x1024, .f32⟩ : BufTy).Contents (Elt F))
    (hm : ∀ c : Dev nD, m ((c : Thread nD τ).loc main_arg0)
      = Layout.blockN ⟨2, ![4096, 1024]⟩ ⟨2, ![8192, 1024]⟩ (Layout.meshBlock [2, 4, 4] ![[0], []] c) v) (c : Dev nD) :
    fill main_v1 (G m c) = fun i => FloatOps.truncf (F := F) .bf16 bitsLt_bf16_f32 (v i) := by
  funext i
  unfold fill G cv xv
  rw [hm, Layout.blockN_apply]
  congr 2
  have hi : fl main_v1 i = (i 0).val * 1024 + (i 1).val := Shape.rowMajor_val_two i
  have h0 : (i 0).val < 8192 := (i 0).isLt
  have h1 : (i 1).val < 1024 := (i 1).isLt
  have hs := hx_src c (r := fl main_v1 i / 1024) (row_lt hi h0 h1)
  generalize src c (fl main_v1 i / 1024) = d at hs
  generalize hj : S4096x1024.rowMajor.symm _ = j
  have hj' : (j 0).val * 1024 + (j 1).val = fl main_v1 i % 4194304 := by
    refine (Shape.rowMajor_val_two j).symm.trans ?_
    rw [← hj]
    refine (congrArg Fin.val (Equiv.apply_symm_apply S4096x1024.rowMajor _)).trans ?_
    exact Nat.mod_eq_of_lt (by rw [show S4096x1024.numel = 4194304 from numel_two 4096 1024]; exact Nat.mod_lt _ (by omega))
  have j1 : (j 1).val < 1024 := (j 1).isLt
  obtain ⟨e2, e3⟩ := place hi h0 h1 j1 hs hj'
  refine funext (Fin.forall_fin_two.2 ⟨Fin.ext ?_, Fin.ext ?_⟩)
  · rw [Layout.TilesN.idx_val]
    rw [← meshBlock_rows d] at e2
    exact e2
  · rw [Layout.TilesN.idx_val]
    rw [← meshBlock_cols d] at e3
    exact e3

end Cert.KernelIdealRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, keeps its argument and leaves the machine quiet. -/
theorem quiet_kernel : quiescent_Kernel := fun m g _ =>
  (θ_run _ _ _).mono (fun _ h => ⟨fun c => (h.1 c).1, h.2⟩) (KernelRun.run_main m g)

/-- So does the program read at the ideal instance. -/
theorem quiet_ideal : quiescent_KernelIdeal := fun m g _ =>
  (θ_run _ _ _).mono (fun _ h => ⟨fun c => (h.1 c).1, h.2⟩) (KernelIdealRun.run_main m g)

/-- So does the reference, which declares no semaphore. -/
theorem quiet_reference : quiescent_ReferenceIdeal := fun m g _ =>
  (θ_run _ _ _).mono (fun r h => ⟨fun c => (h c).2, sem_eq_zero_of_no_sems (by decide) r.2⟩) (ReferenceIdeal.Value.run m g)

/-- Every device's result is the reference's. -/
theorem value : algebraic_KernelIdeal_ReferenceIdeal := by
  intro m g m' g' _ hm
  refine ⟨truncf (F := Idealize.ShloMosaic.Ideal) (s := ReferenceIdeal.S8192x1024) (φ := .f32) .bf16 (m' (((0 : Dev ReferenceIdeal.nD).tc : Thread ReferenceIdeal.nD ReferenceIdeal.τ).loc ReferenceIdeal.main_arg0))
    ReferenceIdeal.Gen.bitsLt_bf16_f32, ?_, ?_⟩
  · refine (θ_run _ _ _).mono (fun r h c => ⟨(h.1 c).2.trans ?_, (h.1 c).1⟩) (KernelIdealRun.run_main m g)
    exact KernelIdealRun.result_eq m _ hm c
  · exact (θ_run _ _ _).mono (fun r h => h 0) (ReferenceIdeal.Value.run m' g')

/-- All the claims. -/
theorem claim : Cert.Claim := ⟨Cert.Kernel.Gen.facts, Cert.KernelIdeal.Gen.facts, Cert.ReferenceIdeal.Gen.facts,
  quiet_kernel, quiet_ideal, quiet_reference, trivial, value⟩

end Cert.Proof

end
